-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range2 : Cert.Pre_in_range2.Facts] (m : (ℓ : Loc Cert.Kernel2.nD Cert.Kernel2.τ Cert.Kernel2.sig) → Buf (Elt Bits) ℓ) : Prop :=
  ∀ c : Dev Cert.Kernel2.nD,
    (Cert.Pre_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_in_range2 : Cert.Pre_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_in_range2 : Cert.Pre_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_in_range3 : Cert.Pre_in_range3.Facts] (m : (ℓ : Loc Cert.Kernel3.nD Cert.Kernel3.τ Cert.Kernel3.sig) → Buf (Elt Bits) ℓ) : Prop :=
  ∀ c : Dev Cert.Kernel3.nD,
    (Cert.Pre_in_range3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_in_range3 : Cert.Pre_in_range3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal [hPre_in_range3 : Cert.Pre_in_range3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 [hPre_in_range4 : Cert.Pre_in_range4.Facts] (m : (ℓ : Loc Cert.Kernel4.nD Cert.Kernel4.τ Cert.Kernel4.sig) → Buf (Elt Bits) ℓ) : Prop :=
  ∀ c : Dev Cert.Kernel4.nD,
    (Cert.Pre_in_range4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_in_range4 : Cert.Pre_in_range4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal [hPre_in_range4 : Cert.Pre_in_range4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 [hPre_in_range5 : Cert.Pre_in_range5.Facts] (m : (ℓ : Loc Cert.Kernel5.nD Cert.Kernel5.τ Cert.Kernel5.sig) → Buf (Elt Bits) ℓ) : Prop :=
  ∀ c : Dev Cert.Kernel5.nD,
    (Cert.Pre_in_range5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2))) = (fun _ => 1#1)

def Pre_Kernel5Ideal [hPre_in_range5 : Cert.Pre_in_range5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal [hPre_in_range5 : Cert.Pre_in_range5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_range5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range2 : Cert.Pre_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_in_range2 : Cert.Pre_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_in_range2 : Cert.Pre_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_in_range3 : Cert.Pre_in_range3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_in_range3 : Cert.Pre_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] [hPre_in_range3 : Cert.Pre_in_range3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_in_range4 : Cert.Pre_in_range4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_in_range4 : Cert.Pre_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_in_range4 : Cert.Pre_in_range4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_in_range5 : Cert.Pre_in_range5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] [hPre_in_range5 : Cert.Pre_in_range5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] [hPre_in_range5 : Cert.Pre_in_range5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "masked" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_in_range2 : Cert.Pre_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_in_range3 : Cert.Pre_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] [hPre_in_range4 : Cert.Pre_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] [hPre_in_range5 : Cert.Pre_in_range5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_range2 : Cert.Pre_in_range2.Facts) (hPre_in_range3 : Cert.Pre_in_range3.Facts) (hPre_in_range4 : Cert.Pre_in_range4.Facts) (hPre_in_range5 : Cert.Pre_in_range5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range2 := hPre_in_range2)
    ∧ quiescent_Kernel2Ideal (hKernel2Ideal := hKernel2Ideal) (hPre_in_range2 := hPre_in_range2)
    ∧ quiescent_Reference2Ideal (hReference2Ideal := hReference2Ideal) (hPre_in_range2 := hPre_in_range2)
    ∧ quiescent_Kernel3 (hKernel3 := hKernel3) (hPre_in_range3 := hPre_in_range3)
    ∧ quiescent_Kernel3Ideal (hKernel3Ideal := hKernel3Ideal) (hPre_in_range3 := hPre_in_range3)
    ∧ quiescent_Reference3Ideal (hReference3Ideal := hReference3Ideal) (hPre_in_range3 := hPre_in_range3)
    ∧ quiescent_Kernel4 (hKernel4 := hKernel4) (hPre_in_range4 := hPre_in_range4)
    ∧ quiescent_Kernel4Ideal (hKernel4Ideal := hKernel4Ideal) (hPre_in_range4 := hPre_in_range4)
    ∧ quiescent_Reference4Ideal (hReference4Ideal := hReference4Ideal) (hPre_in_range4 := hPre_in_range4)
    ∧ quiescent_Kernel5 (hKernel5 := hKernel5) (hPre_in_range5 := hPre_in_range5)
    ∧ quiescent_Kernel5Ideal (hKernel5Ideal := hKernel5Ideal) (hPre_in_range5 := hPre_in_range5)
    ∧ quiescent_Reference5Ideal (hReference5Ideal := hReference5Ideal) (hPre_in_range5 := hPre_in_range5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_in_range2 := hPre_in_range2)
    ∧ preserves_Kernel3_Kernel3Ideal
    ∧ algebraic_Kernel3Ideal_Reference3Ideal (hKernel3Ideal := hKernel3Ideal) (hReference3Ideal := hReference3Ideal) (hPre_in_range3 := hPre_in_range3)
    ∧ preserves_Kernel4_Kernel4Ideal
    ∧ algebraic_Kernel4Ideal_Reference4Ideal (hKernel4Ideal := hKernel4Ideal) (hReference4Ideal := hReference4Ideal) (hPre_in_range4 := hPre_in_range4)
    ∧ preserves_Kernel5_Kernel5Ideal
    ∧ algebraic_Kernel5Ideal_Reference5Ideal (hKernel5Ideal := hKernel5Ideal) (hReference5Ideal := hReference5Ideal) (hPre_in_range5 := hPre_in_range5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_in_range2.lean ====
abbrev S20992x2048 : Shape := ⟨2, ![20992, 2048]⟩
abbrev S16x2048x7168 : Shape := ⟨3, ![16, 2048, 7168]⟩
abbrev S41 : Shape := ⟨1, ![41]⟩
abbrev S1 : Shape := ⟨1, ![1]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)
  bcast_S1_S41_0 : S1.BroadcastsInDim S41 (![0] : Fin 1 → Fin S41.rank)

variable [Facts]

def fn {F : FTy → Type} [FloatOps F] (main_arg0 : FVec F S20992x2048 .bf16) (main_arg1 : FVec F S16x2048x7168 .f32) (main_arg2 : FVec F S16x2048x7168 .f32) (main_arg3 : IVec S41 32) (main_arg4 : IVec S1 32) : IVec S41 1 :=
  let main_c : IVec S_ 32 := constantI S_ 32 0#32
  let main_v0 : IVec S41 32 := broadcastInDim S41 ![] bcast_S_S41 main_c
  let main_v1 : IVec S41 1 := cmpi .sge main_arg3 main_v0
  let main_c_0 : IVec S_ 32 := constantI S_ 32 16#32
  let main_v2 : IVec S41 32 := broadcastInDim S41 ![] bcast_S_S41 main_c_0
  let main_v3 : IVec S41 1 := cmpi .slt main_arg3 main_v2
  let main_v4 : IVec S41 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  let main_v7 : IVec S41 1 := broadcastInDim S41 ![0] bcast_S1_S41_0 main_v6
  let main_v8 : IVec S41 1 := andi main_v4 main_v7
  let main_c_2 : IVec S_ 32 := constantI S_ 32 41#32
  let main_v9 : IVec S1 32 := broadcastInDim S1 ![] bcast_S_S1 main_c_2
  let main_v10 : IVec S1 1 := cmpi .sle main_arg4 main_v9
  let main_v11 : IVec S41 1 := broadcastInDim S41 ![0] bcast_S1_S41_0 main_v10
  let main_v12 : IVec S41 1 := andi main_v8 main_v11
  main_v12
-- ==== Pre_in_range3.lean ====
abbrev S20992x7168 : Shape := ⟨2, ![20992, 7168]⟩
abbrev S16x7168x2048 : Shape := ⟨3, ![16, 7168, 2048]⟩
abbrev S41 : Shape := ⟨1, ![41]⟩
abbrev S1 : Shape := ⟨1, ![1]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)
  bcast_S1_S41_0 : S1.BroadcastsInDim S41 (![0] : Fin 1 → Fin S41.rank)

variable [Facts]

def fn {F : FTy → Type} [FloatOps F] (main_arg0 : FVec F S20992x7168 .bf16) (main_arg1 : FVec F S16x7168x2048 .f32) (main_arg2 : IVec S41 32) (main_arg3 : IVec S1 32) : IVec S41 1 :=
  let main_c : IVec S_ 32 := constantI S_ 32 0#32
  let main_v0 : IVec S41 32 := broadcastInDim S41 ![] bcast_S_S41 main_c
  let main_v1 : IVec S41 1 := cmpi .sge main_arg2 main_v0
  let main_c_0 : IVec S_ 32 := constantI S_ 32 16#32
  let main_v2 : IVec S41 32 := broadcastInDim S41 ![] bcast_S_S41 main_c_0
  let main_v3 : IVec S41 1 := cmpi .slt main_arg2 main_v2
  let main_v4 : IVec S41 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_v7 : IVec S41 1 := broadcastInDim S41 ![0] bcast_S1_S41_0 main_v6
  let main_v8 : IVec S41 1 := andi main_v4 main_v7
  let main_c_2 : IVec S_ 32 := constantI S_ 32 41#32
  let main_v9 : IVec S1 32 := broadcastInDim S1 ![] bcast_S_S1 main_c_2
  let main_v10 : IVec S1 1 := cmpi .sle main_arg3 main_v9
  let main_v11 : IVec S41 1 := broadcastInDim S41 ![0] bcast_S1_S41_0 main_v10
  let main_v12 : IVec S41 1 := andi main_v8 main_v11
  main_v12
-- ==== Pre_in_range4.lean ====
abbrev S8448x2048 : Shape := ⟨2, ![8448, 2048]⟩
abbrev S2x2048x5632 : Shape := ⟨3, ![2, 2048, 5632]⟩
abbrev S_ : Shape := ⟨0, ![]⟩

class Facts : Prop where

variable [Facts]

def fn {F : FTy → Type} [FloatOps F] (main_arg0 : FVec F S8448x2048 .bf16) (main_arg1 : FVec F S2x2048x5632 .f32) (main_arg2 : FVec F S2x2048x5632 .f32) (main_arg3 : IVec S_ 32) : IVec S_ 1 :=
  let main_c : IVec S_ 32 := constantI S_ 32 0#32
  let main_v0 : IVec S_ 1 := cmpi .sge main_arg3 main_c
  let main_c_0 : IVec S_ 32 := constantI S_ 32 2#32
  let main_v1 : IVec S_ 1 := cmpi .slt main_arg3 main_c_0
  let main_v2 : IVec S_ 1 := andi main_v0 main_v1
  main_v2
-- ==== Pre_in_range5.lean ====
abbrev S8448x5632 : Shape := ⟨2, ![8448, 5632]⟩
abbrev S2x5632x2048 : Shape := ⟨3, ![2, 5632, 2048]⟩
abbrev S_ : Shape := ⟨0, ![]⟩

class Facts : Prop where

variable [Facts]

def fn {F : FTy → Type} [FloatOps F] (main_arg0 : FVec F S8448x5632 .bf16) (main_arg1 : FVec F S2x5632x2048 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 2#32
  let main_v1 : IVec S_ 1 := cmpi .slt main_arg2 main_c_0
  let main_v2 : IVec S_ 1 := andi main_v0 main_v1
  main_v2
-- ==== Kernel.lean ====
abbrev S8448x2048 : Shape := ⟨2, ![8448, 2048]⟩
abbrev S24 : Shape := ⟨1, ![24]⟩
abbrev S32x24 : Shape := ⟨2, ![32, 24]⟩
abbrev S384 : Shape := ⟨1, ![384]⟩
abbrev S384x1 : Shape := ⟨2, ![384, 1]⟩
abbrev S_ : Shape := ⟨0, ![]⟩
abbrev S384x24 : Shape := ⟨2, ![384, 24]⟩
abbrev S24x384 : Shape := ⟨2, ![24, 384]⟩
abbrev S1x24x1x384 : Shape := ⟨4, ![1, 24, 1, 384]⟩
abbrev S1x24x128x384 : Shape := ⟨4, ![1, 24, 128, 384]⟩
abbrev S24x49152 : Shape := ⟨2, ![24, 49152]⟩
abbrev S24x49024 : Shape := ⟨2, ![24, 49024]⟩
abbrev S24x128x383 : Shape := ⟨3, ![24, 128, 383]⟩
abbrev S24x128x256 : Shape := ⟨3, ![24, 128, 256]⟩
abbrev S8448x1536 : Shape := ⟨2, ![8448, 1536]⟩
abbrev S128x1536 : Shape := ⟨2, ![128, 1536]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 38
  | .vmem => 13
  | .smem => 1
  | _ => 0

abbrev bufTy : (tb : Table) → Fin (tcTables nBuf tb) → BufTy
  | .hbm, ⟨0, _⟩ => ⟨S8448x2048, .f32⟩
  | .hbm, ⟨1, _⟩ => ⟨S24, .f32⟩
  | .hbm, ⟨2, _⟩ => ⟨S32x24, .f32⟩
  | .hbm, ⟨3, _⟩ => ⟨S384, .i32⟩
  | .hbm, ⟨4, _⟩ => ⟨S384, .i1⟩
  | .hbm, ⟨5, _⟩ => ⟨S384, .i1⟩
  | .hbm, ⟨6, _⟩ => ⟨S384x1, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x24, .f32⟩
  | .hbm, ⟨12, _⟩ => ⟨S32x24, .f32⟩
  | .hbm, ⟨13, _⟩ => ⟨S_, .i32⟩
  | .hbm, ⟨14, _⟩ => ⟨S384, .i32⟩
  | .hbm, ⟨15, _⟩ => ⟨S384, .i32⟩
  | .hbm, ⟨16, _⟩ => ⟨S384, .i32⟩
  | .hbm, ⟨17, _⟩ => ⟨S384x1, .i32⟩
  | .hbm, ⟨18, _⟩ => ⟨S384x24, .f32⟩
  | .hbm, ⟨19, _⟩ => ⟨S_, .f32⟩
  | .hbm, ⟨20, _⟩ => ⟨S_, .f32⟩
  | .hbm, ⟨21, _⟩ => ⟨S384x24, .i1⟩
  | .hbm, ⟨22, _⟩ => ⟨S384x24, .f32⟩
  | .hbm, ⟨23, _⟩ => ⟨S384x24, .f32⟩
  | .hbm, ⟨24, _⟩ => ⟨S24x384, .f32⟩
  | .hbm, ⟨25, _⟩ => ⟨S1x24x1x384, .f32⟩
  | .hbm, ⟨26, _⟩ => ⟨S1x24x128x384, .f32⟩
  | .hbm, ⟨27, _⟩ => ⟨S24x49152, .f32⟩
  | .hbm, ⟨28, _⟩ => ⟨S24x49024, .f32⟩
  | .hbm, ⟨29, _⟩ => ⟨S24x128x383, .f32⟩
  | .hbm, ⟨30, _⟩ => ⟨S24x128x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S24, .f32⟩
  | .hbm, ⟨36, _⟩ => ⟨S24, .f32⟩
  | .hbm, ⟨37, _⟩ => ⟨S8448x1536, .bf16⟩
  | .local _ .vmem, ⟨0, _⟩ => ⟨S128x1536, .f32⟩
  | .local _ .vmem, ⟨1, _⟩ => ⟨S128x1536, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S24x128x256, .f32⟩
  | .local _ .vmem, ⟨11, _⟩ => ⟨S128x1536, .bf16⟩
  | .local _ .vmem, ⟨12, _⟩ => ⟨S128x1536, .bf16⟩
  | .local _ .smem, ⟨0, _⟩ => ⟨S24, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c16_i32 : BitVec 32 := 16#32
  let v1 : BitVec 32 := Scalar.muli v0 c16_i32
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c16_i32 : BitVec 32 := 16#32
  let v1 : BitVec 32 := Scalar.muli v0 c16_i32
  let c1_i32 : BitVec 32 := 1#32
  let v2 : BitVec 32 := Scalar.subi arg1 c1_i32
  let c0_i32 : BitVec 32 := 0#32
  let v3 : BitVec 32 := Scalar.maxsi v2 c0_i32
  let v4 : BitVec 32 := Scalar.addi v1 v3
  let c6_i32 : BitVec 32 := 6#32
  let c0_i32_0 : BitVec 32 := 0#32
  ![v4.toNat, c6_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c16_i32 : BitVec 32 := 16#32
  let v1 : BitVec 32 := Scalar.muli v0 c16_i32
  let v2 : BitVec 32 := Scalar.addi v1 arg1
  let c6_i32 : BitVec 32 := 6#32
  let c0_i32 : BitVec 32 := 0#32
  ![v2.toNat, c6_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c16_i32 : BitVec 32 := 16#32
  let v1 : BitVec 32 := Scalar.muli v0 c16_i32
  let c1_i32 : BitVec 32 := 1#32
  let v2 : BitVec 32 := Scalar.subi arg1 c1_i32
  let c0_i32 : BitVec 32 := 0#32
  let v3 : BitVec 32 := Scalar.maxsi v2 c0_i32
  let v4 : BitVec 32 := Scalar.addi v1 v3
  let c7_i32 : BitVec 32 := 7#32
  let c0_i32_0 : BitVec 32 := 0#32
  ![v4.toNat, c7_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c16_i32 : BitVec 32 := 16#32
  let v1 : BitVec 32 := Scalar.muli v0 c16_i32
  let v2 : BitVec 32 := Scalar.addi v1 arg1
  let c7_i32 : BitVec 32 := 7#32
  let c0_i32 : BitVec 32 := 0#32
  ![v2.toNat, c7_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c16_i32 : BitVec 32 := 16#32
  let v1 : BitVec 32 := Scalar.muli v0 c16_i32
  let v2 : BitVec 32 := Scalar.addi v1 arg1
  let c1_i32 : BitVec 32 := 1#32
  let v3 : BitVec 32 := Scalar.minsi v2 c1_i32
  let c4_i32_0 : BitVec 32 := 4#32
  let v4 : BitVec 1 := Scalar.cmpi .sge arg0 c4_i32_0
  let c64_i32 : BitVec 32 := 64#32
  let v5 : BitVec 32 := Scalar.addi c64_i32 v3
  let c16_i32_1 : BitVec 32 := 16#32
  let v6 : BitVec 32 := Scalar.muli arg0 c16_i32_1
  let v7 : BitVec 32 := Scalar.addi v6 arg1
  let v8 : BitVec 32 := Scalar.select v4 v5 v7
  let c0_i32 : BitVec 32 := 0#32
  let c0_i32_2 : BitVec 32 := 0#32
  ![v8.toNat, c0_i32.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S24x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "masked" => some ⊥
  | "qscale" => some ((8⁻¹ * (Real.log 2)⁻¹ : ℝ) : EReal)
  | _ => none
-- ==== ReferenceIdeal.lean ====
abbrev S8448x2048 : Shape := ⟨2, ![8448, 2048]⟩
abbrev S24 : Shape := ⟨1, ![24]⟩
abbrev S32x24 : Shape := ⟨2, ![32, 24]⟩
abbrev S8192x2048 : Shape := ⟨2, ![8192, 2048]⟩
abbrev S4x2048x2048 : Shape := ⟨3, ![4, 2048, 2048]⟩
abbrev S4x2048x1536 : Shape := ⟨3, ![4, 2048, 1536]⟩
abbrev S4x16x128x4x6x64 : Shape := ⟨6, ![4, 16, 128, 4, 6, 64]⟩
abbrev S4x2048x512 : Shape := ⟨3, ![4, 2048, 512]⟩
abbrev S4x2048x2x4x64 : Shape := ⟨5, ![4, 2048, 2, 4, 64]⟩
abbrev S4x2048x1x4x64 : Shape := ⟨5, ![4, 2048, 1, 4, 64]⟩
abbrev S4x2048x4x64 : Shape := ⟨4, ![4, 2048, 4, 64]⟩
abbrev S_ : Shape := ⟨0, ![]⟩
abbrev S4x2176x4x64 : Shape := ⟨4, ![4, 2176, 4, 64]⟩
abbrev S4x16x128x4x64 : Shape := ⟨5, ![4, 16, 128, 4, 64]⟩
abbrev S4x16x256x4x64 : Shape := ⟨5, ![4, 16, 256, 4, 64]⟩
abbrev S128x256 : Shape := ⟨2, ![128, 256]⟩
abbrev S128x256x1 : Shape := ⟨3, ![128, 256, 1]⟩
abbrev S128x256x24 : Shape := ⟨3, ![128, 256, 24]⟩
abbrev S24x128x256 : Shape := ⟨3, ![24, 128, 256]⟩
abbrev S4x6x128x256 : Shape := ⟨4, ![4, 6, 128, 256]⟩
abbrev S4x16x4x256x128x6 : Shape := ⟨6, ![4, 16, 4, 256, 128, 6]⟩
abbrev S4x16x4x6x128x256 : Shape := ⟨6, ![4, 16, 4, 6, 128, 256]⟩
abbrev S1x1x4x6x128x256 : Shape := ⟨6, ![1, 1, 4, 6, 128, 256]⟩
abbrev S16x128x256 : Shape := ⟨3, ![16, 128, 256]⟩
abbrev S1x128x256 : Shape := ⟨3, ![1, 128, 256]⟩
abbrev S16x1x1x128x256 : Shape := ⟨5, ![16, 1, 1, 128, 256]⟩
abbrev S4x6x1 : Shape := ⟨3, ![4, 6, 1]⟩
abbrev S4x16x4x6x128 : Shape := ⟨5, ![4, 16, 4, 6, 128]⟩
abbrev S1x1x4x6x1 : Shape := ⟨5, ![1, 1, 4, 6, 1]⟩
abbrev S4x16x4x6x128x1 : Shape := ⟨6, ![4, 16, 4, 6, 128, 1]⟩
abbrev S4x16x4x64x6x128 : Shape := ⟨6, ![4, 16, 4, 64, 6, 128]⟩
abbrev S4x16x128x4x6 : Shape := ⟨5, ![4, 16, 128, 4, 6]⟩
abbrev S4x16x128x4x6x1 : Shape := ⟨6, ![4, 16, 128, 4, 6, 1]⟩
abbrev S8192x1536 : Shape := ⟨2, ![8192, 1536]⟩
abbrev S256x1536 : Shape := ⟨2, ![256, 1536]⟩
abbrev S8448x1536 : Shape := ⟨2, ![8448, 1536]⟩

abbrev nBuf : Space → Nat
  | .hbm => 153
  | .vmem => 0
  | .smem => 0
  | _ => 0

abbrev hbmTy0_0 (i : Nat) : BufTy := match i % 128 with
  | 0 => ⟨S8448x2048, .f32⟩
  | 1 => ⟨S24, .f32⟩
  | 2 => ⟨S32x24, .f32⟩
  | 3 => ⟨S8192x2048, .f32⟩
  | 4 => ⟨S4x2048x2048, .f32⟩
  | 5 => ⟨S4x2048x1536, .f32⟩
  | 6 => ⟨S4x16x128x4x6x64, .f32⟩
  | 7 => ⟨S4x2048x512, .f32⟩
  | 8 => ⟨S4x2048x2x4x64, .f32⟩
  | 9 => ⟨S4x2048x1x4x64, .f32⟩
  | 10 => ⟨S4x2048x4x64, .f32⟩
  | 11 => ⟨S_, .i32⟩
  | 12 => ⟨S_, .f32⟩
  | 13 => ⟨S4x2176x4x64, .f32⟩
  | 14 => ⟨S4x2048x4x64, .f32⟩
  | 15 => ⟨S4x16x128x4x64, .f32⟩
  | 16 => ⟨S4x2048x4x64, .f32⟩
  | 17 => ⟨S4x16x128x4x64, .f32⟩
  | 18 => ⟨S4x16x256x4x64, .f32⟩
  | 19 => ⟨S4x2048x1x4x64, .f32⟩
  | 20 => ⟨S4x2048x4x64, .f32⟩
  | 21 => ⟨S_, .i32⟩
  | 22 => ⟨S_, .f32⟩
  | 23 => ⟨S4x2176x4x64, .f32⟩
  | 24 => ⟨S4x2048x4x64, .f32⟩
  | 25 => ⟨S4x16x128x4x64, .f32⟩
  | 26 => ⟨S4x2048x4x64, .f32⟩
  | 27 => ⟨S4x16x128x4x64, .f32⟩
  | 28 => ⟨S4x16x256x4x64, .f32⟩
  | 29 => ⟨S128x256, .i32⟩
  | 30 => ⟨S128x256, .i32⟩
  | 31 => ⟨S_, .i32⟩
  | 32 => ⟨S128x256, .i32⟩
  | 33 => ⟨S128x256, .i32⟩
  | 34 => ⟨S128x256, .i32⟩
  | 35 => ⟨S_, .i32⟩
  | 36 => ⟨S_, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i32⟩
  | 47 => ⟨S128x256, .i32⟩
  | 48 => ⟨S_, .i32⟩
  | 49 => ⟨S128x256, .i32⟩
  | 50 => ⟨S128x256, .i1⟩
  | 51 => ⟨S128x256, .i32⟩
  | 52 => ⟨S128x256, .i32⟩
  | 53 => ⟨S_, .i32⟩
  | 54 => ⟨S128x256, .i32⟩
  | 55 => ⟨S128x256, .i1⟩
  | 56 => ⟨S128x256, .i32⟩
  | 57 => ⟨S128x256, .i32⟩
  | 58 => ⟨S_, .i32⟩
  | 59 => ⟨S128x256, .i32⟩
  | 60 => ⟨S128x256, .i1⟩
  | 61 => ⟨S128x256, .i32⟩
  | 62 => ⟨S128x256, .i32⟩
  | 63 => ⟨S_, .i32⟩
  | 64 => ⟨S128x256, .i32⟩
  | 65 => ⟨S128x256, .i1⟩
  | 66 => ⟨S128x256, .i32⟩
  | 67 => ⟨S128x256, .i32⟩
  | 68 => ⟨S_, .i32⟩
  | 69 => ⟨S128x256, .i32⟩
  | 70 => ⟨S128x256, .i1⟩
  | 71 => ⟨S128x256, .i32⟩
  | 72 => ⟨S128x256, .i32⟩
  | 73 => ⟨S_, .i32⟩
  | 74 => ⟨S128x256, .i32⟩
  | 75 => ⟨S128x256, .i1⟩
  | 76 => ⟨S128x256, .i32⟩
  | 77 => ⟨S128x256, .i32⟩
  | 78 => ⟨S_, .i32⟩
  | 79 => ⟨S128x256, .i32⟩
  | 80 => ⟨S128x256, .i1⟩
  | 81 => ⟨S_, .i32⟩
  | 82 => ⟨S128x256, .i32⟩
  | 83 => ⟨S128x256, .i32⟩
  | 84 => ⟨S128x256, .i32⟩
  | 85 => ⟨S128x256x1, .i32⟩
  | 86 => ⟨S128x256x24, .f32⟩
  | 87 => ⟨S24x128x256, .f32⟩
  | 88 => ⟨S4x6x128x256, .f32⟩
  | 89 => ⟨S4x16x4x256x128x6, .f32⟩
  | 90 => ⟨S4x16x4x6x128x256, .f32⟩
  | 91 => ⟨S_, .f32⟩
  | 92 => ⟨S4x16x4x6x128x256, .f32⟩
  | 93 => ⟨S4x16x4x6x128x256, .f32⟩
  | 94 => ⟨S1x1x4x6x128x256, .f32⟩
  | 95 => ⟨S4x16x4x6x128x256, .f32⟩
  | 96 => ⟨S4x16x4x6x128x256, .f32⟩
  | 97 => ⟨S16x128x256, .i32⟩
  | 98 => ⟨S_, .i32⟩
  | 99 => ⟨S16x128x256, .i32⟩
  | 100 => ⟨S16x128x256, .i32⟩
  | 101 => ⟨S16x128x256, .i32⟩
  | 102 => ⟨S16x128x256, .i32⟩
  | 103 => ⟨S_, .i32⟩
  | 104 => ⟨S16x128x256, .i32⟩
  | 105 => ⟨S16x128x256, .i32⟩
  | 106 => ⟨S_, .i32⟩
  | 107 => ⟨S128x256, .i32⟩
  | 108 => ⟨S128x256, .i1⟩
  | 109 => ⟨S_, .i32⟩
  | 110 => ⟨S128x256, .i32⟩
  | 111 => ⟨S128x256, .i1⟩
  | 112 => ⟨S128x256, .i1⟩
  | 113 => ⟨S_, .i32⟩
  | 114 => ⟨S16x128x256, .i32⟩
  | 115 => ⟨S16x128x256, .i1⟩
  | 116 => ⟨S1x128x256, .i1⟩
  | 117 => ⟨S16x128x256, .i1⟩
  | 118 => ⟨S16x128x256, .i1⟩
  | 119 => ⟨S16x1x1x128x256, .i1⟩
  | 120 => ⟨S_, .f32⟩
  | 121 => ⟨S_, .f32⟩
  | 122 => ⟨S4x16x4x6x128x256, .i1⟩
  | 123 => ⟨S4x16x4x6x128x256, .f32⟩
  | 124 => ⟨S4x16x4x6x128x256, .f32⟩
  | 125 => ⟨S4x6x1, .f32⟩
  | 126 => ⟨S_, .f32⟩
  | 127 => ⟨S4x16x4x6x128, .f32⟩
  | _ => ⟨S8448x2048, .f32⟩

abbrev hbmTy0_1 (i : Nat) : BufTy := match i % 128 with
  | 0 => ⟨S1x1x4x6x1, .f32⟩
  | 1 => ⟨S4x16x4x6x128, .f32⟩
  | 2 => ⟨S4x16x4x6x128, .f32⟩
  | 3 => ⟨S4x16x4x6x128x1, .f32⟩
  | 4 => ⟨S4x16x4x6x128x256, .f32⟩
  | 5 => ⟨S4x16x4x6x128x256, .f32⟩
  | 6 => ⟨S4x16x4x6x128x256, .f32⟩
  | 7 => ⟨S_, .f32⟩
  | 8 => ⟨S4x16x4x6x128, .f32⟩
  | 9 => ⟨S1x1x4x6x1, .f32⟩
  | 10 => ⟨S4x16x4x6x128, .f32⟩
  | 11 => ⟨S4x16x4x6x128, .f32⟩
  | 12 => ⟨S4x16x4x6x128, .f32⟩
  | 13 => ⟨S4x16x4x6x128, .f32⟩
  | 14 => ⟨S4x16x4x64x6x128, .f32⟩
  | 15 => ⟨S4x16x128x4x6x64, .f32⟩
  | 16 => ⟨S4x16x128x4x6, .f32⟩
  | 17 => ⟨S4x16x128x4x6x1, .f32⟩
  | 18 => ⟨S4x16x128x4x6x64, .f32⟩
  | 19 => ⟨S4x16x128x4x6x64, .f32⟩
  | 20 => ⟨S8192x1536, .f32⟩
  | 21 => ⟨S_, .f32⟩
  | 22 => ⟨S256x1536, .f32⟩
  | 23 => ⟨S8448x1536, .f32⟩
  | 24 => ⟨S8448x1536, .bf16⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]
-- ==== Kernel2.lean ====
abbrev S20992x2048 : Shape := ⟨2, ![20992, 2048]⟩
abbrev S16x2048x7168 : Shape := ⟨3, ![16, 2048, 7168]⟩
abbrev S41 : Shape := ⟨1, ![41]⟩
abbrev S1 : Shape := ⟨1, ![1]⟩
abbrev S20992x7168 : Shape := ⟨2, ![20992, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S20992x2048, .bf16⟩
  | .hbm, ⟨1, _⟩ => ⟨S16x2048x7168, .f32⟩
  | .hbm, ⟨2, _⟩ => ⟨S16x2048x7168, .f32⟩
  | .hbm, ⟨3, _⟩ => ⟨S20992x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S41, .i32⟩
  | .local _ .smem, ⟨1, _⟩ => ⟨S1, .i32⟩
  | _, _ => ⟨S20992x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 41], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S20992x2048 : Shape := ⟨2, ![20992, 2048]⟩
abbrev S16x2048x7168 : Shape := ⟨3, ![16, 2048, 7168]⟩
abbrev S41 : Shape := ⟨1, ![41]⟩
abbrev S1 : Shape := ⟨1, ![1]⟩
abbrev S41x512x2048 : Shape := ⟨3, ![41, 512, 2048]⟩
abbrev S_ : Shape := ⟨0, ![]⟩
abbrev S41x1 : Shape := ⟨2, ![41, 1]⟩
abbrev S41x2048x7168 : Shape := ⟨3, ![41, 2048, 7168]⟩
abbrev S41x512x7168 : Shape := ⟨3, ![41, 512, 7168]⟩
abbrev S41x1x1 : Shape := ⟨3, ![41, 1, 1]⟩
abbrev S20992x7168 : Shape := ⟨2, ![20992, 7168]⟩

abbrev nBuf : Space → Nat
  | .hbm => 48
  | .vmem => 0
  | .smem => 0
  | _ => 0

abbrev bufTy : (tb : Table) → Fin (tcTables nBuf tb) → BufTy
  | .hbm, ⟨0, _⟩ => ⟨S20992x2048, .bf16⟩
  | .hbm, ⟨1, _⟩ => ⟨S16x2048x7168, .f32⟩
  | .hbm, ⟨2, _⟩ => ⟨S16x2048x7168, .f32⟩
  | .hbm, ⟨3, _⟩ => ⟨S41, .i32⟩
  | .hbm, ⟨4, _⟩ => ⟨S1, .i32⟩
  | .hbm, ⟨5, _⟩ => ⟨S41x512x2048, .bf16⟩
  | .hbm, ⟨6, _⟩ => ⟨S41x512x2048, .f32⟩
  | .hbm, ⟨7, _⟩ => ⟨S_, .i32⟩
  | .hbm, ⟨8, _⟩ => ⟨S41, .i32⟩
  | .hbm, ⟨9, _⟩ => ⟨S41, .i1⟩
  | .hbm, ⟨10, _⟩ => ⟨S_, .i32⟩
  | .hbm, ⟨11, _⟩ => ⟨S41, .i32⟩
  | .hbm, ⟨12, _⟩ => ⟨S41, .i32⟩
  | .hbm, ⟨13, _⟩ => ⟨S41, .i32⟩
  | .hbm, ⟨14, _⟩ => ⟨S41x1, .i32⟩
  | .hbm, ⟨15, _⟩ => ⟨S41x2048x7168, .f32⟩
  | .hbm, ⟨16, _⟩ => ⟨S41x512x7168, .f32⟩
  | .hbm, ⟨17, _⟩ => ⟨S_, .i32⟩
  | .hbm, ⟨18, _⟩ => ⟨S41, .i32⟩
  | .hbm, ⟨19, _⟩ => ⟨S41, .i1⟩
  | .hbm, ⟨20, _⟩ => ⟨S_, .i32⟩
  | .hbm, ⟨21, _⟩ => ⟨S41, .i32⟩
  | .hbm, ⟨22, _⟩ => ⟨S41, .i32⟩
  | .hbm, ⟨23, _⟩ => ⟨S41, .i32⟩
  | .hbm, ⟨24, _⟩ => ⟨S41x1, .i32⟩
  | .hbm, ⟨25, _⟩ => ⟨S41x2048x7168, .f32⟩
  | .hbm, ⟨26, _⟩ => ⟨S41x512x7168, .f32⟩
  | .hbm, ⟨27, _⟩ => ⟨S41, .i32⟩
  | .hbm, ⟨28, _⟩ => ⟨S41, .i32⟩
  | .hbm, ⟨29, _⟩ => ⟨S41, .i1⟩
  | .hbm, ⟨30, _⟩ => ⟨S41x1x1, .i1⟩
  | .hbm, ⟨31, _⟩ => ⟨S41x512x7168, .f32⟩
  | .hbm, ⟨32, _⟩ => ⟨S41x512x7168, .f32⟩
  | .hbm, ⟨33, _⟩ => ⟨S_, .f32⟩
  | .hbm, ⟨34, _⟩ => ⟨S41x512x7168, .f32⟩
  | .hbm, ⟨35, _⟩ => ⟨S41x512x7168, .f32⟩
  | .hbm, ⟨36, _⟩ => ⟨S_, .f32⟩
  | .hbm, ⟨37, _⟩ => ⟨S41x512x7168, .f32⟩
  | .hbm, ⟨38, _⟩ => ⟨S41x512x7168, .f32⟩
  | .hbm, ⟨39, _⟩ => ⟨S41x512x7168, .f32⟩
  | .hbm, ⟨40, _⟩ => ⟨S41x512x7168, .f32⟩
  | .hbm, ⟨41, _⟩ => ⟨S_, .f32⟩
  | .hbm, ⟨42, _⟩ => ⟨S_, .f32⟩
  | .hbm, ⟨43, _⟩ => ⟨S41x512x7168, .i1⟩
  | .hbm, ⟨44, _⟩ => ⟨S41x512x7168, .f32⟩
  | .hbm, ⟨45, _⟩ => ⟨S41x512x7168, .f32⟩
  | .hbm, ⟨46, _⟩ => ⟨S20992x7168, .f32⟩
  | .hbm, ⟨47, _⟩ => ⟨S20992x7168, .bf16⟩
  | _, _ => ⟨S20992x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel3.lean ====
abbrev S20992x7168 : Shape := ⟨2, ![20992, 7168]⟩
abbrev S16x7168x2048 : Shape := ⟨3, ![16, 7168, 2048]⟩
abbrev S41 : Shape := ⟨1, ![41]⟩
abbrev S1 : Shape := ⟨1, ![1]⟩
abbrev S20992x2048 : Shape := ⟨2, ![20992, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S20992x7168, .bf16⟩
  | .hbm, ⟨1, _⟩ => ⟨S16x7168x2048, .f32⟩
  | .hbm, ⟨2, _⟩ => ⟨S20992x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S41, .i32⟩
  | .local _ .smem, ⟨1, _⟩ => ⟨S1, .i32⟩
  | _, _ => ⟨S20992x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S20992x7168 : Shape := ⟨2, ![20992, 7168]⟩
abbrev S16x7168x2048 : Shape := ⟨3, ![16, 7168, 2048]⟩
abbrev S41 : Shape := ⟨1, ![41]⟩
abbrev S1 : Shape := ⟨1, ![1]⟩
abbrev S41x512x7168 : Shape := ⟨3, ![41, 512, 7168]⟩
abbrev S_ : Shape := ⟨0, ![]⟩
abbrev S41x1 : Shape := ⟨2, ![41, 1]⟩
abbrev S41x7168x2048 : Shape := ⟨3, ![41, 7168, 2048]⟩
abbrev S41x512x2048 : Shape := ⟨3, ![41, 512, 2048]⟩
abbrev S41x1x1 : Shape := ⟨3, ![41, 1, 1]⟩
abbrev S20992x2048 : Shape := ⟨2, ![20992, 2048]⟩

abbrev nBuf : Space → Nat
  | .hbm => 26
  | .vmem => 0
  | .smem => 0
  | _ => 0

abbrev bufTy : (tb : Table) → Fin (tcTables nBuf tb) → BufTy
  | .hbm, ⟨0, _⟩ => ⟨S20992x7168, .bf16⟩
  | .hbm, ⟨1, _⟩ => ⟨S16x7168x2048, .f32⟩
  | .hbm, ⟨2, _⟩ => ⟨S41, .i32⟩
  | .hbm, ⟨3, _⟩ => ⟨S1, .i32⟩
  | .hbm, ⟨4, _⟩ => ⟨S41x512x7168, .bf16⟩
  | .hbm, ⟨5, _⟩ => ⟨S41x512x7168, .f32⟩
  | .hbm, ⟨6, _⟩ => ⟨S_, .i32⟩
  | .hbm, ⟨7, _⟩ => ⟨S41, .i32⟩
  | .hbm, ⟨8, _⟩ => ⟨S41, .i1⟩
  | .hbm, ⟨9, _⟩ => ⟨S_, .i32⟩
  | .hbm, ⟨10, _⟩ => ⟨S41, .i32⟩
  | .hbm, ⟨11, _⟩ => ⟨S41, .i32⟩
  | .hbm, ⟨12, _⟩ => ⟨S41, .i32⟩
  | .hbm, ⟨13, _⟩ => ⟨S41x1, .i32⟩
  | .hbm, ⟨14, _⟩ => ⟨S41x7168x2048, .f32⟩
  | .hbm, ⟨15, _⟩ => ⟨S41x512x2048, .f32⟩
  | .hbm, ⟨16, _⟩ => ⟨S41, .i32⟩
  | .hbm, ⟨17, _⟩ => ⟨S41, .i32⟩
  | .hbm, ⟨18, _⟩ => ⟨S41, .i1⟩
  | .hbm, ⟨19, _⟩ => ⟨S41x1x1, .i1⟩
  | .hbm, ⟨20, _⟩ => ⟨S_, .f32⟩
  | .hbm, ⟨21, _⟩ => ⟨S_, .f32⟩
  | .hbm, ⟨22, _⟩ => ⟨S41x512x2048, .i1⟩
  | .hbm, ⟨23, _⟩ => ⟨S41x512x2048, .f32⟩
  | .hbm, ⟨24, _⟩ => ⟨S41x512x2048, .f32⟩
  | .hbm, ⟨25, _⟩ => ⟨S20992x2048, .f32⟩
  | _, _ => ⟨S20992x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel4.lean ====
abbrev S8448x2048 : Shape := ⟨2, ![8448, 2048]⟩
abbrev S2x2048x5632 : Shape := ⟨3, ![2, 2048, 5632]⟩
abbrev S_ : Shape := ⟨0, ![]⟩
abbrev S11 : Shape := ⟨1, ![11]⟩
abbrev S1 : Shape := ⟨1, ![1]⟩
abbrev S8448x5632 : Shape := ⟨2, ![8448, 5632]⟩
abbrev S768x2048 : Shape := ⟨2, ![768, 2048]⟩
abbrev S1x2048x512 : Shape := ⟨3, ![1, 2048, 512]⟩
abbrev S768x512 : Shape := ⟨2, ![768, 512]⟩
abbrev S2048x512 : Shape := ⟨2, ![2048, 512]⟩

abbrev nBuf : Space → Nat
  | .hbm => 6
  | .vmem => 10
  | .smem => 2
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S_, .i32⟩
  | .hbm, ⟨4, _⟩ => ⟨S_, .i32⟩
  | .hbm, ⟨5, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S768x512, .bf16⟩
  | .local _ .vmem, ⟨7, _⟩ => ⟨S768x512, .bf16⟩
  | .local _ .vmem, ⟨8, _⟩ => ⟨S2048x512, .bf16⟩
  | .local _ .vmem, ⟨9, _⟩ => ⟨S2048x512, .bf16⟩
  | .local _ .smem, ⟨0, _⟩ => ⟨S11, .i32⟩
  | .local _ .smem, ⟨1, _⟩ => ⟨S1, .i32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v2 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 11], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S11.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S11) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S11.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S11) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8448x2048 : Shape := ⟨2, ![8448, 2048]⟩
abbrev S2x2048x5632 : Shape := ⟨3, ![2, 2048, 5632]⟩
abbrev S_ : Shape := ⟨0, ![]⟩
abbrev S1x2048x5632 : Shape := ⟨3, ![1, 2048, 5632]⟩
abbrev S2048x5632 : Shape := ⟨2, ![2048, 5632]⟩
abbrev S8448x5632 : Shape := ⟨2, ![8448, 5632]⟩

abbrev nBuf : Space → Nat
  | .hbm => 32
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S_, .i32⟩
  | .hbm, ⟨4, _⟩ => ⟨S8448x2048, .f32⟩
  | .hbm, ⟨5, _⟩ => ⟨S_, .i32⟩
  | .hbm, ⟨6, _⟩ => ⟨S_, .i1⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S2048x5632, .f32⟩
  | .hbm, ⟨11, _⟩ => ⟨S2048x5632, .f32⟩
  | .hbm, ⟨12, _⟩ => ⟨S8448x5632, .f32⟩
  | .hbm, ⟨13, _⟩ => ⟨S_, .i32⟩
  | .hbm, ⟨14, _⟩ => ⟨S_, .i1⟩
  | .hbm, ⟨15, _⟩ => ⟨S1x2048x5632, .f32⟩
  | .hbm, ⟨16, _⟩ => ⟨S2048x5632, .f32⟩
  | .hbm, ⟨17, _⟩ => ⟨S1x2048x5632, .f32⟩
  | .hbm, ⟨18, _⟩ => ⟨S2048x5632, .f32⟩
  | .hbm, ⟨19, _⟩ => ⟨S2048x5632, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S_, .f32⟩
  | .hbm, ⟨24, _⟩ => ⟨S8448x5632, .f32⟩
  | .hbm, ⟨25, _⟩ => ⟨S8448x5632, .f32⟩
  | .hbm, ⟨26, _⟩ => ⟨S_, .f32⟩
  | .hbm, ⟨27, _⟩ => ⟨S8448x5632, .f32⟩
  | .hbm, ⟨28, _⟩ => ⟨S8448x5632, .f32⟩
  | .hbm, ⟨29, _⟩ => ⟨S8448x5632, .f32⟩
  | .hbm, ⟨30, _⟩ => ⟨S8448x5632, .f32⟩
  | .hbm, ⟨31, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call2_v0 : Ref sig .tc := ⟨.hbm, 21, rfl⟩
abbrev main_call2_v1 : Ref sig .tc := ⟨.hbm, 22, rfl⟩
abbrev main_call2_cst : Ref sig .tc := ⟨.hbm, 23, rfl⟩
abbrev main_call2_v2 : Ref sig .tc := ⟨.hbm, 24, rfl⟩
abbrev main_call2_v3 : Ref sig .tc := ⟨.hbm, 25, rfl⟩
abbrev main_call2_cst_0 : Ref sig .tc := ⟨.hbm, 26, rfl⟩
abbrev main_call2_v4 : Ref sig .tc := ⟨.hbm, 27, rfl⟩
abbrev main_call2_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel5.lean ====
abbrev S8448x5632 : Shape := ⟨2, ![8448, 5632]⟩
abbrev S2x5632x2048 : Shape := ⟨3, ![2, 5632, 2048]⟩
abbrev S_ : Shape := ⟨0, ![]⟩
abbrev S11 : Shape := ⟨1, ![11]⟩
abbrev S1 : Shape := ⟨1, ![1]⟩
abbrev S8448x2048 : Shape := ⟨2, ![8448, 2048]⟩
abbrev S768x5632 : Shape := ⟨2, ![768, 5632]⟩
abbrev S1x5632x512 : Shape := ⟨3, ![1, 5632, 512]⟩
abbrev S768x512 : Shape := ⟨2, ![768, 512]⟩
abbrev S5632x512 : Shape := ⟨2, ![5632, 512]⟩

abbrev nBuf : Space → Nat
  | .hbm => 5
  | .vmem => 7
  | .smem => 2
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S_, .i32⟩
  | .hbm, ⟨3, _⟩ => ⟨S_, .i32⟩
  | .hbm, ⟨4, _⟩ => ⟨S8448x2048, .f32⟩
  | .local _ .vmem, ⟨0, _⟩ => ⟨S768x5632, .bf16⟩
  | .local _ .vmem, ⟨1, _⟩ => ⟨S768x5632, .bf16⟩
  | .local _ .vmem, ⟨2, _⟩ => ⟨S1x5632x512, .f32⟩
  | .local _ .vmem, ⟨3, _⟩ => ⟨S1x5632x512, .f32⟩
  | .local _ .vmem, ⟨4, _⟩ => ⟨S768x512, .f32⟩
  | .local _ .vmem, ⟨5, _⟩ => ⟨S768x512, .f32⟩
  | .local _ .vmem, ⟨6, _⟩ => ⟨S5632x512, .bf16⟩
  | .local _ .smem, ⟨0, _⟩ => ⟨S11, .i32⟩
  | .local _ .smem, ⟨1, _⟩ => ⟨S1, .i32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v2 : Ref sig .tc := ⟨.hbm, 4, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S11.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S11) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8448x5632 : Shape := ⟨2, ![8448, 5632]⟩
abbrev S2x5632x2048 : Shape := ⟨3, ![2, 5632, 2048]⟩
abbrev S_ : Shape := ⟨0, ![]⟩
abbrev S1x5632x2048 : Shape := ⟨3, ![1, 5632, 2048]⟩
abbrev S5632x2048 : Shape := ⟨2, ![5632, 2048]⟩
abbrev S8448x2048 : Shape := ⟨2, ![8448, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S_, .i32⟩
  | .hbm, ⟨3, _⟩ => ⟨S8448x5632, .f32⟩
  | .hbm, ⟨4, _⟩ => ⟨S_, .i32⟩
  | .hbm, ⟨5, _⟩ => ⟨S_, .i1⟩
  | .hbm, ⟨6, _⟩ => ⟨S1x5632x2048, .f32⟩
  | .hbm, ⟨7, _⟩ => ⟨S5632x2048, .f32⟩
  | .hbm, ⟨8, _⟩ => ⟨S1x5632x2048, .f32⟩
  | .hbm, ⟨9, _⟩ => ⟨S5632x2048, .f32⟩
  | .hbm, ⟨10, _⟩ => ⟨S5632x2048, .f32⟩
  | .hbm, ⟨11, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S8448x2048 : Shape := ⟨2, ![8448, 2048]⟩
abbrev S1x2048x6144 : Shape := ⟨3, ![1, 2048, 6144]⟩
abbrev S_ : Shape := ⟨0, ![]⟩
abbrev S6 : Shape := ⟨1, ![6]⟩
abbrev S1 : Shape := ⟨1, ![1]⟩
abbrev S8448x6144 : Shape := ⟨2, ![8448, 6144]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 5
  | .vmem => 7
  | .smem => 2
  | _ => 0

abbrev bufTy : (tb : Table) → Fin (tcTables nBuf tb) → BufTy
  | .hbm, ⟨0, _⟩ => ⟨S8448x2048, .bf16⟩
  | .hbm, ⟨1, _⟩ => ⟨S1x2048x6144, .f32⟩
  | .hbm, ⟨2, _⟩ => ⟨S_, .i32⟩
  | .hbm, ⟨3, _⟩ => ⟨S_, .i32⟩
  | .hbm, ⟨4, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | .local _ .vmem, ⟨6, _⟩ => ⟨S2048x1024, .bf16⟩
  | .local _ .smem, ⟨0, _⟩ => ⟨S6, .i32⟩
  | .local _ .smem, ⟨1, _⟩ => ⟨S1, .i32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8448x2048 : Shape := ⟨2, ![8448, 2048]⟩
abbrev S1x2048x6144 : Shape := ⟨3, ![1, 2048, 6144]⟩
abbrev S2048x6144 : Shape := ⟨2, ![2048, 6144]⟩
abbrev S8448x6144 : Shape := ⟨2, ![8448, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x6144, .f32⟩
  | .hbm, ⟨2, _⟩ => ⟨S8448x2048, .f32⟩
  | .hbm, ⟨3, _⟩ => ⟨S2048x6144, .f32⟩
  | .hbm, ⟨4, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8448x2048 : Shape := ⟨2, ![8448, 2048]⟩
abbrev S1x2048x2048 : Shape := ⟨3, ![1, 2048, 2048]⟩
abbrev S_ : Shape := ⟨0, ![]⟩
abbrev S6 : Shape := ⟨1, ![6]⟩
abbrev S1 : Shape := ⟨1, ![1]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 5
  | .vmem => 7
  | .smem => 2
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S_, .i32⟩
  | .hbm, ⟨3, _⟩ => ⟨S_, .i32⟩
  | .hbm, ⟨4, _⟩ => ⟨S8448x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | .local _ .vmem, ⟨6, _⟩ => ⟨S2048x1024, .bf16⟩
  | .local _ .smem, ⟨0, _⟩ => ⟨S6, .i32⟩
  | .local _ .smem, ⟨1, _⟩ => ⟨S1, .i32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8448x2048 : Shape := ⟨2, ![8448, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.RefRows.lean ====
/- What the reference's queries, keys and values are: entries of the packed rows. -/
module

public import proofs.«01_k».proof.Proof.Gen.ReferenceIdeal.Read
public import Idealize.ShloMosaic.Lib.Pipeline.ValueKit
public import Idealize.ShloMosaic.Lib.ValueIdxRank6
public import Idealize.ShloMosaic.Lib.KernelVsHost

@[expose] public section

set_option maxRecDepth 16384

noncomputable section

namespace Cert.ReferenceIdeal.Rows

open Cert.ReferenceIdeal Cert.ReferenceIdeal.Gen Cert.ReferenceIdeal.Read Idealize.ShloMosaic Idealize.SL.Sem

variable (x0 : (⟨S8448x2048, .f32⟩ : BufTy).Contents (Elt Ideal))

/-- The rows of the sequences, by sequence and position. -/
theorem seq_apply (n : Fin 4) (p k : Fin 2048) :
    val_main_v1 (F := Ideal) x0 (ix3 n p k) = x0 (ix2 ⟨n.val * 2048 + p.val, by omega⟩ k) := by
  rw [val_main_v1_apply, val_main_v0_apply]
  blk_ext []

/-- The queries. -/
theorem query_apply (n : Fin 4) (b : Fin 16) (q : Fin 128) (h : Fin 4) (g : Fin 6) (d : Fin 64) :
    val_main_v3 (F := Ideal) x0 (ix6 n b q h g d)
      = x0 (ix2 ⟨n.val * 2048 + (b.val * 128 + q.val), by omega⟩ ⟨(h.val * 6 + g.val) * 64 + d.val, by omega⟩) := by
  unfold val_main_v3
  rw [shapeCast_apply _ shapeCasts_S4x2048x1536_S4x16x128x4x6x64 (ix6 n b q h g d)
    (ix3 n ⟨b.val * 128 + q.val, by omega⟩ ⟨(h.val * 6 + g.val) * 64 + d.val, by omega⟩)
    (by rw [Shape.rowMajor_val_three, Shape.rowMajor_val_six]
        show (n.val * 2048 + (b.val * 128 + q.val)) * 1536 + ((h.val * 6 + g.val) * 64 + d.val)
          = ((((n.val * 16 + b.val) * 128 + q.val) * 4 + h.val) * 6 + g.val) * 64 + d.val
        omega), val_main_v2_apply]
  rw [← seq_apply x0 n ⟨b.val * 128 + q.val, by omega⟩ ⟨(h.val * 6 + g.val) * 64 + d.val, by omega⟩]
  blk_ext []

/-- The key and value parts of a row. -/
theorem parts_apply (n : Fin 4) (p : Fin 2048) (s : Fin 2) (h : Fin 4) (d : Fin 64) :
    val_main_v5 (F := Ideal) x0 (ix5 n p s h d)
      = x0 (ix2 ⟨n.val * 2048 + p.val, by omega⟩ ⟨1536 + (s.val * 256 + (h.val * 64 + d.val)), by omega⟩) := by
  rw [val_main_v5_apply, val_main_v4_apply, ← seq_apply x0 n p ⟨1536 + (s.val * 256 + (h.val * 64 + d.val)), by omega⟩]
  blk_ext []

/-- The keys, by position. -/
theorem keys_apply (n : Fin 4) (p : Fin 2048) (h : Fin 4) (d : Fin 64) :
    val_main_v7 (F := Ideal) x0 (ix4 n p h d)
      = x0 (ix2 ⟨n.val * 2048 + p.val, by omega⟩ ⟨1536 + (h.val * 64 + d.val), by omega⟩) := by
  rw [val_main_v7_apply, val_main_v6_apply]
  refine Eq.trans (congrArg (val_main_v5 (F := Ideal) x0) (?_ : _ = ix5 n p 0 h d)) ?_
  · blk_ext []
  · rw [parts_apply]; blk_ext []

/-- The values, by position. -/
theorem values_apply (n : Fin 4) (p : Fin 2048) (h : Fin 4) (d : Fin 64) :
    val_main_v15 (F := Ideal) x0 (ix4 n p h d)
      = x0 (ix2 ⟨n.val * 2048 + p.val, by omega⟩ ⟨1792 + (h.val * 64 + d.val), by omega⟩) := by
  rw [val_main_v15_apply, val_main_v14_apply]
  refine Eq.trans (congrArg (val_main_v5 (F := Ideal) x0) (?_ : _ = ix5 n p 1 h d)) ?_
  · blk_ext []
  · rw [parts_apply]; blk_ext []

/-- The padded keys behind the padding. -/
theorem padded_keys (n : Fin 4) (p : Fin 2048) (h : Fin 4) (d : Fin 64) :
    val_main_v8 (F := Ideal) x0 (ix4 n ⟨128 + p.val, by omega⟩ h d) = val_main_v7 (F := Ideal) x0 (ix4 n p h d) := by
  unfold val_main_v8
  exact pad_apply_of_inside _ _ _ _ _ _ _ _ (ix4 n p h d) (fun a => match a with
    | ⟨0, _⟩ => by show n.val = 0 + n.val * (0 + 1); omega
    | ⟨1, _⟩ => by show 128 + p.val = 128 + p.val * (0 + 1); omega
    | ⟨2, _⟩ => by show h.val = 0 + h.val * (0 + 1); omega
    | ⟨3, _⟩ => by show d.val = 0 + d.val * (0 + 1); omega)

/-- The padded values behind the padding. -/
theorem padded_values (n : Fin 4) (p : Fin 2048) (h : Fin 4) (d : Fin 64) :
    val_main_v16 (F := Ideal) x0 (ix4 n ⟨128 + p.val, by omega⟩ h d) = val_main_v15 (F := Ideal) x0 (ix4 n p h d) := by
  unfold val_main_v16
  exact pad_apply_of_inside _ _ _ _ _ _ _ _ (ix4 n p h d) (fun a => match a with
    | ⟨0, _⟩ => by show n.val = 0 + n.val * (0 + 1); omega
    | ⟨1, _⟩ => by show 128 + p.val = 128 + p.val * (0 + 1); omega
    | ⟨2, _⟩ => by show h.val = 0 + h.val * (0 + 1); omega
    | ⟨3, _⟩ => by show d.val = 0 + d.val * (0 + 1); omega)

/-- The keys a block meets, at a key column that stands for a position of the sequence. -/
theorem block_keys (n : Fin 4) (b : Fin 16) (j : Fin 256) (h : Fin 4) (d : Fin 64) (hj : ¬(b.val = 0 ∧ j.val < 128)) :
    val_main_v13 (F := Ideal) x0 (ix5 n b j h d)
      = x0 (ix2 ⟨n.val * 2048 + (b.val * 128 + j.val - 128), by omega⟩ ⟨1536 + (h.val * 64 + d.val), by omega⟩) := by
  unfold val_main_v13
  rw [← keys_apply x0 n ⟨b.val * 128 + j.val - 128, by omega⟩ h d, ← padded_keys]
  by_cases hlt : j.val < 128
  · refine (concatenate_pair_apply_left (s₁ := S4x16x128x4x64) (s₂ := S4x16x128x4x64) (2 : Fin 5) _ _ _ (ix5 n b j h d) rfl
      (ix5 n b ⟨j.val, hlt⟩ h d) (fun a => match a with
        | ⟨0, _⟩ => rfl
        | ⟨1, _⟩ => rfl
        | ⟨2, _⟩ => rfl
        | ⟨3, _⟩ => rfl
        | ⟨4, _⟩ => rfl)).trans ?_
    rw [val_main_v10_apply, val_main_v9_apply]
    blk_ext []
  · refine (concatenate_pair_apply_right (s₁ := S4x16x128x4x64) (s₂ := S4x16x128x4x64) (2 : Fin 5) _ _ _ (ix5 n b j h d) rfl rfl
      (ix5 n b ⟨j.val - 128, by omega⟩ h d) (fun a => match a with
        | ⟨0, _⟩ => fun _ => rfl
        | ⟨1, _⟩ => fun _ => rfl
        | ⟨2, _⟩ => fun ha => absurd rfl ha
        | ⟨3, _⟩ => fun _ => rfl
        | ⟨4, _⟩ => fun _ => rfl) (show j.val - 128 + 128 = j.val by omega)).trans ?_
    rw [val_main_v12_apply, val_main_v11_apply]
    blk_ext []

/-- The values a block meets, at a key column that stands for a position of the sequence. -/
theorem block_values (n : Fin 4) (b : Fin 16) (j : Fin 256) (h : Fin 4) (d : Fin 64) (hj : ¬(b.val = 0 ∧ j.val < 128)) :
    val_main_v21 (F := Ideal) x0 (ix5 n b j h d)
      = x0 (ix2 ⟨n.val * 2048 + (b.val * 128 + j.val - 128), by omega⟩ ⟨1792 + (h.val * 64 + d.val), by omega⟩) := by
  unfold val_main_v21
  rw [← values_apply x0 n ⟨b.val * 128 + j.val - 128, by omega⟩ h d, ← padded_values]
  by_cases hlt : j.val < 128
  · refine (concatenate_pair_apply_left (s₁ := S4x16x128x4x64) (s₂ := S4x16x128x4x64) (2 : Fin 5) _ _ _ (ix5 n b j h d) rfl
      (ix5 n b ⟨j.val, hlt⟩ h d) (fun a => match a with
        | ⟨0, _⟩ => rfl
        | ⟨1, _⟩ => rfl
        | ⟨2, _⟩ => rfl
        | ⟨3, _⟩ => rfl
        | ⟨4, _⟩ => rfl)).trans ?_
    rw [val_main_v18_apply, val_main_v17_apply]
    blk_ext []
  · refine (concatenate_pair_apply_right (s₁ := S4x16x128x4x64) (s₂ := S4x16x128x4x64) (2 : Fin 5) _ _ _ (ix5 n b j h d) rfl rfl
      (ix5 n b ⟨j.val - 128, by omega⟩ h d) (fun a => match a with
        | ⟨0, _⟩ => fun _ => rfl
        | ⟨1, _⟩ => fun _ => rfl
        | ⟨2, _⟩ => fun ha => absurd rfl ha
        | ⟨3, _⟩ => fun _ => rfl
        | ⟨4, _⟩ => fun _ => rfl) (show j.val - 128 + 128 = j.val by omega)).trans ?_
    rw [val_main_v20_apply, val_main_v19_apply]
    blk_ext []

end Cert.ReferenceIdeal.Rows

end
-- ==== Proof.Tile.lean ====
/- One row block of the banded attention as the kernel computes it, spelled once per query head instead of once per
   head of the unrolled body: the twelve stored tiles of a block are instances of two shapes of tile. -/
module

public import proofs.«01_k».proof.Proof.Gen.KernelIdeal.Value
public import Idealize.ShloMosaic.Lib.Pipeline.ValueKit

@[expose] public section

set_option maxRecDepth 16384

noncomputable section

namespace Cert.KernelIdeal.Tile

open Cert.KernelIdeal Cert.KernelIdeal.Gen Idealize.ShloMosaic Idealize.SL.Sem

variable {F : FTy → Type} [FloatOps F] [Named F]

/-- The logits of one query head: masked queries times keys plus the head's bias, the excluded keys replaced. -/
def logits (drop : IVec S128x256 1) (qm : FVec F S128x128 .f32) (kt : FVec F S256x128 .bf16) (b : Vec F S1x128x256 .f32) :
    FVec F S128x256 .f32 :=
  select drop (broadcast S128x256 (Named.named κ "masked" 0xF149F2CA#32))
    (addf (matmul dot_S128x128_S256x128_S128x256_1_1_0_0_n_n none (truncf .bf16 qm bitsLt_bf16_f32) kt
        (constant S128x256 .f32 0x00000000#32))
      (shapeCast S128x256 b shapeCasts_S1x128x256_S128x256))

/-- Each row's maximum, the sink's logit among the candidates. -/
def top (x : FVec F S128x256 .f32) (s : Elt F .f32) : FVec F S128x1 .f32 :=
  maximumf (shapeCast S128x1 (multiReduction .maximumf [1] S128 x 0xFF800000#32 reduces_S128x256_S128 (.inl rfl) rfl)
    shapeCasts_S128_S128x1) (broadcast S128x1 s)

/-- Each row's unnormalised weights. -/
def weights (x : FVec F S128x256 .f32) (s : Elt F .f32) : FVec F S128x256 .f32 :=
  exp2 (subf x (broadcastTo S128x256 (top x s) broadcasts_S128x1_S128x256))

/-- Each row's normaliser: the weights' sum and the sink's own weight. -/
def norm (x : FVec F S128x256 .f32) (s : Elt F .f32) : FVec F S128x1 .f32 :=
  addf (shapeCast S128x1 (multiReduction .add [1] S128 (weights x s) 0x00000000#32 reduces_S128x256_S128 (.inl rfl) rfl)
    shapeCasts_S128_S128x1) (exp2 (subf (broadcast S128x1 s) (top x s)))

/-- The head's normalised average of the values, over all lanes of the value tile. -/
def average (x : FVec F S128x256 .f32) (vt : FVec F S256x128 .bf16) (s : Elt F .f32) : FVec F S128x128 .f32 :=
  divf (matmul dot_S128x256_S256x128_S128x128_1_0_0_1_n_n none (truncf .bf16 (weights x s) bitsLt_bf16_f32) vt
      (constant S128x128 .f32 0x00000000#32))
    (broadcastTo S128x128 (norm x s) broadcasts_S128x1_S128x128)

/-- A lane tile turned by half a tile. -/
def turn (x : FVec F S128x128 .f32) : FVec F S128x128 .f32 := dynamicRotate 1 64#32 none x rotates_S128x128_d1

/-- The lanes a predicate keeps, the others zero. -/
def keep (p : IVec S128x128 1) (x : FVec F S128x128 .f32) : FVec F S128x128 .f32 :=
  select p x (broadcast S128x128 (Scalar.ofBits .f32 0x00000000#32))

/-- The upper half of the lanes. -/
def upper : IVec S128x128 1 := xori k0_pay6 (constantI S128x128 1 1#1)

/-- One head's average from its masked queries. -/
def attend (drop : IVec S128x256 1) (kt vt : FVec F S256x128 .bf16) (qm : FVec F S128x128 .f32) (b : Vec F S1x128x256 .f32)
    (s : Elt F .f32) : FVec F S128x128 .f32 :=
  average (logits drop qm kt b) vt s

/-- Two heads whose keys and values lie in the lower lanes of the key tile, side by side. -/
def tileLow (drop : IVec S128x256 1) (kt vt : FVec F S256x128 .bf16) (qt : FVec F S128x128 .f32)
    (b0 b1 : Vec F S1x128x256 .f32) (s0 s1 : Elt F .f32) : FVec F S128x128 .bf16 :=
  truncf .bf16 (select k0_pay6 (attend drop kt vt (keep k0_pay6 qt) b0 s0)
    (turn (attend drop kt vt (keep k0_pay6 (turn qt)) b1 s1))) bitsLt_bf16_f32

/-- Two heads whose keys and values lie in the upper lanes of the key tile, side by side. -/
def tileHigh (drop : IVec S128x256 1) (kt vt : FVec F S256x128 .bf16) (qt : FVec F S128x128 .f32)
    (b0 b1 : Vec F S1x128x256 .f32) (s0 s1 : Elt F .f32) : FVec F S128x128 .bf16 :=
  truncf .bf16 (select k0_pay6 (turn (attend drop kt vt (keep upper (turn qt)) b0 s0))
    (attend drop kt vt (keep upper qt) b1 s1)) bitsLt_bf16_f32

/-- The bias window of one head. -/
def biasOf (x6 : Vec F S24x128x256 .f32) (h : ℕ) (inb : ∀ a, (![h, 0, 0] : Fin 3 → ℕ) a + (![1, 128, 256] : Fin 3 → ℕ) a ≤ S24x128x256.size a) :
    Vec F S1x128x256 .f32 :=
  View.ld x6 (Rect.unit ![h, 0, 0] ![1, 128, 256] inb)

/-- The sink of one head. -/
def sinkOf (x0 : Vec F S24 .f32) (h : ℕ) (inb : ∀ a, (![h] : Fin 1 → ℕ) a + (![1] : Fin 1 → ℕ) a ≤ S24.size a) : Elt F .f32 :=
  View.ld x0 (Rect.unit ![h] ![1] inb) (Shape.Idx.first (show 0 < Shape.numel ⟨1, ![1]⟩ by decide))

/-- The twelve tiles a block stores, newest first. -/
def pieces (col : BitVec 32) (x0 : Vec F S24 .f32) (x1 : Vec F S128x1536 .f32) (x2 x3 x4 x5 : Vec F S128x256 .f32)
    (x6 : Vec F S24x128x256 .f32) : List (View.Piece (Elt F) S128x1536 .bf16) :=
  [⟨Rect.unit ![0, 1408] ![128, 128] inb_S128x1536_S128x128_0_1408,
      tileHigh (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 1408] (k0_pay2 x1) slices_S128x1536_o0_1408_S128x128)
        (biasOf x6 22 inb_S24x128x256_S1x128x256_22_0_0) (biasOf x6 23 inb_S24x128x256_S1x128x256_23_0_0)
        (sinkOf x0 22 inb_S24_S1_22) (sinkOf x0 23 inb_S24_S1_23)⟩,
   ⟨Rect.unit ![0, 1280] ![128, 128] inb_S128x1536_S128x128_0_1280,
      tileHigh (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 1280] (k0_pay2 x1) slices_S128x1536_o0_1280_S128x128)
        (biasOf x6 20 inb_S24x128x256_S1x128x256_20_0_0) (biasOf x6 21 inb_S24x128x256_S1x128x256_21_0_0)
        (sinkOf x0 20 inb_S24_S1_20) (sinkOf x0 21 inb_S24_S1_21)⟩,
   ⟨Rect.unit ![0, 1152] ![128, 128] inb_S128x1536_S128x128_0_1152,
      tileHigh (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 1152] (k0_pay2 x1) slices_S128x1536_o0_1152_S128x128)
        (biasOf x6 18 inb_S24x128x256_S1x128x256_18_0_0) (biasOf x6 19 inb_S24x128x256_S1x128x256_19_0_0)
        (sinkOf x0 18 inb_S24_S1_18) (sinkOf x0 19 inb_S24_S1_19)⟩,
   ⟨Rect.unit ![0, 1024] ![128, 128] inb_S128x1536_S128x128_0_1024,
      tileLow (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 1024] (k0_pay2 x1) slices_S128x1536_o0_1024_S128x128)
        (biasOf x6 16 inb_S24x128x256_S1x128x256_16_0_0) (biasOf x6 17 inb_S24x128x256_S1x128x256_17_0_0)
        (sinkOf x0 16 inb_S24_S1_16) (sinkOf x0 17 inb_S24_S1_17)⟩,
   ⟨Rect.unit ![0, 896] ![128, 128] inb_S128x1536_S128x128_0_896,
      tileLow (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 896] (k0_pay2 x1) slices_S128x1536_o0_896_S128x128)
        (biasOf x6 14 inb_S24x128x256_S1x128x256_14_0_0) (biasOf x6 15 inb_S24x128x256_S1x128x256_15_0_0)
        (sinkOf x0 14 inb_S24_S1_14) (sinkOf x0 15 inb_S24_S1_15)⟩,
   ⟨Rect.unit ![0, 768] ![128, 128] inb_S128x1536_S128x128_0_768,
      tileLow (k0_pay5 col) (extractStridedSlice S256x128 ![0, 128] (k0_pay3 x2 x3) slices_S256x256_o0_128_S256x128)
        (extractStridedSlice S256x128 ![0, 128] (k0_pay4 x4 x5) slices_S256x256_o0_128_S256x128)
        (extractStridedSlice S128x128 ![0, 768] (k0_pay2 x1) slices_S128x1536_o0_768_S128x128)
        (biasOf x6 12 inb_S24x128x256_S1x128x256_12_0_0) (biasOf x6 13 inb_S24x128x256_S1x128x256_13_0_0)
        (sinkOf x0 12 inb_S24_S1_12) (sinkOf x0 13 inb_S24_S1_13)⟩,
   ⟨Rect.unit ![0, 640] ![128, 128] inb_S128x1536_S128x128_0_640,
      tileHigh (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 640] (k0_pay2 x1) slices_S128x1536_o0_640_S128x128)
        (biasOf x6 10 inb_S24x128x256_S1x128x256_10_0_0) (biasOf x6 11 inb_S24x128x256_S1x128x256_11_0_0)
        (sinkOf x0 10 inb_S24_S1_10) (sinkOf x0 11 inb_S24_S1_11)⟩,
   ⟨Rect.unit ![0, 512] ![128, 128] inb_S128x1536_S128x128_0_512,
      tileHigh (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 512] (k0_pay2 x1) slices_S128x1536_o0_512_S128x128)
        (biasOf x6 8 inb_S24x128x256_S1x128x256_8_0_0) (biasOf x6 9 inb_S24x128x256_S1x128x256_9_0_0)
        (sinkOf x0 8 inb_S24_S1_8) (sinkOf x0 9 inb_S24_S1_9)⟩,
   ⟨Rect.unit ![0, 384] ![128, 128] inb_S128x1536_S128x128_0_384,
      tileHigh (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 384] (k0_pay2 x1) slices_S128x1536_o0_384_S128x128)
        (biasOf x6 6 inb_S24x128x256_S1x128x256_6_0_0) (biasOf x6 7 inb_S24x128x256_S1x128x256_7_0_0)
        (sinkOf x0 6 inb_S24_S1_6) (sinkOf x0 7 inb_S24_S1_7)⟩,
   ⟨Rect.unit ![0, 256] ![128, 128] inb_S128x1536_S128x128_0_256,
      tileLow (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 256] (k0_pay2 x1) slices_S128x1536_o0_256_S128x128)
        (biasOf x6 4 inb_S24x128x256_S1x128x256_4_0_0) (biasOf x6 5 inb_S24x128x256_S1x128x256_5_0_0)
        (sinkOf x0 4 inb_S24_S1_4) (sinkOf x0 5 inb_S24_S1_5)⟩,
   ⟨Rect.unit ![0, 128] ![128, 128] inb_S128x1536_S128x128_0_128,
      tileLow (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 128] (k0_pay2 x1) slices_S128x1536_o0_128_S128x128)
        (biasOf x6 2 inb_S24x128x256_S1x128x256_2_0_0) (biasOf x6 3 inb_S24x128x256_S1x128x256_3_0_0)
        (sinkOf x0 2 inb_S24_S1_2) (sinkOf x0 3 inb_S24_S1_3)⟩,
   ⟨Rect.unit ![0, 0] ![128, 128] inb_S128x1536_S128x128_0_0,
      tileLow (k0_pay5 col) (extractStridedSlice S256x128 ![0, 0] (k0_pay3 x2 x3) slices_S256x256_o0_0_S256x128)
        (extractStridedSlice S256x128 ![0, 0] (k0_pay4 x4 x5) slices_S256x256_o0_0_S256x128)
        (extractStridedSlice S128x128 ![0, 0] (k0_pay2 x1) slices_S128x1536_o0_0_S128x128)
        (biasOf x6 0 inb_S24x128x256_S1x128x256_0_0_0) (biasOf x6 1 inb_S24x128x256_S1x128x256_1_0_0)
        (sinkOf x0 0 inb_S24_S1_0) (sinkOf x0 1 inb_S24_S1_1)⟩]

/-- A block of the attention's own rows holds those twelve tiles. -/
theorem block_pieces (c : Dev nD) (i : grid0.Coords) (arg2 : Memref sig .tc .smem S24 .f32) (harg2 : arg2.IsWhole) (arg3 : Memref sig .tc .vmem S128x1536 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S24x128x256 .f32) (harg8 : arg8.IsWhole) (arg9 : Memref sig .tc .vmem S128x1536 .bf16) (harg9 : arg9.IsWhole)
    (hc0 : cond0_0 i) (hc1 : ¬cond0_1 i) (x0 : Vec F S24 .f32) (x1 : Vec F S128x1536 .f32) (x2 x3 x4 x5 : Vec F S128x256 .f32) (x6 : Vec F S24x128x256 .f32) (y : S128x1536.Idx) :
    out0_A_7 c i arg2 harg2 arg3 harg3 arg4 harg4 arg5 harg5 arg6 harg6 arg7 harg7 arg8 harg8 arg9 harg9 hc0 hc1 x0 x1 x2 x3 x4 x5 x6 y
      = View.canon (pieces (BitVec.ofNat 32 (i 1)) x0 x1 x2 x3 x4 x5 x6) y := by
  frame_out
  refine congrArg (fun L => View.canon L y) ?_
  unfold pieces
  iterate 12 refine congrArg₂ List.cons (congrArg (Sigma.mk _) (by rfl)) ?_
  rfl

/-- A block behind the last sequence is zero. -/
theorem tail_block (c : Dev nD) (i : grid0.Coords) (arg2 : Memref sig .tc .smem S24 .f32) (harg2 : arg2.IsWhole) (arg3 : Memref sig .tc .vmem S128x1536 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S24x128x256 .f32) (harg8 : arg8.IsWhole) (arg9 : Memref sig .tc .vmem S128x1536 .bf16) (harg9 : arg9.IsWhole)
    (hc0 : ¬cond0_0 i) (hc1 : cond0_1 i) (x0 : Vec F S24 .f32) (x1 : Vec F S128x1536 .f32) (x2 x3 x4 x5 : Vec F S128x256 .f32) (x6 : Vec F S24x128x256 .f32) (y : S128x1536.Idx) :
    out0_B_7 c i arg2 harg2 arg3 harg3 arg4 harg4 arg5 harg5 arg6 harg6 arg7 harg7 arg8 harg8 arg9 harg9 hc0 hc1 x0 x1 x2 x3 x4 x5 x6 y
      = Scalar.ofBits .bf16 0x0000#16 := by
  frame_out
  rfl

end Cert.KernelIdeal.Tile

end
-- ==== Proof.RowMath.lean ====
/- A softmax row with a sink, over the extended reals: taken to base two with logits scaled by `1 / log 2`, it is the
   row taken to base `e`. -/
module

public import Idealize.ShloMosaic.PureOps.Ideal
public import Mathlib.Analysis.SpecialFunctions.Pow.Real

@[expose] public section

noncomputable section

namespace Cert.RowMath

open Idealize.ShloMosaic

/-- `1 / log 2`, the factor that turns a natural exponent into a binary one. -/
def lc : EReal := (((Real.log 2)⁻¹ : ℝ) : EReal)

theorem log_two_pos : 0 < Real.log 2 := Real.log_pos (by norm_num)

theorem inv_log_two_pos : 0 < (Real.log 2)⁻¹ := inv_pos.mpr log_two_pos

/-- A finite nonnegative factor distributes over a sum of extended reals. -/
theorem add_mul_coe (a b : EReal) {c : ℝ} (hc : 0 ≤ c) : (a + b) * (c : EReal) = a * c + b * c :=
  EReal.right_distrib_of_nonneg_of_ne_top (EReal.coe_nonneg.mpr hc) (EReal.coe_ne_top c) a b

/-- A finite nonnegative factor moves into a finite sum. -/
theorem sum_mul_coe {ι : Type} (s : Finset ι) (f : ι → EReal) {c : ℝ} (hc : 0 ≤ c) :
    (∑ i ∈ s, f i) * (c : EReal) = ∑ i ∈ s, f i * c := by
  classical
  induction s using Finset.induction_on with
  | empty => simp
  | insert a s ha ih => rw [Finset.sum_insert ha, Finset.sum_insert ha, add_mul_coe _ _ hc, ih]

theorem bot_mul_lc : (⊥ : EReal) * lc = ⊥ := EReal.bot_mul_coe_of_pos inv_log_two_pos

/-- The factor distributes over a difference. -/
theorem sub_mul_lc (a b : EReal) : a * lc - b * lc = (a - b) * lc := by
  have h : -(b * lc) = -b * lc := (EReal.neg_mul b lc).symm
  rw [sub_eq_add_neg, h, sub_eq_add_neg]
  exact (add_mul_coe a (-b) inv_log_two_pos.le).symm

/-- The factor passes through a maximum. -/
theorem max_mul_lc (a b : EReal) : max a b * lc = max (a * lc) (b * lc) :=
  Monotone.map_max (f := fun t : EReal => t * lc)
    fun _ _ h => mul_le_mul_of_nonneg_right h (EReal.coe_nonneg.mpr inv_log_two_pos.le)

/-- Two to the scaled exponent is `e` to the exponent. -/
theorem exp2_mul_lc (a : EReal) : Ideal.exp2 (a * lc) = Ideal.exp a := by
  induction a using EReal.rec with
  | bot => rw [bot_mul_lc]; rfl
  | top => rw [show (⊤ : EReal) * lc = ⊤ from EReal.top_mul_coe_of_pos inv_log_two_pos]; rfl
  | coe r =>
    show Ideal.exp2 ((r : EReal) * (((Real.log 2)⁻¹ : ℝ) : EReal)) = _
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num), mul_comm r, mul_inv_cancel_left₀ log_two_pos.ne']

/-- The largest logit of a row with its sink. -/
def peak {n : ℕ} (x : Fin n → EReal) (s : EReal) : EReal := max (Finset.univ.fold max ⊥ x) s

/-- A row of the attention: values averaged with weights `e^(logit - largest)`, the sink adding to the normaliser. -/
def row {n : ℕ} (x : Fin n → EReal) (s : EReal) (v : Fin n → EReal) : EReal :=
  Ideal.div (∑ j, v j * Ideal.exp (x j - peak x s)) (∑ j, Ideal.exp (x j - peak x s) + Ideal.exp (s - peak x s))

/-- The same row with binary weights. -/
def row2 {n : ℕ} (y : Fin n → EReal) (s : EReal) (w : Fin n → EReal) : EReal :=
  Ideal.div (∑ j, Ideal.exp2 (y j - peak y s) * w j) (∑ j, Ideal.exp2 (y j - peak y s) + Ideal.exp2 (s - peak y s))

theorem peak_mul_lc {n : ℕ} (x : Fin n → EReal) (s : EReal) : peak (fun j => x j * lc) (s * lc) = peak x s * lc := by
  unfold peak
  rw [max_mul_lc, ← Finset.fold_hom (op := max) (op' := max) (m := fun t => t * lc) (fun a b => max_mul_lc a b), bot_mul_lc]

/-- A binary row over scaled logits is the natural row; the values need agree only where the logit is not `-∞`. -/
theorem row2_eq_row {n : ℕ} (x y : Fin n → EReal) (s s' : EReal) (v w : Fin n → EReal) (hy : ∀ j, y j = x j * lc)
    (hs : s' = s * lc) (hv : ∀ j, x j ≠ ⊥ → v j = w j) : row2 y s' w = row x s v := by
  obtain rfl : y = fun j => x j * lc := funext hy
  subst hs
  have hp : ∀ a : EReal, Ideal.exp2 (a * lc - peak x s * lc) = Ideal.exp (a - peak x s) := fun a => by
    rw [sub_mul_lc, exp2_mul_lc]
  unfold row2 row
  rw [peak_mul_lc]
  simp only [hp]
  congr 1
  refine Finset.sum_congr rfl fun j _ => ?_
  by_cases h : x j = ⊥
  · rw [h, EReal.bot_sub]
    show (0 : EReal) * _ = _ * (0 : EReal)
    rw [zero_mul, mul_zero]
  · rw [hv j h, mul_comm]

/-- A sum over a lane tile that vanishes off one half of it is the sum over that half. -/
theorem sum_half (f : Fin 128 → EReal) (κ : ℕ) (hκ : κ < 2) (hf : ∀ i : Fin 128, i.val / 64 ≠ κ → f i = 0) :
    ∑ i, f i = ∑ d : Fin 64, f ⟨64 * κ + d.val, by omega⟩ := by
  have hinj : Function.Injective (fun d : Fin 64 => (⟨64 * κ + d.val, by omega⟩ : Fin 128)) := fun a b h => by
    have := congrArg Fin.val h
    simp only at this
    exact Fin.ext (by omega)
  rw [← Finset.sum_image (s := Finset.univ) (g := fun d : Fin 64 => (⟨64 * κ + d.val, by omega⟩ : Fin 128)) (f := f)
    (fun a _ b _ h => hinj h)]
  refine (Finset.sum_subset (Finset.subset_univ _) fun i _ hi => hf i fun h => hi ?_).symm
  refine Finset.mem_image.mpr ⟨⟨i.val % 64, by omega⟩, Finset.mem_univ _, Fin.ext ?_⟩
  simp only
  omega

/-- The kernel's logit, scaled queries times keys plus a scaled bias, is the natural logit scaled. -/
theorem logit_scaled (q k : Fin 64 → EReal) (b : EReal) :
    ∑ d, (q d * ((8⁻¹ * (Real.log 2)⁻¹ : ℝ) : EReal)) * k d + b * lc
      = ((∑ d, k d * q d) * ((8⁻¹ : ℝ) : EReal) + b) * lc := by
  have h : ∀ d, (q d * ((8⁻¹ * (Real.log 2)⁻¹ : ℝ) : EReal)) * k d = (k d * q d) * ((8⁻¹ : ℝ) : EReal) * lc := fun d => by
    rw [EReal.coe_mul]
    show q d * (((8⁻¹ : ℝ) : EReal) * lc) * k d = _
    ac_rfl
  simp only [h]
  show _ = (_ + b) * (((Real.log 2)⁻¹ : ℝ) : EReal)
  rw [add_mul_coe _ _ inv_log_two_pos.le, sum_mul_coe _ _ (by norm_num : (0 : ℝ) ≤ 8⁻¹), sum_mul_coe _ _ inv_log_two_pos.le]
  rfl

end Cert.RowMath

end
-- ==== Proof.HeadValue.lean ====
/- The kernel's block of the banded attention, read at an index: every lane of the block is a binary softmax row of its
   own query head over the head's 256 keys. -/
module

public import proofs.«01_k».proof.Proof.Tile
public import proofs.«01_k».proof.Proof.RowMath
public import Idealize.ShloMosaic.Lib.Pointwise

@[expose] public section

set_option maxRecDepth 16384

noncomputable section

namespace Cert.KernelIdeal.Tile

open Cert.KernelIdeal Cert.KernelIdeal.Gen Idealize.ShloMosaic Idealize.SL.Sem Cert.RowMath

/-- The finite stand-in for `-∞` reads `-∞`. -/
theorem masked_eq : (Named.named κ "masked" 0xF149F2CA#32 : Ideal .f32) = (⊥ : EReal) :=
  IdealRules.named_const.ideal_named_scalar _ _ _ _ rfl

/-- The query scale reads `1 / (8 log 2)`. -/
theorem qscale_eq : (Named.named κ "qscale" 0x3E38AA3B#32 : Ideal .f32) = (((8⁻¹ * (Real.log 2)⁻¹ : ℝ)) : EReal) :=
  IdealRules.named_const.ideal_named_scalar _ _ _ _ rfl

/-- The start of the row maximum reads `-∞`. -/
theorem start_eq : Ideal.ofBits FTy.f32 4286578688#32 = ⊥ := by
  simp [Ideal.ofBits, Ideal.ieee]

/-- The excluded keys: those of the previous block where there is none. -/
theorem select_drop {α : Type} (col : BitVec 32) (r : Fin 128) (j : Fin 256) (a b : α) :
    Scalar.select (k0_pay5 col (ix2 r j)) a b = if col = 0#32 ∧ j.val < 128 then a else b := by
  have h : k0_pay5 col (ix2 r j)
      = IntOp.andi (Scalar.cmpi .eq col 0#32) (IntOp.cmpi .slt (BitVec.ofNat 32 j.val) 128#32) := by
    unfold k0_pay5
    pointwise
  have hj : ∀ j : Fin 256, IntOp.cmpi .slt (BitVec.ofNat 32 j.val) 128#32 = if j.val < 128 then 1#1 else 0#1 := by
    decide +kernel
  rw [h, hj]
  by_cases hc : col = 0#32
  · subst hc
    by_cases hl : j.val < 128
    · rw [if_pos hl, if_pos ⟨rfl, hl⟩]; rfl
    · rw [if_neg hl, if_neg (fun h' => hl h'.2)]; rfl
  · have h0 : Scalar.cmpi .eq col 0#32 = 0#1 := by
      show BitVec.ofBool (col == 0#32) = 0#1
      rw [beq_false_of_ne hc]; rfl
    have hn : ¬(col = 0#32 ∧ j.val < 128) := fun h' => hc h'.1
    rw [h0, if_neg hn]
    split_ifs <;> rfl

/-- The lower half of the lanes. -/
theorem low_eq (r l : Fin 128) : k0_pay6 (ix2 r l) = if l.val / 64 = 0 then 1#1 else 0#1 := by
  have h : k0_pay6 (ix2 r l) = IntOp.cmpi .slt (BitVec.ofNat 32 l.val) 64#32 := by
    unfold k0_pay6
    pointwise
  have hl : ∀ l : Fin 128, IntOp.cmpi .slt (BitVec.ofNat 32 l.val) 64#32 = if l.val / 64 = 0 then 1#1 else 0#1 := by
    decide +kernel
  rw [h, hl]

/-- The upper half of the lanes. -/
theorem upper_eq (r l : Fin 128) : upper (ix2 r l) = if l.val / 64 = 1 then 1#1 else 0#1 := by
  have h : upper (ix2 r l) = IntOp.xori (IntOp.cmpi .slt (BitVec.ofNat 32 l.val) 64#32) 1#1 := by
    unfold upper k0_pay6
    pointwise
  have hl : ∀ l : Fin 128, IntOp.xori (IntOp.cmpi .slt (BitVec.ofNat 32 l.val) 64#32) 1#1
      = if l.val / 64 = 1 then 1#1 else 0#1 := by
    decide +kernel
  rw [h, hl]

theorem select_ite {α : Type} (p : Prop) [Decidable p] (a b : α) :
    Scalar.select (if p then 1#1 else 0#1) a b = if p then a else b := by
  by_cases h : p
  · simp only [h, if_true]; rfl
  · simp only [h, if_false]; rfl

/-- A half-turn of the lanes swaps the halves. -/
theorem turn_apply (x : FVec Ideal S128x128 .f32) (r l : Fin 128) :
    turn x (ix2 r l) = x (ix2 r ⟨(l.val + 64) % 128, Nat.mod_lt _ (by norm_num)⟩) := by
  unfold turn
  pointwise
  congr 2

/-- Masked queries keep one half of the lanes. -/
theorem keep_apply (p : IVec S128x128 1) (κ : ℕ) (hp : ∀ r l : Fin 128, p (ix2 r l) = if l.val / 64 = κ then 1#1 else 0#1)
    (x : FVec Ideal S128x128 .f32) (r l : Fin 128) :
    keep p x (ix2 r l) = if l.val / 64 = κ then x (ix2 r l) else (0 : EReal) := by
  unfold keep
  pointwise
  rw [hp, select_ite]

/-- One head, read at an index: a binary softmax row over the kept lanes of queries and keys. -/
theorem attend_apply (col : BitVec 32) (kt vt : FVec Ideal S256x128 .bf16) (qm : FVec Ideal S128x128 .f32)
    (b : Vec Ideal S1x128x256 .f32) (s : Elt Ideal .f32) (r e : Fin 128) (κ : ℕ) (hκ : κ < 2) (Q : Fin 64 → EReal)
    (h0 : ∀ l : Fin 128, l.val / 64 ≠ κ → qm (ix2 r l) = (0 : EReal))
    (hQ : ∀ d : Fin 64, qm (ix2 r ⟨64 * κ + d.val, by omega⟩) = Q d) :
    attend (k0_pay5 col) kt vt qm b s (ix2 r e)
      = row2 (fun j : Fin 256 => if col = 0#32 ∧ j.val < 128 then ⊥
            else ∑ d : Fin 64, Q d * kt (ix2 j ⟨64 * κ + d.val, by omega⟩) + b (ix3 0 r j)) s
          (fun j => vt (ix2 j e)) := by
  have hl : ∀ j : Fin 256, logits (k0_pay5 col) qm kt b (ix2 r j)
      = if col = 0#32 ∧ j.val < 128 then (⊥ : EReal)
            else ∑ d : Fin 64, Q d * kt (ix2 j ⟨64 * κ + d.val, by omega⟩) + b (ix3 0 r j) := fun j => by
    unfold logits
    pointwise
    rw [select_drop, masked_eq]
    congr 1
    congr 1
    rw [sum_half _ κ hκ]
    · exact Finset.sum_congr rfl fun d _ => by rw [hQ d]
    · intro l hne
      rw [h0 l hne]
      exact zero_mul _
  have ht : top (logits (k0_pay5 col) qm kt b) s (ix2 r 0)
      = peak (fun j : Fin 256 => logits (k0_pay5 col) qm kt b (ix2 r j)) s := by
    unfold top
    pointwise
    rw [start_eq]
    rfl
  have hw : ∀ j : Fin 256, weights (logits (k0_pay5 col) qm kt b) s (ix2 r j)
      = Ideal.exp2 (logits (k0_pay5 col) qm kt b (ix2 r j)
        - peak (fun j : Fin 256 => logits (k0_pay5 col) qm kt b (ix2 r j)) s) := fun j => by
    rw [← ht]
    unfold weights
    pointwise
    rfl
  have hn : norm (logits (k0_pay5 col) qm kt b) s (ix2 r 0)
      = ∑ j : Fin 256, Ideal.exp2 (logits (k0_pay5 col) qm kt b (ix2 r j)
        - peak (fun j : Fin 256 => logits (k0_pay5 col) qm kt b (ix2 r j)) s)
        + Ideal.exp2 (s - peak (fun j : Fin 256 => logits (k0_pay5 col) qm kt b (ix2 r j)) s) := by
    rw [← ht]
    unfold norm
    pointwise
    rw [ht]
    simp only [hw]
    rfl
  have ha : attend (k0_pay5 col) kt vt qm b s (ix2 r e)
      = row2 (fun j : Fin 256 => logits (k0_pay5 col) qm kt b (ix2 r j)) s (fun j => vt (ix2 j e)) := by
    unfold attend average
    pointwise
    rw [hn]
    simp only [hw]
    rfl
  rw [ha]
  simp only [hl]

/-- A tile over the lower lanes of the keys, read at an index. -/
theorem tileLow_apply (col : BitVec 32) (kt vt : FVec Ideal S256x128 .bf16) (qt : FVec Ideal S128x128 .f32)
    (b0 b1 : Vec Ideal S1x128x256 .f32) (s0 s1 : Elt Ideal .f32) (r l : Fin 128) :
    tileLow (k0_pay5 col) kt vt qt b0 b1 s0 s1 (ix2 r l)
      = row2 (fun j : Fin 256 => if col = 0#32 ∧ j.val < 128 then ⊥
            else ∑ d : Fin 64, qt (ix2 r ⟨64 * (l.val / 64) + d.val, by omega⟩) * kt (ix2 j ⟨64 * 0 + d.val, by omega⟩)
              + (if l.val / 64 = 0 then b0 else b1) (ix3 0 r j)) (if l.val / 64 = 0 then s0 else s1)
          (fun j => vt (ix2 j ⟨64 * 0 + l.val % 64, by omega⟩)) := by
  unfold tileLow
  pointwise
  rw [low_eq, select_ite]
  by_cases h : l.val / 64 = 0
  · rw [if_pos h, if_pos h, if_pos h, attend_apply col kt vt _ b0 s0 r l 0 (by norm_num)
      (fun d => qt (ix2 r ⟨64 * (l.val / 64) + d.val, by omega⟩))
      (fun l' hl' => by rw [keep_apply k0_pay6 0 low_eq, if_neg hl'])
      (fun d => by
        rw [keep_apply k0_pay6 0 low_eq, if_pos (by simp only; omega)]
        congr 3; simp only [h])]
    refine congrArg (row2 _ _) (funext fun j => congrArg (fun e => vt (ix2 j e)) (Fin.ext ?_))
    simp only
    omega
  · rw [if_neg h, if_neg h, if_neg h, turn_apply, attend_apply col kt vt _ b1 s1 r _ 0 (by norm_num)
      (fun d => qt (ix2 r ⟨64 * (l.val / 64) + d.val, by omega⟩))
      (fun l' hl' => by rw [keep_apply k0_pay6 0 low_eq, if_neg hl'])
      (fun d => by
        rw [keep_apply k0_pay6 0 low_eq, if_pos (by simp only; omega), turn_apply]
        congr 3; first | omega | (simp only; omega))]
    refine congrArg (row2 _ _) (funext fun j => congrArg (fun e => vt (ix2 j e)) (Fin.ext ?_))
    simp only
    omega

/-- A tile over the upper lanes of the keys, read at an index. -/
theorem tileHigh_apply (col : BitVec 32) (kt vt : FVec Ideal S256x128 .bf16) (qt : FVec Ideal S128x128 .f32)
    (b0 b1 : Vec Ideal S1x128x256 .f32) (s0 s1 : Elt Ideal .f32) (r l : Fin 128) :
    tileHigh (k0_pay5 col) kt vt qt b0 b1 s0 s1 (ix2 r l)
      = row2 (fun j : Fin 256 => if col = 0#32 ∧ j.val < 128 then ⊥
            else ∑ d : Fin 64, qt (ix2 r ⟨64 * (l.val / 64) + d.val, by omega⟩) * kt (ix2 j ⟨64 * 1 + d.val, by omega⟩)
              + (if l.val / 64 = 0 then b0 else b1) (ix3 0 r j)) (if l.val / 64 = 0 then s0 else s1)
          (fun j => vt (ix2 j ⟨64 * 1 + l.val % 64, by omega⟩)) := by
  unfold tileHigh
  pointwise
  rw [low_eq, select_ite]
  by_cases h : l.val / 64 = 0
  · rw [if_pos h, if_pos h, if_pos h, turn_apply, attend_apply col kt vt _ b0 s0 r _ 1 (by norm_num)
      (fun d => qt (ix2 r ⟨64 * (l.val / 64) + d.val, by omega⟩))
      (fun l' hl' => by rw [keep_apply upper 1 upper_eq, if_neg hl'])
      (fun d => by
        rw [keep_apply upper 1 upper_eq, if_pos (by simp only; omega), turn_apply]
        congr 3; first | omega | (simp only; omega))]
    refine congrArg (row2 _ _) (funext fun j => congrArg (fun e => vt (ix2 j e)) (Fin.ext ?_))
    simp only
    omega
  · rw [if_neg h, if_neg h, if_neg h, attend_apply col kt vt _ b1 s1 r l 1 (by norm_num)
      (fun d => qt (ix2 r ⟨64 * (l.val / 64) + d.val, by omega⟩))
      (fun l' hl' => by rw [keep_apply upper 1 upper_eq, if_neg hl'])
      (fun d => by
        rw [keep_apply upper 1 upper_eq, if_pos (by simp only; omega)]
        congr 3; first | omega | (simp only; omega))]
    refine congrArg (row2 _ _) (funext fun j => congrArg (fun e => vt (ix2 j e)) (Fin.ext ?_))
    simp only
    omega

/-- Two key or value blocks, one under the other. -/
def stacked (x y : Vec Ideal S128x256 .f32) (j : Fin 256) (e : Fin 256) : EReal :=
  if h : j.val < 128 then x (ix2 ⟨j.val, h⟩ e) else y (ix2 ⟨j.val - 128, by omega⟩ e)

/-- What a block of the attention holds at row `r` and lane `c`, in terms of the blocks it reads. -/
def blockSpec (col : BitVec 32) (x0 : Vec Ideal S24 .f32) (x1 : Vec Ideal S128x1536 .f32) (x2 x3 x4 x5 : Vec Ideal S128x256 .f32)
    (x6 : Vec Ideal S24x128x256 .f32) (r : Fin 128) (c : Fin 1536) : EReal :=
  row2 (fun j : Fin 256 => if col = 0#32 ∧ j.val < 128 then ⊥
      else ∑ d : Fin 64, (x1 (ix2 r ⟨64 * (c.val / 64) + d.val, by omega⟩) * (((8⁻¹ * (Real.log 2)⁻¹ : ℝ)) : EReal))
          * stacked x2 x3 j ⟨64 * (c.val / 384) + d.val, by omega⟩
        + x6 (ix3 ⟨c.val / 64, by omega⟩ r j))
    (x0 (ix1 ⟨c.val / 64, by omega⟩)) (fun j => stacked x4 x5 j ⟨64 * (c.val / 384) + c.val % 64, by omega⟩)

/-- The stacked blocks as the kernel concatenates them. -/
theorem keys_apply (x y : Vec Ideal S128x256 .f32) (j : Fin 256) (e : Fin 256) :
    k0_pay3 x y (ix2 j e) = stacked x y j e := by
  show concatenate S256x256 0 [⟨S128x256, x⟩, ⟨S128x256, y⟩] concatenates_S128x256_S128x256_S256x256_d0 (ix2 j e) = _
  unfold stacked
  split_ifs with h
  · exact concatenate_pair_apply_left (s₁ := S128x256) (s₂ := S128x256) (0 : Fin 2) x y _ (ix2 j e) rfl (ix2 ⟨j.val, h⟩ e)
      (fun b => match b with
        | ⟨0, _⟩ => rfl
        | ⟨1, _⟩ => rfl)
  · exact concatenate_pair_apply_right (s₁ := S128x256) (s₂ := S128x256) (0 : Fin 2) x y _ (ix2 j e) rfl rfl
      (ix2 ⟨j.val - 128, by omega⟩ e)
      (fun b => match b with
        | ⟨0, _⟩ => fun hb => absurd rfl hb
        | ⟨1, _⟩ => fun _ => rfl)
      (show j.val - 128 + 128 = j.val by omega)

/-- A tile's slice of the keys or values, read at an index. -/
theorem keys_slice (x y : Vec Ideal S128x256 .f32) (o : ℕ) (h : S256x256.Slices ![0, o] S256x128) (ho : o + 128 ≤ 256)
    (j : Fin 256) (e : Fin 128) :
    extractStridedSlice S256x128 ![0, o] (k0_pay3 x y) h (ix2 j e) = stacked x y j ⟨o + e.val, by omega⟩ := by
  rw [← keys_apply]
  exact extractStridedSlice_apply ![0, o] (k0_pay3 x y) h (ix2 j e) (ix2 j ⟨o + e.val, by omega⟩) (fun a => match a with
    | ⟨0, _⟩ => (Nat.zero_add _).symm
    | ⟨1, _⟩ => rfl)

/-- A tile of the scaled queries, read at an index. -/
theorem query_slice (x : Vec Ideal S128x1536 .f32) (o : ℕ) (h : S128x1536.Slices ![0, o] S128x128) (ho : o + 128 ≤ 1536)
    (r l : Fin 128) :
    extractStridedSlice S128x128 ![0, o] (k0_pay2 x) h (ix2 r l)
      = x (ix2 r ⟨o + l.val, by omega⟩) * (((8⁻¹ * (Real.log 2)⁻¹ : ℝ)) : EReal) := by
  refine (extractStridedSlice_apply ![0, o] (k0_pay2 x) h (ix2 r l) (ix2 r ⟨o + l.val, by omega⟩) (fun a => match a with
    | ⟨0, _⟩ => (Nat.zero_add _).symm
    | ⟨1, _⟩ => rfl)).trans ?_
  unfold k0_pay2
  pointwise
  rw [qscale_eq]

theorem bias_apply (x6 : Vec Ideal S24x128x256 .f32) (n : ℕ) (hn : n < 24) (inb) (r : Fin 128) (j : Fin 256) :
    biasOf x6 n inb (ix3 0 r j) = x6 (ix3 ⟨n, hn⟩ r j) := by
  unfold biasOf
  pointwise

theorem sink_apply (x0 : Vec Ideal S24 .f32) (n : ℕ) (hn : n < 24) (inb) : sinkOf x0 n inb = x0 (ix1 ⟨n, hn⟩) := by
  unfold sinkOf
  pointwise

/-- A lower tile in its place. -/
theorem low_value (col : BitVec 32) (x0 : Vec Ideal S24 .f32) (x1 : Vec Ideal S128x1536 .f32) (x2 x3 x4 x5 : Vec Ideal S128x256 .f32)
    (x6 : Vec Ideal S24x128x256 .f32) (t c o n0 n1 : ℕ) (ht : t < 12) (hc : c = 128 * t) (ho : o = 128 * (t / 6))
    (hκ : t / 3 % 2 = 0) (hn0 : n0 = 2 * t) (hn1 : n1 = 2 * t + 1) (h1 h2 h3 i0 i1 j0 j1) (r l : Fin 128) :
    tileLow (k0_pay5 col) (extractStridedSlice S256x128 ![0, o] (k0_pay3 x2 x3) h1)
        (extractStridedSlice S256x128 ![0, o] (k0_pay4 x4 x5) h2)
        (extractStridedSlice S128x128 ![0, c] (k0_pay2 x1) h3) (biasOf x6 n0 i0) (biasOf x6 n1 i1) (sinkOf x0 n0 j0)
        (sinkOf x0 n1 j1) (ix2 r l)
      = blockSpec col x0 x1 x2 x3 x4 x5 x6 r ⟨c + l.val, by omega⟩ := by
  subst hc ho hn0 hn1
  rw [tileLow_apply]
  unfold blockSpec
  have hb : ∀ j, (if l.val / 64 = 0 then biasOf x6 (2 * t) i0 else biasOf x6 (2 * t + 1) i1) (ix3 0 r j)
      = x6 (ix3 ⟨(128 * t + l.val) / 64, by omega⟩ r j) := fun j => by
    split_ifs with h
    · rw [bias_apply x6 _ (by omega)]; congr 2; exact Fin.ext (by simp only; omega)
    · rw [bias_apply x6 _ (by omega)]; congr 2; exact Fin.ext (by simp only; omega)
  have hs : (if l.val / 64 = 0 then sinkOf x0 (2 * t) j0 else sinkOf x0 (2 * t + 1) j1)
      = x0 (ix1 ⟨(128 * t + l.val) / 64, by omega⟩) := by
    split_ifs with h
    · rw [sink_apply x0 _ (by omega)]; congr 2; exact Fin.ext (by simp only; omega)
    · rw [sink_apply x0 _ (by omega)]; congr 2; exact Fin.ext (by simp only; omega)
  rw [hs]
  simp only [hb]
  have hv : ∀ j e, extractStridedSlice S256x128 ![0, 128 * (t / 6)] (k0_pay4 x4 x5) h2 (ix2 j e)
      = stacked x4 x5 j ⟨128 * (t / 6) + e.val, by omega⟩ := fun j e => keys_slice x4 x5 _ h2 (by omega) j e
  simp only [hv, keys_slice x2 x3 _ h1 (by omega), query_slice x1 _ h3 (by omega)]
  congr 1
  · funext j
    congr 1
    congr 1
    refine Finset.sum_congr rfl fun d _ => ?_
    congr 2
    · congr 2; exact Fin.ext (by simp only; omega)
    · exact Fin.ext (by simp only; omega)
  · funext j
    congr 1
    exact Fin.ext (by simp only; omega)

/-- An upper tile in its place. -/
theorem high_value (col : BitVec 32) (x0 : Vec Ideal S24 .f32) (x1 : Vec Ideal S128x1536 .f32) (x2 x3 x4 x5 : Vec Ideal S128x256 .f32)
    (x6 : Vec Ideal S24x128x256 .f32) (t c o n0 n1 : ℕ) (ht : t < 12) (hc : c = 128 * t) (ho : o = 128 * (t / 6))
    (hκ : t / 3 % 2 = 1) (hn0 : n0 = 2 * t) (hn1 : n1 = 2 * t + 1) (h1 h2 h3 i0 i1 j0 j1) (r l : Fin 128) :
    tileHigh (k0_pay5 col) (extractStridedSlice S256x128 ![0, o] (k0_pay3 x2 x3) h1)
        (extractStridedSlice S256x128 ![0, o] (k0_pay4 x4 x5) h2)
        (extractStridedSlice S128x128 ![0, c] (k0_pay2 x1) h3) (biasOf x6 n0 i0) (biasOf x6 n1 i1) (sinkOf x0 n0 j0)
        (sinkOf x0 n1 j1) (ix2 r l)
      = blockSpec col x0 x1 x2 x3 x4 x5 x6 r ⟨c + l.val, by omega⟩ := by
  subst hc ho hn0 hn1
  rw [tileHigh_apply]
  unfold blockSpec
  have hb : ∀ j, (if l.val / 64 = 0 then biasOf x6 (2 * t) i0 else biasOf x6 (2 * t + 1) i1) (ix3 0 r j)
      = x6 (ix3 ⟨(128 * t + l.val) / 64, by omega⟩ r j) := fun j => by
    split_ifs with h
    · rw [bias_apply x6 _ (by omega)]; congr 2; exact Fin.ext (by simp only; omega)
    · rw [bias_apply x6 _ (by omega)]; congr 2; exact Fin.ext (by simp only; omega)
  have hs : (if l.val / 64 = 0 then sinkOf x0 (2 * t) j0 else sinkOf x0 (2 * t + 1) j1)
      = x0 (ix1 ⟨(128 * t + l.val) / 64, by omega⟩) := by
    split_ifs with h
    · rw [sink_apply x0 _ (by omega)]; congr 2; exact Fin.ext (by simp only; omega)
    · rw [sink_apply x0 _ (by omega)]; congr 2; exact Fin.ext (by simp only; omega)
  rw [hs]
  simp only [hb]
  have hv : ∀ j e, extractStridedSlice S256x128 ![0, 128 * (t / 6)] (k0_pay4 x4 x5) h2 (ix2 j e)
      = stacked x4 x5 j ⟨128 * (t / 6) + e.val, by omega⟩ := fun j e => keys_slice x4 x5 _ h2 (by omega) j e
  simp only [hv, keys_slice x2 x3 _ h1 (by omega), query_slice x1 _ h3 (by omega)]
  congr 1
  · funext j
    congr 1
    congr 1
    refine Finset.sum_congr rfl fun d _ => ?_
    congr 2
    · congr 2; exact Fin.ext (by simp only; omega)
    · exact Fin.ext (by simp only; omega)
  · funext j
    congr 1
    exact Fin.ext (by simp only; omega)

/-- The contents of stored column tiles, newest first, at an index. -/
theorem canon_tile (o : ℕ) (inb) (w : S128x128.Idx → EReal) (L : List (View.Piece (Elt Ideal) S128x1536 .bf16)) (r : Fin 128)
    (c : Fin 1536) :
    View.canon ((⟨Rect.unit ![0, o] ![128, 128] inb, w⟩ : View.Piece (Elt Ideal) S128x1536 .bf16) :: L) (ix2 r c)
      = if h : o ≤ c.val ∧ c.val < o + 128 then w (ix2 r ⟨c.val - o, by omega⟩) else View.canon L (ix2 r c) := by
  split_ifs with h
  · have he : (Rect.unit (s := S128x1536) ![0, o] ![128, 128] inb).emb (ix2 (r : Fin 128) (⟨c.val - o, by omega⟩ : Fin 128)) = ix2 r c := by
      funext a
      match a with
      | ⟨0, _⟩ => exact Fin.ext (show 0 + 1 * r.val = r.val by omega)
      | ⟨1, _⟩ => exact Fin.ext (show o + 1 * (c.val - o) = c.val by omega)
    rw [← he]
    exact View.canon_cons_emb (Val := Elt Ideal) (Rect.unit (s := S128x1536) ![0, o] ![128, 128] inb) w L
      (ix2 (r : Fin 128) (⟨c.val - o, by omega⟩ : Fin 128))
  · refine View.canon_cons_of_not_mem _ L fun hm => h ?_
    have hm' : ix2 r c ∈ (Rect.unit (s := S128x1536) ![0, o] ![128, 128] inb).set := hm
    exact (Rect.mem_set_unit.mp hm') (1 : Fin 2)

/-- Every lane of a block is its head's softmax row. -/
theorem pieces_apply (col : BitVec 32) (x0 : Vec Ideal S24 .f32) (x1 : Vec Ideal S128x1536 .f32) (x2 x3 x4 x5 : Vec Ideal S128x256 .f32)
    (x6 : Vec Ideal S24x128x256 .f32) (r : Fin 128) (c : Fin 1536) :
    View.canon (pieces col x0 x1 x2 x3 x4 x5 x6) (ix2 r c) = blockSpec col x0 x1 x2 x3 x4 x5 x6 r c := by
  have hc : ∀ (o : ℕ) (h : o ≤ c.val) (h' : o + (c.val - o) < 1536), (⟨o + (c.val - o), h'⟩ : Fin 1536) = c := fun o h h' =>
    Fin.ext (by simp only; omega)
  unfold pieces
  rw [canon_tile]; split_ifs with h
  · rw [high_value _ _ _ _ _ _ _ _ 11 1408 128 22 23 (by norm_num) rfl rfl rfl rfl rfl, hc _ h.1]
  rw [canon_tile]; split_ifs with h
  · rw [high_value _ _ _ _ _ _ _ _ 10 1280 128 20 21 (by norm_num) rfl rfl rfl rfl rfl, hc _ h.1]
  rw [canon_tile]; split_ifs with h
  · rw [high_value _ _ _ _ _ _ _ _ 9 1152 128 18 19 (by norm_num) rfl rfl rfl rfl rfl, hc _ h.1]
  rw [canon_tile]; split_ifs with h
  · rw [low_value _ _ _ _ _ _ _ _ 8 1024 128 16 17 (by norm_num) rfl rfl rfl rfl rfl, hc _ h.1]
  rw [canon_tile]; split_ifs with h
  · rw [low_value _ _ _ _ _ _ _ _ 7 896 128 14 15 (by norm_num) rfl rfl rfl rfl rfl, hc _ h.1]
  rw [canon_tile]; split_ifs with h
  · rw [low_value _ _ _ _ _ _ _ _ 6 768 128 12 13 (by norm_num) rfl rfl rfl rfl rfl, hc _ h.1]
  rw [canon_tile]; split_ifs with h
  · rw [high_value _ _ _ _ _ _ _ _ 5 640 0 10 11 (by norm_num) rfl rfl rfl rfl rfl, hc _ h.1]
  rw [canon_tile]; split_ifs with h
  · rw [high_value _ _ _ _ _ _ _ _ 4 512 0 8 9 (by norm_num) rfl rfl rfl rfl rfl, hc _ h.1]
  rw [canon_tile]; split_ifs with h
  · rw [high_value _ _ _ _ _ _ _ _ 3 384 0 6 7 (by norm_num) rfl rfl rfl rfl rfl, hc _ h.1]
  rw [canon_tile]; split_ifs with h
  · rw [low_value _ _ _ _ _ _ _ _ 2 256 0 4 5 (by norm_num) rfl rfl rfl rfl rfl, hc _ h.1]
  rw [canon_tile]; split_ifs with h
  · rw [low_value _ _ _ _ _ _ _ _ 1 128 0 2 3 (by norm_num) rfl rfl rfl rfl rfl, hc _ h.1]
  rw [canon_tile]; split_ifs with h
  · rw [low_value _ _ _ _ _ _ _ _ 0 0 0 0 1 (by norm_num) rfl rfl rfl rfl rfl, hc _ h.1]
  have := c.isLt
  omega

end Cert.KernelIdeal.Tile

end
-- ==== Proof.HostValue.lean ====
/- The arrays the kernel's host code prepares: the banded bias, laid out along the diagonals, and the sinks, both in
   binary logits. -/
module

public import proofs.«01_k».proof.Proof.HeadValue
public import Idealize.ShloMosaic.Lib.Routing.Ops
public import Idealize.ShloMosaic.Lib.StableHlo.Run

@[expose] public section

set_option maxRecDepth 16384

noncomputable section

namespace Cert.KernelIdeal.Tile

open Cert.KernelIdeal Cert.KernelIdeal.Gen Idealize.ShloMosaic Idealize.SL.Sem Cert.RowMath
open Idealize.ShloMosaic.TcCoe

/-- Every entry of the bucket table names a row of the bias table. -/
theorem bucket_lt : ∀ n : Fin 384, (lit0 n).toNat < 32 := by decide +kernel

/-- The binary logarithm's unit as the host computes it. -/
theorem unit_eq : Ideal.div (Ideal.ofBits .f32 0x3F800000#32) (Ideal.log (Ideal.ofBits .f32 0x40000000#32)) = lc := by
  have h2 : Ideal.ofBits .f32 0x40000000#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [Ideal.ofBits_one_f32, h2, hl, Ideal.div, if_neg (by exact_mod_cast log_two_pos.ne'), one_mul, lc]
  exact (EReal.coe_inv _).symm

variable (m : (ℓ : Loc nD τ sig) → Buf (Elt Ideal) ℓ)

/-- The packed rows the kernel and the reference read. -/
def rowsOf (c : Dev nD) : Vec Ideal S8448x2048 .f32 := m ((c : Thread nD τ).loc main_arg0)
/-- The sinks. -/
def sinksOf (c : Dev nD) : Vec Ideal S24 .f32 := m ((c : Thread nD τ).loc main_arg1)
/-- The table of relative biases. -/
def tableOf (c : Dev nD) : Vec Ideal S32x24 .f32 := m ((c : Thread nD τ).loc main_arg2)

/-- The sinks the kernel is launched with are the sinks in binary logits. -/
theorem sinks_eq (c : Dev nD) (g : Fin 24) :
    (V m c main_v21 : Vec Ideal S24 .f32) (ix1 g) = (sinksOf m c (ix1 g) * lc : EReal) := by
  unfold V
  simp only [hostOps0, hostOps0_1, hostOps0_2, List.flatten_cons, List.flatten_nil, List.append_nil, List.cons_append, List.nil_append]
  after_results_simp
  pointwise
  have h := unit_eq
  rw [Ideal.ofBits_one_f32] at h
  rw [h]
  rfl

/-- A row of the bias table taken by a bucket. -/
theorem bucket_row (X : FVec Ideal S32x24 .f32) (idx : IVec S384x1 32) (n : Fin 384) (h : Fin 24) (b : Fin 32)
    (hb : idx (ix2 n (0 : Fin 1)) = BitVec.ofNat 32 b.val) :
    Host.gather gather_S32x24_S384x1_S384x24_1_0_n_n_0_1_124 X idx (ix2 n h) = X (ix2 b h) :=
  Routing.gather_row _ rfl rfl rfl rfl rfl X idx n h b hb (by decide)

/-- The bias at row `r` and key column `k` of a tile is the entry of the line of distances the diagonal layout puts there:
    the bias of that entry's bucket in binary logits where the entry is a key in the band, and minus infinity elsewhere. -/
theorem bias_eq (c : Dev nD) (h : Fin 24) (r : Fin 128) (k : Fin 256) :
    (V m c main_v17 : Vec Ideal S24x128x256 .f32) (ix3 h r k) =
      (if lit1 (⟨(r.val * 383 + k.val) % 384, Nat.mod_lt _ (by decide)⟩ : Fin 384) = 1#1 then
        tableOf m c (ix2 ⟨(lit0 (⟨(r.val * 383 + k.val) % 384, Nat.mod_lt _ (by decide)⟩ : Fin 384)).toNat, bucket_lt _⟩ h) * lc
      else ⊥ : EReal) := by
  unfold V
  simp only [hostOps0, hostOps0_1, hostOps0_2, List.flatten_cons, List.flatten_nil, List.append_nil, List.cons_append, List.nil_append]
  after_results_simp
  pointwise
  generalize (⟨(r.val * 383 + k.val) % 384, Nat.mod_lt _ (by decide)⟩ : Fin 384) = n
  change select (broadcastInDim S384x24 ![0, 1] bcast_S384x1_S384x24_0_1
        (broadcastInDim S384x1 ![0] bcast_S384_S384x1_0 fun i => lit1 (S384.rowMajor i)))
      (Host.gather gather_S32x24_S384x1_S384x24_1_0_n_n_0_1_124
        (mulf (show FVec Ideal S32x24 .f32 from tableOf m c) (broadcastInDim S32x24 ![] bcast_S_S32x24
          (Host.divf (constant S_ FTy.f32 1065353216#32) (Host.log (constant S_ FTy.f32 1073741824#32)))))
        (broadcastInDim S384x1 ![0] bcast_S384_S384x1_0
          (select (constantI S384 1 0#1)
            (addi (fun i => lit0 (S384.rowMajor i)) (broadcastInDim S384 ![] bcast_S_S384 (constantI S_ 32 32#32)))
            fun i => lit0 (S384.rowMajor i))))
      (broadcastInDim S384x24 ![] bcast_S_S384x24 (constant S_ FTy.f32 4286578688#32)) (ix2 n h) = _
  unfold select
  have hn : S384.rowMajor (ix1 n) = n := Fin.ext (Shape.rowMajor_val_one _)
  refine (congrArg (fun z => Scalar.select _ z _) (bucket_row _ _ n h ⟨(lit0 n).toNat, bucket_lt n⟩ ?_)).trans ?_
  · pointwise
    rw [hn, BitVec.ofNat_toNat, BitVec.setWidth_eq]
  · have h1 := unit_eq
    have h0 : Ideal.ofBits .f32 4286578688#32 = ⊥ := by simp [Ideal.ofBits, Ideal.ieee]
    rw [Ideal.ofBits_one_f32] at h1
    pointwise
    rw [hn, h1, h0]
    rfl

end Cert.KernelIdeal.Tile

end
-- ==== Proof.Blocks.lean ====
/- Where each grid point's blocks lie in the arrays, and what the point reads there. -/
module

public import proofs.«01_k».proof.Proof.HostValue
public import proofs.«01_k».proof.Proof.Gen.KernelIdeal.Value
public import Idealize.ShloMosaic.Lib.Pipeline.ValueKit

@[expose] public section

set_option maxRecDepth 16384

noncomputable section

namespace Cert.KernelIdeal.Tile

open Cert.KernelIdeal Cert.KernelIdeal.Gen Idealize.ShloMosaic Idealize.SL.Sem Cert.RowMath
open Idealize.ShloMosaic.TcCoe

/-- The block indices of the windows at the points that compute attention: point `t` handles the `t`-th tile of rows. -/
theorem index_low : ∀ t : Fin grid0.N, t.val < 64 →
    win0_0.index t = ![0] ∧ win0_1.index t = ![t.val, 0] ∧ win0_2.index t = ![t.val - (if t.val % 16 = 0 then 0 else 1), 6]
      ∧ win0_3.index t = ![t.val, 6] ∧ win0_4.index t = ![t.val - (if t.val % 16 = 0 then 0 else 1), 7] ∧ win0_5.index t = ![t.val, 7]
      ∧ win0_6.index t = ![0, 0, 0] ∧ win0_7.index t = ![t.val, 0] ∧ (grid0.coords t 1).val = t.val % 16 := by
  decide +kernel

/-- The block index of the output at the points behind the last sequence. -/
theorem index_high : ∀ t : Fin grid0.N, 64 ≤ t.val → win0_7.index t = ![if t.val = 64 then 64 else 65, 0] := by
  decide +kernel

variable (m : (ℓ : Loc nD τ sig) → Buf (Elt Ideal) ℓ)

/-- The sinks' block is all the sinks. -/
theorem sink_block (c : Dev nD) (t : Fin cfg0.N) (ht : t.val < 64) (g : Fin 24) :
    (iblk m c 0 t : Vec Ideal S24 .f32) (ix1 g) = (sinksOf m c (ix1 g) * lc : EReal) := by
  rw [← sinks_eq]
  obtain ⟨e0, e1, e2, e3, e4, e5, e6, e7, e8⟩ := index_low t ht
  blk_ext [iblk, e0]

/-- The bias block is the whole bias. -/
theorem bias_block (c : Dev nD) (t : Fin cfg0.N) (ht : t.val < 64) (g : Fin 24) (r : Fin 128) (k : Fin 256) :
    (iblk m c 6 t : Vec Ideal S24x128x256 .f32) (ix3 g r k) = (V m c main_v17 : Vec Ideal S24x128x256 .f32) (ix3 g r k) := by
  obtain ⟨e0, e1, e2, e3, e4, e5, e6, e7, e8⟩ := index_low t ht
  blk_ext [iblk, e6]

/-- The queries' block: the tile's rows, the first 1536 columns. -/
theorem query_block (c : Dev nD) (t : Fin cfg0.N) (ht : t.val < 64) (r : Fin 128) (k : Fin 1536) :
    (X0_1 m c t : Vec Ideal S128x1536 .f32) (ix2 r k)
      = rowsOf m c (ix2 ⟨t.val * 128 + r.val, by omega⟩ ⟨k.val, by omega⟩) := by
  obtain ⟨e0, e1, e2, e3, e4, e5, e6, e7, e8⟩ := index_low t ht
  unfold X0_1 rowsOf
  unfold Pipeline.Window.fill
  rw [dif_pos (moved0_1 t _)]
  blk_ext [iblk, V_main_arg0, e1]

/-- The block of keys before the tile's own (the tile's own at a sequence's first tile). -/
theorem prev_key_block (c : Dev nD) (t : Fin cfg0.N) (ht : t.val < 64) (r : Fin 128) (k : Fin 256) :
    (iblk m c 2 t : Vec Ideal S128x256 .f32) (ix2 r k)
      = rowsOf m c (ix2 ⟨(t.val - (if t.val % 16 = 0 then 0 else 1)) * 128 + r.val, by split_ifs <;> omega⟩ ⟨1536 + k.val, by omega⟩) := by
  obtain ⟨e0, e1, e2, e3, e4, e5, e6, e7, e8⟩ := index_low t ht
  unfold rowsOf
  blk_ext [iblk, V_main_arg0, e2]

/-- The tile's own keys. -/
theorem cur_key_block (c : Dev nD) (t : Fin cfg0.N) (ht : t.val < 64) (r : Fin 128) (k : Fin 256) :
    (iblk m c 3 t : Vec Ideal S128x256 .f32) (ix2 r k)
      = rowsOf m c (ix2 ⟨t.val * 128 + r.val, by omega⟩ ⟨1536 + k.val, by omega⟩) := by
  obtain ⟨e0, e1, e2, e3, e4, e5, e6, e7, e8⟩ := index_low t ht
  unfold rowsOf
  blk_ext [iblk, V_main_arg0, e3]

/-- The block of values before the tile's own (the tile's own at a sequence's first tile). -/
theorem prev_value_block (c : Dev nD) (t : Fin cfg0.N) (ht : t.val < 64) (r : Fin 128) (k : Fin 256) :
    (iblk m c 4 t : Vec Ideal S128x256 .f32) (ix2 r k)
      = rowsOf m c (ix2 ⟨(t.val - (if t.val % 16 = 0 then 0 else 1)) * 128 + r.val, by split_ifs <;> omega⟩ ⟨1792 + k.val, by omega⟩) := by
  obtain ⟨e0, e1, e2, e3, e4, e5, e6, e7, e8⟩ := index_low t ht
  unfold rowsOf
  blk_ext [iblk, V_main_arg0, e4]

/-- The tile's own values. -/
theorem cur_value_block (c : Dev nD) (t : Fin cfg0.N) (ht : t.val < 64) (r : Fin 128) (k : Fin 256) :
    (iblk m c 5 t : Vec Ideal S128x256 .f32) (ix2 r k)
      = rowsOf m c (ix2 ⟨t.val * 128 + r.val, by omega⟩ ⟨1792 + k.val, by omega⟩) := by
  obtain ⟨e0, e1, e2, e3, e4, e5, e6, e7, e8⟩ := index_low t ht
  unfold rowsOf
  blk_ext [iblk, V_main_arg0, e5]

end Cert.KernelIdeal.Tile

end
-- ==== Proof.Spec.lean ====
/- The attention of one row and one head as a function of the packed rows, the sinks and the bias table, in the order of
   operations of the reference; and that a block the kernel computes holds it. -/
module

public import proofs.«01_k».proof.Proof.Blocks

@[expose] public section

set_option maxRecDepth 16384

noncomputable section

namespace Cert.KernelIdeal.Tile

open Cert.KernelIdeal Cert.KernelIdeal.Gen Idealize.ShloMosaic Idealize.SL.Sem Cert.RowMath
open Idealize.ShloMosaic.TcCoe

/-- The entry of the line of distances that row `r` of a tile meets at key column `j`. -/
def line (r : Fin 128) (j : Fin 256) : Fin 384 := ⟨(r.val * 383 + j.val) % 384, Nat.mod_lt _ (by decide)⟩

/-- The row that key column `j` of tile `t` stands for. -/
def keyRow (t : Fin 64) (j : Fin 256) : Fin 8448 := ⟨t.val * 128 + j.val - 128, by omega⟩

/-- The logit of row `r` of tile `t`, at head lane `c`, against key column `j`: minus infinity where no key is attended,
    else the scaled score plus the bias of the distance's bucket. -/
def logit (rows : S8448x2048.Idx → EReal) (table : S32x24.Idx → EReal) (t : Fin 64) (r : Fin 128) (c : Fin 1536)
    (j : Fin 256) : EReal :=
  if (t.val % 16 = 0 ∧ j.val < 128) ∨ ¬ lit1 (line r j) = 1#1 then ⊥
  else (∑ d : Fin 64, rows (ix2 (keyRow t j) ⟨1536 + (64 * (c.val / 384) + d.val), by omega⟩)
        * rows (ix2 ⟨t.val * 128 + r.val, by omega⟩ ⟨64 * (c.val / 64) + d.val, by omega⟩)) * ((8⁻¹ : ℝ) : EReal)
      + table (ix2 ⟨(lit0 (line r j)).toNat, bucket_lt _⟩ ⟨c.val / 64, by omega⟩)

/-- The attention's value at row `r` of tile `t` and lane `c`. -/
def attended (rows : S8448x2048.Idx → EReal) (sinks : S24.Idx → EReal) (table : S32x24.Idx → EReal)
    (t : Fin 64) (r : Fin 128) (c : Fin 1536) : EReal :=
  row (logit rows table t r c) (sinks (ix1 ⟨c.val / 64, by omega⟩))
    (fun j => rows (ix2 (keyRow t j) ⟨1792 + (64 * (c.val / 384) + c.val % 64), by omega⟩))

variable (m : (ℓ : Loc nD τ sig) → Buf (Elt Ideal) ℓ)

/-- The two stacked key blocks at an attended key column: the key's row. -/
theorem stacked_keys (c : Dev nD) (t : Fin cfg0.N) (ht : t.val < 64) (j e : Fin 256) (hj : ¬(t.val % 16 = 0 ∧ j.val < 128)) :
    stacked (iblk m c 2 t : Vec Ideal S128x256 .f32) (iblk m c 3 t : Vec Ideal S128x256 .f32) j e
      = rowsOf m c (ix2 (keyRow ⟨t.val, ht⟩ j) ⟨1536 + e.val, by omega⟩) := by
  unfold stacked
  split_ifs with h
  · rw [prev_key_block m c t ht]
    refine congrArg (rowsOf m c) (congrArg (fun z => ix2 z _) (Fin.ext ?_))
    have : ¬ t.val % 16 = 0 := fun h' => hj ⟨h', h⟩
    simp only [keyRow, if_neg this]; omega
  · rw [cur_key_block m c t ht]
    refine congrArg (rowsOf m c) (congrArg (fun z => ix2 z _) (Fin.ext ?_))
    simp only [keyRow]; omega

/-- The two stacked value blocks at an attended key column: the key's row. -/
theorem stacked_values (c : Dev nD) (t : Fin cfg0.N) (ht : t.val < 64) (j e : Fin 256) (hj : ¬(t.val % 16 = 0 ∧ j.val < 128)) :
    stacked (iblk m c 4 t : Vec Ideal S128x256 .f32) (iblk m c 5 t : Vec Ideal S128x256 .f32) j e
      = rowsOf m c (ix2 (keyRow ⟨t.val, ht⟩ j) ⟨1792 + e.val, by omega⟩) := by
  unfold stacked
  split_ifs with h
  · rw [prev_value_block m c t ht]
    refine congrArg (rowsOf m c) (congrArg (fun z => ix2 z _) (Fin.ext ?_))
    have : ¬ t.val % 16 = 0 := fun h' => hj ⟨h', h⟩
    simp only [keyRow, if_neg this]; omega
  · rw [cur_value_block m c t ht]
    refine congrArg (rowsOf m c) (congrArg (fun z => ix2 z _) (Fin.ext ?_))
    simp only [keyRow]; omega

/-- The block point `t` computes holds the attention of tile `t`. -/
theorem block_attended (c : Dev nD) (t : Fin cfg0.N) (ht : t.val < 64) (r : Fin 128) (k : Fin 1536) :
    blockSpec (BitVec.ofNat 32 (grid0.coords t 1).val) (iblk m c 0 t) (X0_1 m c t) (iblk m c 2 t) (iblk m c 3 t) (iblk m c 4 t)
        (iblk m c 5 t) (iblk m c 6 t) r k
      = attended (rowsOf m c) (sinksOf m c) (tableOf m c) ⟨t.val, ht⟩ r k := by
  have hcol : (BitVec.ofNat 32 (grid0.coords t 1).val = 0#32) ↔ t.val % 16 = 0 := by
    obtain ⟨e0, e1, e2, e3, e4, e5, e6, e7, e8⟩ := index_low t ht
    rw [e8]
    constructor
    · intro h
      have := congrArg BitVec.toNat h
      simp only [BitVec.toNat_ofNat] at this
      omega
    · intro h; rw [h]
  unfold blockSpec attended
  refine row2_eq_row _ _ _ _ _ _ ?_ (sink_block m c t ht _) ?_
  · intro j
    unfold logit
    by_cases hm : t.val % 16 = 0 ∧ j.val < 128
    · rw [if_pos ⟨hcol.mpr hm.1, hm.2⟩, if_pos (Or.inl hm), bot_mul_lc]
    · rw [if_neg (fun h => hm ⟨hcol.mp h.1, h.2⟩), bias_block m c t ht, bias_eq]
      change _ + (if lit1 (line r j) = 1#1 then tableOf m c (ix2 ⟨(lit0 (line r j)).toNat, bucket_lt _⟩ _) * lc else (⊥ : EReal)) = _
      simp only [stacked_keys m c t ht j _ hm, query_block m c t ht]
      by_cases hv : lit1 (line r j) = 1#1
      · rw [if_pos hv, if_neg (show ¬((t.val % 16 = 0 ∧ j.val < 128) ∨ ¬ lit1 (line r j) = 1#1) from fun h => h.elim hm (fun h => h hv))]
        exact logit_scaled _ _ _
      · rw [if_neg hv, if_pos (show (t.val % 16 = 0 ∧ j.val < 128) ∨ ¬ lit1 (line r j) = 1#1 from Or.inr hv), bot_mul_lc, EReal.add_bot]
  · intro j hj
    have hm : ¬(t.val % 16 = 0 ∧ j.val < 128) := fun h => hj (by unfold logit; rw [if_pos (Or.inl h)])
    exact (stacked_values m c t ht j ⟨64 * (k.val / 384) + k.val % 64, by omega⟩ hm).symm

/-- The whole result: the attention on the rows of the sequences, zero behind them. -/
def result (rows : S8448x2048.Idx → EReal) (sinks : S24.Idx → EReal) (table : S32x24.Idx → EReal) (i : S8448x1536.Idx) : EReal :=
  if h : (i 0).val < 8192 then
    attended rows sinks table ⟨(i 0).val / 128, by omega⟩ ⟨(i 0).val % 128, by omega⟩ (i 1)
  else 0

/-- The output array after the run is the whole result. -/
theorem final_array (c : Dev nD) :
    (dats m 0 c).arrAt 7 cfg0.N = (result (rowsOf m c) (sinksOf m c) (tableOf m c) : Vec Ideal S8448x1536 .bf16) := by
  refine (dats m 0 c).arrAt_eq_of_covers 7 _ (by decide +kernel) fun t hf y => ?_
  blk_simp
  obtain ⟨r, k, rfl⟩ : ∃ (r : Fin 128) (k : Fin 1536), y = ix2 r k := ⟨y 0, y 1, eq_ix2 y⟩
  by_cases ht : t.val < 64
  · have e7 : win0_7.index t = ![t.val, 0] := (index_low t ht).2.2.2.2.2.2.2.1
    refine (congrFun (Value.flushed7_A m c t ht (by omega)) (ix2 r k)).trans ?_
    refine (block_pieces c (grid0.coords t) _ _ _ _ _ _ _ _ _ _ _ _ _ _ _ _ _ _ _ _ _ _ _ _ _ (ix2 r k)).trans ?_
    refine (pieces_apply _ _ _ _ _ _ _ _ r k).trans ?_
    refine (block_attended m c t ht r k).trans ?_
    have h0 : ((win0_7.blk t).view.emb (ix2 r k) 0 : ℕ) = t.val * 128 + r.val := by blk_simp [e7]; try omega
    have h1 : (win0_7.blk t).view.emb (ix2 r k) 1 = k := Fin.ext (by blk_simp [e7])
    unfold result
    rw [dif_pos (by rw [h0]; omega), h1]
    congr 1
    · apply Fin.ext; simp only [h0]; omega
    · apply Fin.ext; simp only [h0]; omega
  · have e7 := index_high t (by omega)
    refine (congrFun (Value.flushed7_B m c t ht (by omega)) (ix2 r k)).trans ?_
    refine (tail_block c (grid0.coords t) _ _ _ _ _ _ _ _ _ _ _ _ _ _ _ _ _ _ _ _ _ _ _ _ _ (ix2 r k)).trans ?_
    have h0 : ((win0_7.blk t).view.emb (ix2 r k) 0 : ℕ) = (if t.val = 64 then 64 else 65) * 128 + r.val := by blk_simp [e7]; try omega
    unfold result
    rw [dif_neg (by rw [h0]; split_ifs <;> omega)]
    exact Ideal.ofBits_zero_bf16

end Cert.KernelIdeal.Tile

end
-- ==== Proof.RefMask.lean ====
/- Which keys the reference attends and which row of the bias table it adds, compared with the kernel's line of
   distances. -/
module

public import proofs.«01_k».proof.Proof.RefRows
public import proofs.«01_k».proof.Proof.Spec

@[expose] public section

set_option maxRecDepth 16384

noncomputable section

namespace Cert.ReferenceIdeal.Rows

open Cert.ReferenceIdeal Cert.ReferenceIdeal.Gen Cert.ReferenceIdeal.Read Idealize.ShloMosaic Idealize.SL.Sem
open Cert.KernelIdeal.Tile (line bucket_lt)

/-- The distance an entry of the kernel's line stands for. -/
def distanceAt (n : Fin 384) : BitVec 32 := if n.val < 256 then 128#32 - BitVec.ofNat 32 n.val else BitVec.ofNat 32 (512 - n.val)

/-- The reference's distance of row `r` and key column `j` is the one of the entry the diagonal layout puts there. -/
theorem distance_eq (r : Fin 128) (j : Fin 256) : val_main_v26 (F := Ideal) (ix2 r j) = distanceAt (line r j) := by
  simp only [val_main_v26_apply, val_main_v25_apply, val_main_v24_apply, val_main_v23_apply, val_main_v22_apply, val_main_c_1_apply]
  show (BitVec.ofNat 32 r.val + 128#32) - BitVec.ofNat 32 j.val = _
  unfold distanceAt
  by_cases h : r.val ≤ j.val
  · have hl : (line r j).val = j.val - r.val := by show (r.val * 383 + j.val) % 384 = _; omega
    rw [hl, if_pos (by omega)]
    apply BitVec.eq_of_toNat_eq
    simp only [BitVec.toNat_sub, BitVec.toNat_add, BitVec.toNat_ofNat]
    omega
  · have hl : (line r j).val = 384 + j.val - r.val := by show (r.val * 383 + j.val) % 384 = _; omega
    rw [hl, if_neg (by omega)]
    apply BitVec.eq_of_toNat_eq
    simp only [BitVec.toNat_sub, BitVec.toNat_add, BitVec.toNat_ofNat]
    omega

/-- Whether a distance lies in the band, as the reference computes it. -/
def inBand (w : BitVec 32) : BitVec 1 := IntOp.andi (IntOp.cmpi .sge w 0#32) (IntOp.cmpi .sle w 127#32)

/-- One step of the reference's bucket count. -/
def countAt (w f b : BitVec 32) : BitVec 32 := IntOp.addi b ((IntOp.cmpi .sge w f).setWidth 32)

/-- The bucket of a distance before the table's wrap, as the reference counts it. -/
def bucketCount (w : BitVec 32) : BitVec 32 :=
  countAt w 99#32 (countAt w 73#32 (countAt w 54#32 (countAt w 40#32 (countAt w 30#32 (countAt w 22#32 (countAt w 16#32
    (IntOp.minsi 15#32 (IntOp.maxsi 0#32 w))))))))

/-- The row of the bias table the reference takes for a distance. -/
def bucketWord (w : BitVec 32) : BitVec 32 :=
  Scalar.select (IntOp.cmpi .slt (bucketCount w) 0#32) (IntOp.addi (bucketCount w) 32#32) (bucketCount w)

/-- The kernel's line marks exactly the entries in the band. -/
theorem band_eq : ∀ n : Fin 384, inBand (distanceAt n) = Cert.KernelIdeal.lit1 n := by decide +kernel

/-- In the band the two bucket tables name the same row. -/
theorem bucket_eq : ∀ n : Fin 384, Cert.KernelIdeal.lit1 n = 1#1 →
    min (bucketWord (distanceAt n)).toInt.toNat 31 = (Cert.KernelIdeal.lit0 n).toNat := by decide +kernel

/-- The reference's band mask. -/
theorem band_apply (r : Fin 128) (j : Fin 256) :
    val_main_v83 (F := Ideal) (ix2 r j) = Cert.KernelIdeal.lit1 (line r j) := by
  rw [← band_eq, ← distance_eq]
  simp only [val_main_v83_apply, val_main_v82_apply, val_main_v81_apply, val_main_v80_apply, val_main_v79_apply, val_main_c_15_apply,
    val_main_c_16_apply]
  rfl

/-- The reference's row of the bias table. -/
theorem bucket_apply (r : Fin 128) (j : Fin 256) :
    val_main_v61 (F := Ideal) (ix3 r j (0 : Fin 1)) = bucketWord (distanceAt (line r j)) := by
  rw [← distance_eq, val_main_v61_apply]
  simp only [val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_call2_v0_apply, val_main_call2_v1_apply, val_main_call2_v2_apply, val_main_call2_v3_apply, val_main_call2_v4_apply]
  rfl

/-- Whether key column `j` of block `b` stands before its sequence, as the reference computes it. -/
theorem start_table : ∀ (b : Fin 16) (j : Fin 256),
    IntOp.cmpi .sge (IntOp.subi (IntOp.addi (IntOp.muli (BitVec.ofNat 32 b.val) 128#32) (BitVec.ofNat 32 j.val)) 128#32) 0#32
      = if b.val = 0 ∧ j.val < 128 then 0#1 else 1#1 := by decide +kernel

/-- The reference's mask of one block: the key stands in its sequence and in the band. -/
theorem mask_apply (b : Fin 16) (r : Fin 128) (j : Fin 256) :
    val_main_v88 (F := Ideal) (ix3 b r j)
      = IntOp.andi (Cert.KernelIdeal.lit1 (line r j)) (if b.val = 0 ∧ j.val < 128 then 0#1 else 1#1) := by
  rw [← band_apply, ← start_table, val_main_v88_apply, val_main_v87_apply, val_main_v86_apply]
  simp only [val_main_v85_apply, val_main_v84_apply, val_main_v78_apply, val_main_v77_apply, val_main_v76_apply, val_main_v75_apply,
    val_main_v74_apply, val_main_v73_apply, val_main_v72_apply, val_main_c_13_apply, val_main_c_14_apply, val_main_c_17_apply]
  refine congrArg₂ IntOp.andi (congrArg (val_main_v83 (F := Ideal)) ?_) rfl
  blk_ext []

/-- A row of the bias table taken by a bucket word, read signed and kept in the table. -/
theorem take_apply (x : S32x24.Idx → EReal) (idx : IVec S128x256x1 32) (r : Fin 128) (j : Fin 256) (e : Fin 24) :
    Host.gather gather_S32x24_S128x256x1_S128x256x24_2_0_n_n_0_2_124 x idx (ix3 r j e)
      = x (ix2 ⟨min (idx (ix3 r j (0 : Fin 1))).toInt.toNat 31, by omega⟩ e) := by
  unfold Host.gather
  refine congrArg x (funext fun a => Fin.ext ?_)
  match a with
  | ⟨0, _⟩ =>
    show GatherDims.start _ (ix3 r j e) idx 0 + GatherDims.batchCoord _ (ix3 r j e) 0 + GatherDims.offCoord _ (ix3 r j e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x24_S128x256x1_S128x256x24_2_0_n_n_0_2_124.startIndexMap from List.mem_singleton.mpr rfl)]
    have hsi : GatherDims.siIdx gather_S32x24_S128x256x1_S128x256x24_2_0_n_n_0_2_124 (ix3 r j e)
        ⟨List.idxOf (0 : Fin 2) gather_S32x24_S128x256x1_S128x256x24_2_0_n_n_0_2_124.startIndexMap,
          List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 r j e) idx 1 + GatherDims.batchCoord _ (ix3 r j e) 1 + GatherDims.offCoord _ (ix3 r j e) 1 = e.val
    rw [GatherDims.batchCoord_eq_zero _ _ _ List.not_mem_nil, Nat.add_zero]
    unfold GatherDims.start GatherDims.offCoord
    rw [dif_neg (show ¬(1 : Fin 2) ∈ gather_S32x24_S128x256x1_S128x256x24_2_0_n_n_0_2_124.startIndexMap by decide),
      dif_pos (show (1 : Fin 2) ∈ gather_S32x24_S128x256x1_S128x256x24_2_0_n_n_0_2_124.sKept by decide), Nat.zero_add]
    rfl

/-- The bias the reference adds in the band. -/
theorem bias_apply (x2 : (⟨S32x24, .f32⟩ : BufTy).Contents (Elt Ideal)) (h : Fin 4) (g : Fin 6) (r : Fin 128) (j : Fin 256)
    (hv : Cert.KernelIdeal.lit1 (line r j) = 1#1) :
    val_main_v64 (F := Ideal) x2 (ix4 h g r j)
      = x2 (ix2 ⟨(Cert.KernelIdeal.lit0 (line r j)).toNat, bucket_lt _⟩ ⟨h.val * 6 + g.val, by omega⟩) := by
  have hi : idx_main_v63 (idx_main_v64 (ix4 h g r j)) = ix3 r j ⟨h.val * 6 + g.val, by omega⟩ := by blk_ext []
  rw [val_main_v64_apply, val_main_v63_apply, hi]
  refine (take_apply x2 _ r j _).trans (congrArg x2 (congrArg (fun z => ix2 z _) (Fin.ext ?_)))
  show min (val_main_v61 (F := Ideal) (ix3 r j (0 : Fin 1))).toInt.toNat 31 = _
  rw [bucket_apply, bucket_eq _ hv]

end Cert.ReferenceIdeal.Rows

end
-- ==== Proof.RefValue.lean ====
/- What the reference computes, entry by entry: the attention of `Spec`, zero behind the sequences. -/
module

public import proofs.«01_k».proof.Proof.RefMask

@[expose] public section

set_option maxRecDepth 16384

noncomputable section

namespace Cert.ReferenceIdeal.Rows

open Cert.ReferenceIdeal Cert.ReferenceIdeal.Gen Cert.ReferenceIdeal.Read Idealize.ShloMosaic Idealize.SL.Sem Cert.RowMath
open Cert.KernelIdeal.Tile (line bucket_lt logit attended keyRow result)

/-- Two indices with five equal coordinates. -/
theorem ext5 {n0 n1 n2 n3 n4 : ℕ} {i k : (⟨5, ![n0, n1, n2, n3, n4]⟩ : Shape).Idx} (h0 : i 0 = k 0) (h1 : i 1 = k 1) (h2 : i 2 = k 2)
    (h3 : i 3 = k 3) (h4 : i 4 = k 4) : i = k := funext fun a => match a with
  | ⟨0, _⟩ => h0
  | ⟨1, _⟩ => h1
  | ⟨2, _⟩ => h2
  | ⟨3, _⟩ => h3
  | ⟨4, _⟩ => h4

/-- Two indices with six equal coordinates. -/
theorem ext6 {n0 n1 n2 n3 n4 n5 : ℕ} {i k : (⟨6, ![n0, n1, n2, n3, n4, n5]⟩ : Shape).Idx} (h0 : i 0 = k 0) (h1 : i 1 = k 1)
    (h2 : i 2 = k 2) (h3 : i 3 = k 3) (h4 : i 4 = k 4) (h5 : i 5 = k 5) : i = k := funext fun a => match a with
  | ⟨0, _⟩ => h0
  | ⟨1, _⟩ => h1
  | ⟨2, _⟩ => h2
  | ⟨3, _⟩ => h3
  | ⟨4, _⟩ => h4
  | ⟨5, _⟩ => h5

variable (x0 : (⟨S8448x2048, .f32⟩ : BufTy).Contents (Elt Ideal)) (x1 : (⟨S24, .f32⟩ : BufTy).Contents (Elt Ideal))
  (x2 : (⟨S32x24, .f32⟩ : BufTy).Contents (Elt Ideal))

/-- The tile of block `b` of sequence `n`. -/
def tile (n : Fin 4) (b : Fin 16) : Fin 64 := ⟨n.val * 16 + b.val, by omega⟩

/-- The lane of head `g` of group `h` and component `d`. -/
def lane (h : Fin 4) (g : Fin 6) (d : Fin 64) : Fin 1536 := ⟨(h.val * 6 + g.val) * 64 + d.val, by omega⟩

/-- An eighth, as the reference writes it. -/
theorem eighth : Ideal.ofBits .f32 0x3E000000#32 = ((8⁻¹ : ℝ) : EReal) := by
  simp [Ideal.ofBits, Ideal.ieee, -EReal.coe_mul]; norm_num

/-- The reference's scores. -/
theorem score_apply (n : Fin 4) (b : Fin 16) (h : Fin 4) (g : Fin 6) (q : Fin 128) (j : Fin 256) (hj : ¬(b.val = 0 ∧ j.val < 128)) :
    val_main_v66 (F := Ideal) x0 (ix6 n b h g q j)
      = ∑ d : Fin 64, x0 (ix2 ⟨n.val * 2048 + (b.val * 128 + j.val - 128), by omega⟩ ⟨1536 + (h.val * 64 + d.val), by omega⟩)
          * x0 (ix2 ⟨n.val * 2048 + (b.val * 128 + q.val), by omega⟩ ⟨(h.val * 6 + g.val) * 64 + d.val, by omega⟩) := by
  rw [val_main_v66_apply, val_main_v65_apply]
  refine Finset.sum_congr rfl fun d _ => ?_
  have e1 : lidx_main_v65 (idx_main_v66 (ix6 n b h g q j)) d = ix5 n b j h d := ext5 rfl rfl rfl rfl rfl
  have e2 : ridx_main_v65 (idx_main_v66 (ix6 n b h g q j)) d = ix6 n b q h g d := ext6 rfl rfl rfl rfl rfl rfl
  rw [e1, e2, block_keys x0 n b j h d hj, query_apply]

/-- The reference's masked logits. -/
theorem logit_apply (n : Fin 4) (b : Fin 16) (h : Fin 4) (g : Fin 6) (q : Fin 128) (j : Fin 256) (d : Fin 64) :
    val_main_v90 (F := Ideal) x0 x2 (ix6 n b h g q j) = logit x0 x2 (tile n b) q (lane h g d) j := by
  have em : val_main_call3_v1 (F := Ideal) (ix6 n b h g q j)
      = IntOp.andi (Cert.KernelIdeal.lit1 (line q j)) (if b.val = 0 ∧ j.val < 128 then 0#1 else 1#1) := by
    have ei : idx_main_v89 (idx_main_call3_v1 (ix6 n b h g q j)) = ix3 b q j := by
      funext a
      match a with
      | ⟨0, _⟩ => rfl
      | ⟨1, _⟩ => rfl
      | ⟨2, _⟩ => rfl
    rw [val_main_call3_v1_apply, val_main_v89_apply, ei, mask_apply]
  have en : val_main_call3_v2 (F := Ideal) (ix6 n b h g q j) = (⊥ : EReal) := by
    rw [val_main_call3_v2_apply, val_main_call3_v0_apply, val_main_cst_18_apply]
    show Ideal.ofBits .f32 0xFF800000#32 = ⊥
    simp [Ideal.ofBits, Ideal.ieee]
  have ht : (tile n b).val % 16 = b.val := by show (n.val * 16 + b.val) % 16 = _; omega
  rw [val_main_v90_apply, em, en]
  unfold logit
  rw [ht]
  by_cases hs : b.val = 0 ∧ j.val < 128
  · rw [if_pos hs, if_pos (Or.inl hs)]
    have : IntOp.andi (Cert.KernelIdeal.lit1 (line q j)) 0#1 = 0#1 := BitVec.and_zero
    rw [this]; rfl
  · rw [if_neg hs]
    have h1 : IntOp.andi (Cert.KernelIdeal.lit1 (line q j)) 1#1 = Cert.KernelIdeal.lit1 (line q j) := BitVec.and_allOnes
    rw [h1]
    by_cases hv : Cert.KernelIdeal.lit1 (line q j) = 1#1
    · rw [hv, if_neg (show ¬((b.val = 0 ∧ j.val < 128) ∨ ¬ (1#1 : BitVec 1) = 1#1) from fun h => h.elim hs (fun h => h rfl))]
      show val_main_v71 (F := Ideal) x0 x2 (ix6 n b h g q j) = _
      have ei : idx_main_v69 (idx_main_v70 (ix6 n b h g q j)) = ix4 h g q j := by
        funext a
        match a with
        | ⟨0, _⟩ => rfl
        | ⟨1, _⟩ => rfl
        | ⟨2, _⟩ => rfl
        | ⟨3, _⟩ => rfl
      rw [val_main_v71_apply, val_main_v68_apply, val_main_v67_apply, val_main_cst_apply, val_main_v70_apply, val_main_v69_apply, ei,
        bias_apply x2 h g q j hv, score_apply x0 n b h g q j hs]
      show (∑ d : Fin 64, _ * _ : EReal) * Ideal.ofBits .f32 0x3E000000#32 + _ = _
      rw [eighth]
      have hl1 : (lane h g d).val / 64 = h.val * 6 + g.val := by show ((h.val * 6 + g.val) * 64 + d.val) / 64 = _; omega
      have hl2 : (lane h g d).val / 384 = h.val := by show ((h.val * 6 + g.val) * 64 + d.val) / 384 = _; omega
      refine congrArg₂ (· + ·) (congrArg (· * _) (Finset.sum_congr rfl fun e _ => congrArg₂ (· * ·) (congrArg x0 ?_) (congrArg x0 ?_)))
        (congrArg x2 ?_)
      · refine congrArg₂ ix2 (Fin.ext ?_) (Fin.ext ?_)
        · show n.val * 2048 + (b.val * 128 + j.val - 128) = (n.val * 16 + b.val) * 128 + j.val - 128; omega
        · show 1536 + (h.val * 64 + e.val) = 1536 + (64 * ((lane h g d).val / 384) + e.val); omega
      · refine congrArg₂ ix2 (Fin.ext ?_) (Fin.ext ?_)
        · show n.val * 2048 + (b.val * 128 + q.val) = (n.val * 16 + b.val) * 128 + q.val; omega
        · show (h.val * 6 + g.val) * 64 + e.val = 64 * ((lane h g d).val / 64) + e.val; omega
      · exact congrArg₂ ix2 rfl (Fin.ext hl1.symm)
    · have h0 : Cert.KernelIdeal.lit1 (line q j) = 0#1 := by
        generalize Cert.KernelIdeal.lit1 (line q j) = w at hv
        revert w; decide
      rw [if_pos (Or.inr hv), h0]; rfl

/-- The sink of a head. -/
theorem sink_apply (h : Fin 4) (g : Fin 6) (z : Fin 1) : val_main_v91 (F := Ideal) x1 (ix3 h g z) = x1 (ix1 ⟨h.val * 6 + g.val, by omega⟩) := by
  rw [val_main_v91_apply]
  blk_ext []

/-- The largest logit of a row, the sink among them. -/
theorem peak_apply (n : Fin 4) (b : Fin 16) (h : Fin 4) (g : Fin 6) (q : Fin 128) (d : Fin 64) :
    val_main_v95 (F := Ideal) x0 x1 x2 (ix5 n b h g q)
      = peak (logit x0 x2 (tile n b) q (lane h g d)) (x1 (ix1 ⟨h.val * 6 + g.val, by omega⟩)) := by
  have hr : S4x16x4x6x128x256.Reduces [5] S4x16x4x6x128 := by decide
  have ei : idx_main_v93 (idx_main_v94 (ix5 n b h g q)) = ix3 h g (0 : Fin 1) := by
    funext a
    match a with
    | ⟨0, _⟩ => rfl
    | ⟨1, _⟩ => rfl
    | ⟨2, _⟩ => rfl
  have e0 : val_main_cst_19 (F := Ideal) (Shape.Idx.first h_S_) = (⊥ : EReal) := by
    rw [val_main_cst_19_apply]
    show Ideal.ofBits .f32 0xFF800000#32 = ⊥
    simp [Ideal.ofBits, Ideal.ieee]
  have ef : (val_main_v90 (F := Ideal) x0 x2 ∘ hr.lift (ix5 n b h g q)) = logit x0 x2 (tile n b) q (lane h g d) := funext fun (k : Fin 256) =>
    (congrArg (val_main_v90 (F := Ideal) x0 x2)
      (show hr.lift (ix5 n b h g q) k = ix6 n b h g q k from ext6 rfl rfl rfl rfl rfl rfl)).trans (logit_apply x0 x2 n b h g q k d)
  have em : val_main_v92 (F := Ideal) x0 x2 (ix5 n b h g q)
      = Finset.univ.fold (FloatOps.maximumf (F := Ideal) (φ := .f32)) (⊥ : EReal) (logit x0 x2 (tile n b) q (lane h g d)) := by
    refine (Host.reduce_eq_fold_single FloatOps.maximumf _ _ reducesTo_S4x16x4x6x128x256_S4x16x4x6x128_d5 hr h_S_ (ix5 n b h g q)).trans ?_
    rw [e0, ef]
    rfl
  rw [val_main_v95_apply, val_main_v94_apply, val_main_v93_apply, ei, sink_apply, em]
  rfl

/-- The reference's weights. -/
theorem weight_apply (n : Fin 4) (b : Fin 16) (h : Fin 4) (g : Fin 6) (q : Fin 128) (j : Fin 256) (d : Fin 64) :
    val_main_v99 (F := Ideal) x0 x1 x2 (ix6 n b h g q j)
      = Ideal.exp (logit x0 x2 (tile n b) q (lane h g d) j
          - peak (logit x0 x2 (tile n b) q (lane h g d)) (x1 (ix1 ⟨h.val * 6 + g.val, by omega⟩))) := by
  have ei : idx_main_v96 (idx_main_v97 (ix6 n b h g q j)) = ix5 n b h g q := ext5 rfl rfl rfl rfl rfl
  rw [val_main_v99_apply, val_main_v98_apply, val_main_v97_apply, val_main_v96_apply, ei, peak_apply x0 x1 x2 n b h g q d,
    logit_apply x0 x2 n b h g q j d]
  rfl

/-- The reference's normaliser. -/
theorem norm_apply (n : Fin 4) (b : Fin 16) (h : Fin 4) (g : Fin 6) (q : Fin 128) (d : Fin 64) :
    val_main_v105 (F := Ideal) x0 x1 x2 (ix5 n b h g q)
      = ∑ j, Ideal.exp (logit x0 x2 (tile n b) q (lane h g d) j
          - peak (logit x0 x2 (tile n b) q (lane h g d)) (x1 (ix1 ⟨h.val * 6 + g.val, by omega⟩)))
        + Ideal.exp (x1 (ix1 ⟨h.val * 6 + g.val, by omega⟩)
          - peak (logit x0 x2 (tile n b) q (lane h g d)) (x1 (ix1 ⟨h.val * 6 + g.val, by omega⟩))) := by
  have ei : idx_main_v101 (idx_main_v102 (ix5 n b h g q)) = ix3 h g (0 : Fin 1) := by
    funext a
    match a with
    | ⟨0, _⟩ => rfl
    | ⟨1, _⟩ => rfl
    | ⟨2, _⟩ => rfl
  have ej : ∀ k, idx_main_v100 (ix5 n b h g q) k = ix6 n b h g q k := fun k => ext6 rfl rfl rfl rfl rfl rfl
  have e0 : val_main_cst_20 (F := Ideal) (Shape.Idx.first h_S_) = (0 : EReal) := by
    rw [val_main_cst_20_apply]
    exact Ideal.ofBits_zero_f32
  rw [val_main_v105_apply, val_main_v104_apply, val_main_v103_apply, val_main_v102_apply, val_main_v101_apply, ei, sink_apply,
    val_main_v100_apply, e0, zero_add, peak_apply x0 x1 x2 n b h g q d]
  refine congrArg₂ (· + ·) (Finset.sum_congr rfl fun j _ => ?_) rfl
  rw [ej, weight_apply x0 x1 x2 n b h g q j d]

/-- The reference's attention. -/
theorem attended_apply (n : Fin 4) (b : Fin 16) (q : Fin 128) (h : Fin 4) (g : Fin 6) (d : Fin 64) :
    val_main_v111 (F := Ideal) x0 x1 x2 (ix6 n b q h g d) = attended x0 x1 x2 (tile n b) q (lane h g d) := by
  have hl1 : (lane h g d).val / 64 = h.val * 6 + g.val := by show ((h.val * 6 + g.val) * 64 + d.val) / 64 = _; omega
  have hl2 : (lane h g d).val / 384 = h.val := by show ((h.val * 6 + g.val) * 64 + d.val) / 384 = _; omega
  have hl3 : (lane h g d).val % 64 = d.val := by show ((h.val * 6 + g.val) * 64 + d.val) % 64 = _; omega
  have e1 : idx_main_v108 (idx_main_v109 (idx_main_v110 (ix6 n b q h g d))) = ix5 n b h g q := ext5 rfl rfl rfl rfl rfl
  have hs : (⟨(lane h g d).val / 64, by omega⟩ : Fin 24) = ⟨h.val * 6 + g.val, by omega⟩ := Fin.ext hl1
  rw [val_main_v111_apply, val_main_v110_apply, val_main_v109_apply, val_main_v108_apply, e1, norm_apply x0 x1 x2 n b h g q d,
    val_main_v107_apply, val_main_v106_apply]
  unfold attended row
  rw [hs]
  refine congrArg (Ideal.div · _) (Finset.sum_congr rfl fun j _ => ?_)
  have e2 : lidx_main_v106 (idx_main_v107 (ix6 n b q h g d)) j = ix5 n b j h d := ext5 rfl rfl rfl rfl rfl
  have e3 : ridx_main_v106 (idx_main_v107 (ix6 n b q h g d)) j = ix6 n b h g q j := ext6 rfl rfl rfl rfl rfl rfl
  rw [e2, e3, weight_apply x0 x1 x2 n b h g q j d]
  by_cases hj : b.val = 0 ∧ j.val < 128
  · have ht : (tile n b).val % 16 = b.val := by show (n.val * 16 + b.val) % 16 = _; omega
    have hb : logit x0 x2 (tile n b) q (lane h g d) j = ⊥ := by unfold logit; rw [if_pos (Or.inl (by rw [ht]; exact hj))]
    have hx : ∀ p : EReal, Ideal.exp (⊥ - p) = 0 := fun p => by rw [sub_eq_add_neg, EReal.bot_add]; rfl
    rw [hb, hx, mul_zero, mul_zero]
  · rw [block_values x0 n b j h d hj]
    refine congrArg (· * _) (congrArg x0 (congrArg₂ ix2 (Fin.ext ?_) (Fin.ext ?_)))
    · show n.val * 2048 + (b.val * 128 + j.val - 128) = (n.val * 16 + b.val) * 128 + j.val - 128; omega
    · show 1792 + (h.val * 64 + d.val) = 1792 + (64 * ((lane h g d).val / 384) + (lane h g d).val % 64); omega

/-- The reference's result is the attention on the sequences' rows and zero behind them. -/
theorem result_apply (i : Fin 8448) (c : Fin 1536) :
    val_main_v115 (F := Ideal) x0 x1 x2 (ix2 i c) = result x0 x1 x2 (ix2 i c) := by
  rw [val_main_v115_apply]
  show val_main_v114 (F := Ideal) x0 x1 x2 (ix2 i c) = _
  unfold val_main_v114 result
  by_cases hi : i.val < 8192
  · refine (concatenate_pair_apply_left (s₁ := S8192x1536) (s₂ := S256x1536) (0 : Fin 2) _ _ _ (ix2 i c) rfl (ix2 ⟨i.val, hi⟩ c)
      (fun a => match a with
        | ⟨0, _⟩ => rfl
        | ⟨1, _⟩ => rfl)).trans ?_
    rw [dif_pos (show (ix2 i c 0).val < 8192 from hi)]
    unfold val_main_v112
    rw [shapeCast_apply _ shapeCasts_S4x16x128x4x6x64_S8192x1536 (ix2 ⟨i.val, hi⟩ c)
      (ix6 ⟨i.val / 2048, by omega⟩ ⟨i.val / 128 % 16, by omega⟩ ⟨i.val % 128, by omega⟩ ⟨c.val / 384, by omega⟩ ⟨c.val / 64 % 6, by omega⟩
        ⟨c.val % 64, by omega⟩)
      (by rw [Shape.rowMajor_val_two, Shape.rowMajor_val_six]
          show ((((i.val / 2048 * 16 + i.val / 128 % 16) * 128 + i.val % 128) * 4 + c.val / 384) * 6 + c.val / 64 % 6) * 64 + c.val % 64
            = i.val * 1536 + c.val
          omega), attended_apply]
    refine congr (congr (congrArg (attended x0 x1 x2) (Fin.ext ?_)) rfl) (Fin.ext ?_)
    · show i.val / 2048 * 16 + i.val / 128 % 16 = i.val / 128; omega
    · show (c.val / 384 * 6 + c.val / 64 % 6) * 64 + c.val % 64 = c.val; omega
  · refine (concatenate_pair_apply_right (s₁ := S8192x1536) (s₂ := S256x1536) (0 : Fin 2) _ _ _ (ix2 i c) rfl rfl
      (ix2 ⟨i.val - 8192, by omega⟩ c) (fun a => match a with
        | ⟨0, _⟩ => fun ha => absurd rfl ha
        | ⟨1, _⟩ => fun _ => rfl) (show i.val - 8192 + 8192 = i.val by omega)).trans ?_
    rw [dif_neg (show ¬(ix2 i c 0).val < 8192 from hi), val_main_v113_apply, val_main_cst_21_apply]
    exact Ideal.ofBits_zero_f32

end Cert.ReferenceIdeal.Rows

end
-- ==== Proof.Up.Run.lean ====
module

public import proofs.«01_k».proof.Proof.Gen.Kernel2Ideal.Skeleton
public import proofs.«01_k».proof.Proof.Gen.Kernel2Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, whole. -/
abbrev tabE : Memref sig .tc .smem S41 .i32 := Memref.whole main_arg3
/-- The number of blocks in use, whole. -/
abbrev tabN : Memref sig .tc .smem S1 .i32 := Memref.whole main_arg4
/-- The copy of the gate weights' block. -/
abbrev accG : Memref sig .tc .vmem S2048x1024 .bf16 := Memref.whole cc0_scratch0
/-- The copy of the up weights' block. -/
abbrev accU : Memref sig .tc .vmem S2048x1024 .bf16 := Memref.whole cc0_scratch1

/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The expert of the block before, as the body reads it. -/
abbrev wordP (i : grid0.Coords) (T0 : S41.Idx → Elt F .i32) : Elt F .i32 :=
  View.readAt (Elt F) tabE.view (Rect.unit (s := S41) (k0_off2 i) S1.size (k0_off2_inb i)).toLoadRect T0 (Shape.Idx.first (numel1_S1.symm ▸ Nat.one_pos))
/-- The expert of the block, as the body reads it. -/
abbrev wordE (i : grid0.Coords) (T0 : S41.Idx → Elt F .i32) : Elt F .i32 :=
  View.readAt (Elt F) tabE.view (Rect.unit (s := S41) (k0_off3 i) S1.size (k0_off3_inb i)).toLoadRect T0 (Shape.Idx.first (numel1_S1.symm ▸ Nat.one_pos))
/-- Whether the weights have changed, as the body decides it. -/
abbrev changed (i : grid0.Coords) (T0 : S41.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S512x2048 .bf16) (h4 : a4.IsWhole) (a5 : Memref sig .tc .vmem S1x2048x1024 .f32) (h5 : a5.IsWhole)
  (a6 : Memref sig .tc .vmem S1x2048x1024 .f32) (h6 : a6.IsWhole) (a7 : Memref sig .tc .vmem S512x1024 .bf16) (h7 : a7.IsWhole)
  (T0 : S41.Idx → Elt F .i32) (T1 : S1.Idx → Elt F .i32)
  (x : S512x2048.Idx → Elt F .bf16) (g u : S1x2048x1024.Idx → Elt F .f32)

/-- The body at one point of the grid. -/
abbrev body : Prog (TpuEff nD τ sig (Elt F) Λ₀ .tc) PUnit :=
  cc0_moe_up i tabE (Memref.isWhole_whole _) tabN (Memref.isWhole_whole _) a4 h4 a5 h5 a6 h6 a7 h7 accG (Memref.isWhole_whole _) accU (Memref.isWhole_whole _)

/-- What the body holds besides its output and its two copies. -/
abbrev held : sProp 𝕄 :=
  iprop((a4.view.loc (c : Thread nD τ) ↦[a4.view.set]{fullShare} a4.view.rep x)
    ∗ (a5.view.loc (c : Thread nD τ) ↦[a5.view.set]{fullShare} a5.view.rep g)
    ∗ (a6.view.loc (c : Thread nD τ) ↦[a6.view.set]{fullShare} a6.view.rep u)
    ∗ (tabE.view.loc (c : Thread nD τ) ↦{fullShare.right} T0)
    ∗ (tabN.view.loc (c : Thread nD τ) ↦{fullShare.right} T1))

set_option maxHeartbeats 4000000 in
/-- A block in use whose weights are new: both copies are made, then the product is stored. -/
theorem run_new (b0 : accG.view.ty.Contents (Elt F)) (b1 : accU.view.ty.Contents (Elt F)) (hu : k0_cond1 i (wordN T1) = 1#1) (hc : changed i T0 = 1#1)
    (hn : ¬ k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay3 x (k0_pay1 g) (k0_pay2 u))
            ∗ (∃ f, ⌜accG.view.read (Elt F) f = k0_pay1 g⌝ ∗ (accG.view.loc (c : Thread nD τ) ↦{fullShare} f))
            ∗ (∃ f, ⌜accU.view.read (Elt F) f = k0_pay2 u⌝ ∗ (accU.view.loc (c : Thread nD τ) ↦{fullShare} f))) -∗ K ⟨⟩))
      ⊢ wp frame (wpE (defs₀ (F := F)) Variants.none c none) Set.univ (body i a4 h4 a5 h5 a6 h6 a7 h7) K := by
  unfold owns body
  rw [cc0_moe_up_eq_skeleton]; unfold cc0_moe_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      refine (View.read_writes_full _ _ _ _ _).trans ?_
      have e5 := View.readAt_rep_full a5.view g inb_S1x2048x1024_S1x2048x1024_0_0_0
      have e6 := View.readAt_rep_full a6.view u inb_S1x2048x1024_S1x2048x1024_0_0_0
      have eG : run_new.sl.v19 a5 g = k0_pay1 g :=
        (View.readCov_full accG.view _ _ _ _).trans (congrArg k0_pay1 e5)
      have eU : run_new.sl.v21 a6 u = k0_pay2 u :=
        (View.readCov_full accU.view _ _ _ _).trans (congrArg k0_pay2 e6)
      rw [View.readAt_rep_full, eG, eU]
  isplitl [HG]
  · iexists _; isplitr; swap
    · iexact HG
    · ipureintro
      exact (View.read_writes_full _ _ _ _ _).trans (congrArg k0_pay1 (View.readAt_rep_full _ _ _))
  · iexists _; isplitr; swap
    · iexact HU
    · ipureintro
      exact (View.read_writes_full _ _ _ _ _).trans (congrArg k0_pay2 (View.readAt_rep_full _ _ _))

set_option maxHeartbeats 4000000 in
/-- A block in use whose weights are those of the block before: the product is stored. -/
theorem run_same (b0 : accG.view.ty.Contents (Elt F)) (b1 : accU.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay3 x (accG.view.read (Elt F) b0) (accU.view.read (Elt F) b1))
            ∗ (accG.view.loc (c : Thread nD τ) ↦{fullShare} b0) ∗ (accU.view.loc (c : Thread nD τ) ↦{fullShare} b1)) -∗ K ⟨⟩))
      ⊢ wp frame (wpE (defs₀ (F := F)) Variants.none c none) Set.univ (body i a4 h4 a5 h5 a6 h6 a7 h7) K := by
  unfold owns body
  rw [cc0_moe_up_eq_skeleton]; unfold cc0_moe_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      refine (View.read_writes_full _ _ _ _ _).trans ?_
      rw [View.readAt_rep_full, View.readAt_full, View.readAt_full]
  isplitl [HG]
  · iexact HG
  · iexact HU
set_option maxHeartbeats 4000000 in
/-- A block not in use: zeros are stored. -/
theorem run_unused (b0 : accG.view.ty.Contents (Elt F)) (b1 : accU.view.ty.Contents (Elt F)) (hu : ¬ k0_cond1 i (wordN T1) = 1#1)
    (hn : k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay4)
            ∗ (accG.view.loc (c : Thread nD τ) ↦{fullShare} b0) ∗ (accU.view.loc (c : Thread nD τ) ↦{fullShare} b1)) -∗ K ⟨⟩))
      ⊢ wp frame (wpE (defs₀ (F := F)) Variants.none c none) Set.univ (body i a4 h4 a5 h5 a6 h6 a7 h7) K := by
  unfold owns body
  rw [cc0_moe_up_eq_skeleton]; unfold cc0_moe_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      exact View.read_writes_full _ _ _ _ _
  isplitl [HG]
  · iexact HG
  · iexact HU

end Cert.Kernel2Ideal.Up

end
-- ==== Proof.Up.Words.lean ====
module

public import proofs.«01_k».proof.Proof.Up.Run
public import Idealize.ShloMosaic.Lib.WordCmp
public import Idealize.ShloMosaic.Lib.Pointwise.Index

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

/-- A comparison's bit, widened and compared with zero, is the bit. -/
theorem bit_ne_zero : ∀ a : BitVec 1, Scalar.cmpi .ne (Scalar.extui a) 0#32 = a := by decide

theorem slt_iff {a b : BitVec 32} (ha : a.toNat < 2 ^ 31) (hb : b.toNat < 2 ^ 31) : Scalar.cmpi .slt a b = 1#1 ↔ a.toNat < b.toNat := by
  show IntOp.cmpi .slt a b = 1#1 ↔ _
  rw [WordCmp.cmpi_slt_of_lt ha hb]
  by_cases h : a.toNat < b.toNat <;> simp [h]

theorem coord_lt (i : grid0.Coords) : (i 1).val < 41 := (i 1).isLt
theorem col_lt (i : grid0.Coords) : (i 0).val < 7 := (i 0).isLt

theorem toNat_coord {n : ℕ} (h : n < 41) : (BitVec.ofNat 32 n).toNat = n := by
  rw [BitVec.toNat_ofNat]; omega

theorem toNat_word (n : ℕ) (h : n < 42) : (BitVec.ofNat 32 n).toNat = n := by
  rw [BitVec.toNat_ofNat]; omega

/-- The body's first branch is taken just at the blocks in use. -/
theorem cond1_iff (i : grid0.Coords) (w : BitVec 32) (hw : w.toNat ≤ 41) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord hi]; omega) (by omega), toNat_coord hi]

/-- The body's last branch is taken just at the others. -/
theorem cond3_iff (i : grid0.Coords) (w : BitVec 32) (hw : w.toNat ≤ 41) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord hi]; omega) (by omega), toNat_coord hi]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 41 := i 1
/-- The place of the block before, the first block's its own. -/
def before (i : grid0.Coords) : Fin 41 := ⟨(i 1).val - 1, by have := coord_lt i; omega⟩

theorem off3_eq (i : grid0.Coords) : k0_off3 i 0 = (i 1).val := by
  show (BitVec.ofNat 32 (i 1).val).toNat = _
  exact toNat_coord (coord_lt i)

theorem off2_eq (i : grid0.Coords) : k0_off2 i 0 = (i 1).val - 1 := by
  have key : ∀ n : Fin 41, (Scalar.maxsi (Scalar.subi (BitVec.ofNat 32 n.val) 1#32) 0#32).toNat = n.val - 1 := by decide
  exact key (i 1)

theorem wordE_eq (i : grid0.Coords) (T0 : S41.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S41.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the expert is another than the block before's. -/
theorem changed_iff (i : grid0.Coords) (T0 : S41.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 41, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  expert : ∀ b : Fin 41, (pf 0 (ix1 b) : BitVec 32).toNat < 16
  pos : 1 ≤ (pf 1 (ix1 (0 : Fin 1)) : BitVec 32).toNat
  le : (pf 1 (ix1 (0 : Fin 1)) : BitVec 32).toNat ≤ 41

/-- The expert of a block. -/
abbrev expertOf (pf : pre0.Contents (Elt F)) (b : Fin 41) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 42, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 41) (n : Fin 42), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S41) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord (coord_lt i)]; rfl

theorem transform_1_eq (pf : pre0.Contents (Elt F)) (i : grid0.Coords) :
    cc0_transform_1 k0_off1_inb numel1_S1 pf i = ![expertOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (pf : pre0.Contents (Elt F)) (i : grid0.Coords) :
    cc0_transform_2 k0_off1_inb numel1_S1 pf i = ![expertOf pf (here i), 0, (i 0).val] := transform_1_eq pf i

theorem transform_3_eq (i : grid0.Coords) : cc0_transform_3 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord (coord_lt i)]

/-- In range, every block the pipeline moves lies in its array. -/
theorem ok_of_ranges (pf : pre0.Contents (Elt F)) (hr : Ranges pf) : ok0 pf := by
  refine ⟨fun i => ⟨?_, .inr (Affine.block_words_dvd (s := S20992x2048) (p := EltTy.packing .bf16) (by decide) (by decide))⟩,
    fun i => ⟨?_, .inl rfl⟩, fun i => ⟨?_, .inl rfl⟩⟩
  · rw [transform_0_eq pf hr]
    have hi := coord_lt i
    intro a; fin_cases a
    · show (min (i 1).val (usedOf pf - 1) + 1) * 512 ≤ 20992
      omega
    · show (0 + 1) * 2048 ≤ 2048
      omega
  · rw [transform_1_eq]
    have he := hr.expert (here i)
    have hc := col_lt i
    intro a; fin_cases a
    · show (expertOf pf (here i) + 1) * 1 ≤ 16
      unfold expertOf; omega
    · show (0 + 1) * 2048 ≤ 2048
      omega
    · show ((i 0).val + 1) * 1024 ≤ 7168
      omega
  · rw [transform_2_eq]
    have he := hr.expert (here i)
    have hc := col_lt i
    intro a; fin_cases a
    · show (expertOf pf (here i) + 1) * 1 ≤ 16
      unfold expertOf; omega
    · show (0 + 1) * 2048 ≤ 2048
      omega
    · show ((i 0).val + 1) * 1024 ≤ 7168
      omega

/-- In range, the output's block is stored at every point. -/
theorem idle_3 (pf : pre0.Contents (Elt F)) (hr : Ranges pf) (i : grid0.Coords) : idle0 pf 3 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel2Ideal.Up

end
-- ==== Proof.Up.Region.lean ====
module

public import proofs.«01_k».proof.Proof.Up.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of experts, at its own type. -/
abbrev tab0 : S41.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S512x2048 .bf16 := spec0_0.stage ((cfgA pf hr).slots t (0 : Fin 4))
abbrev sw0 (t : Fin (cfgA pf hr).N) : (st0 pf hr t).IsWhole := hstage0_0 (((cfgA pf hr).slots t (0 : Fin 4)).cast nbuf0_0)
abbrev st1 (t : Fin (cfgA pf hr).N) : Memref sig .tc .vmem S1x2048x1024 .f32 := spec0_1.stage ((cfgA pf hr).slots t (1 : Fin 4))
abbrev sw1 (t : Fin (cfgA pf hr).N) : (st1 pf hr t).IsWhole := hstage0_1 (((cfgA pf hr).slots t (1 : Fin 4)).cast nbuf0_1)
abbrev st2 (t : Fin (cfgA pf hr).N) : Memref sig .tc .vmem S1x2048x1024 .f32 := spec0_2.stage ((cfgA pf hr).slots t (2 : Fin 4))
abbrev sw2 (t : Fin (cfgA pf hr).N) : (st2 pf hr t).IsWhole := hstage0_2 (((cfgA pf hr).slots t (2 : Fin 4)).cast nbuf0_2)
abbrev st3 (t : Fin (cfgA pf hr).N) : Memref sig .tc .vmem S512x1024 .bf16 := spec0_3.stage ((cfgA pf hr).slots t (3 : Fin 4))
abbrev sw3 (t : Fin (cfgA pf hr).N) : (st3 pf hr t).IsWhole := hstage0_3 (((cfgA pf hr).slots t (3 : Fin 4)).cast nbuf0_3)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of gate weights a point copies. -/
abbrev copyG (c : Dev nD) (t : Fin (cfgA pf hr).N) : FVec F S2048x1024 .bf16 := k0_pay1 (iblk pf hr m c (1 : Fin 4) t)
/-- The block of up weights a point copies. -/
abbrev copyU (c : Dev nD) (t : Fin (cfgA pf hr).N) : FVec F S2048x1024 .bf16 := k0_pay2 (iblk pf hr m c (2 : Fin 4) t)

/-- What a point stores. -/
def outBlk (c : Dev nD) (t : Fin (cfgA pf hr).N) : FVec F S512x1024 .bf16 :=
  if Used pf hr t then k0_pay3 (iblk pf hr m c (0 : Fin 4) t) (copyG pf hr m c t) (copyU pf hr m c t) else k0_pay4

/-- Between the points: after a point in use the two copies are of that point's weights. -/
def Phi (c : Dev nD) (n : ℕ) : sProp 𝕄 :=
  iprop((∃ a, ⌜∀ s : Fin (cfgA pf hr).N, n = s.val + 1 → Used pf hr s → accG.view.read (Elt F) a = copyG pf hr m c s⌝
        ∗ (accG.view.loc (c : Thread nD τ) ↦{fullShare} a))
    ∗ (∃ a, ⌜∀ s : Fin (cfgA pf hr).N, n = s.val + 1 → Used pf hr s → accU.view.read (Elt F) a = copyU pf hr m c s⌝
        ∗ (accU.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 4) t
    | ⟨1, _⟩ => iblk pf hr m c (1 : Fin 4) t
    | ⟨2, _⟩ => iblk pf hr m c (2 : Fin 4) t
    | ⟨3, _⟩ => outBlk pf hr m c t
  Φ t := Phi pf hr m c t.val
  q _ := fullShare
  owed _ := 0

theorem after_0 (c : Dev nD) (t : Fin (cfgA pf hr).N) : (dats pf hr m 0 c).after (0 : Fin 4) t = iblk pf hr m c (0 : Fin 4) t := rfl
theorem after_1 (c : Dev nD) (t : Fin (cfgA pf hr).N) : (dats pf hr m 0 c).after (1 : Fin 4) t = iblk pf hr m c (1 : Fin 4) t := rfl
theorem after_2 (c : Dev nD) (t : Fin (cfgA pf hr).N) : (dats pf hr m 0 c).after (2 : Fin 4) t = iblk pf hr m c (2 : Fin 4) t := rfl
theorem after_3 (c : Dev nD) (t : Fin (cfgA pf hr).N) : (dats pf hr m 0 c).after (3 : Fin 4) t = outBlk pf hr m c t := rfl

theorem before_0 (c : Dev nD) (t : Fin (cfgA pf hr).N) (d) : (dats pf hr m 0 c).before (0 : Fin 4) t d = iblk pf hr m c (0 : Fin 4) t :=
  ((dats pf hr m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 4) t d = iblk pf hr m c (1 : Fin 4) t :=
  ((dats pf hr m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf hr).N) (d) : (dats pf hr m 0 c).before (2 : Fin 4) t d = iblk pf hr m c (2 : Fin 4) t :=
  ((dats pf hr m 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The coordinates of a point and of the one before it -/

theorem crd_col (t : Fin (cfgA pf hr).N) : (crd pf hr t 0).val = t.val / 41 % 7 :=
  Pipeline.Grid.coords_val (G := grid0) t 0 (by decide) (by decide)
theorem crd_row (t : Fin (cfgA pf hr).N) : (crd pf hr t 1).val = t.val % 41 := by
  have h := Pipeline.Grid.coords_val (G := grid0) t 1 (S := 1) (B := 41) (by decide) (by decide)
  rw [Nat.div_one] at h; exact h

/-! ## The blocks read, by their coordinates -/

theorem iblk_0 (c : Dev nD) (t : Fin (cfgA pf hr).N) (y : S512x2048.Idx) (z : S20992x2048.Idx)
    (h0 : (z 0).val = min (crd pf hr t 1).val (usedOf pf - 1) * 512 + (y 0).val) (h1 : (z 1).val = (y 1).val) :
    (iblk pf hr m c (0 : Fin 4) t : S512x2048.Idx → Elt F .bf16) y = m ((c : Thread nD τ).loc main_arg0) z := by
  have e : ((cfgA pf hr).win (0 : Fin 4)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 4)) t y a
  refine hv.trans ?_
  rw [e]
  fin_cases a
  · exact h0.symm
  · exact (Nat.zero_add _).trans h1.symm

theorem iblk_1 (c : Dev nD) (t : Fin (cfgA pf hr).N) (y : S1x2048x1024.Idx) (z : S16x2048x7168.Idx)
    (h0 : (z 0).val = expertOf pf (here (crd pf hr t)) * 1 + (y 0).val) (h1 : (z 1).val = (y 1).val)
    (h2 : (z 2).val = (crd pf hr t 0).val * 1024 + (y 2).val) :
    (iblk pf hr m c (1 : Fin 4) t : S1x2048x1024.Idx → Elt F .f32) y = m ((c : Thread nD τ).loc main_arg1) z := by
  have e : ((cfgA pf hr).win (1 : Fin 4)).index t = ![expertOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 4)) t y a
  refine hv.trans ?_
  rw [e]
  fin_cases a
  · exact h0.symm
  · exact (Nat.zero_add _).trans h1.symm
  · exact h2.symm

theorem iblk_2 (c : Dev nD) (t : Fin (cfgA pf hr).N) (y : S1x2048x1024.Idx) (z : S16x2048x7168.Idx)
    (h0 : (z 0).val = expertOf pf (here (crd pf hr t)) * 1 + (y 0).val) (h1 : (z 1).val = (y 1).val)
    (h2 : (z 2).val = (crd pf hr t 0).val * 1024 + (y 2).val) :
    (iblk pf hr m c (2 : Fin 4) t : S1x2048x1024.Idx → Elt F .f32) y = m ((c : Thread nD τ).loc main_arg2) z := by
  have e : ((cfgA pf hr).win (2 : Fin 4)).index t = ![expertOf pf (here (crd pf hr t)), 0, (crd pf hr t 0).val] := transform_2_eq pf (crd pf hr t)
  refine congrArg (m ((c : Thread nD τ).loc main_arg2)) (funext fun a => Fin.ext ?_)
  have hv := Pipeline.Window.rect_emb_val ((cfgA pf hr).win (2 : Fin 4)) t y a
  refine hv.trans ?_
  rw [e]
  fin_cases a
  · exact h0.symm
  · exact (Nat.zero_add _).trans h1.symm
  · exact h2.symm

/-- A place in the weights for an element of a point's block. -/
def place (t : Fin (cfgA pf hr).N) (y : S1x2048x1024.Idx) : S16x2048x7168.Idx :=
  ix3 (⟨expertOf pf (here (crd pf hr t)), hr.expert _⟩ : Fin 16) (y 1)
    (⟨(crd pf hr t 0).val * 1024 + (y 2).val, by
      have h := col_lt (crd pf hr t)
      have h2 : (y 2).val < 1024 := (y 2).isLt
      omega⟩ : Fin 7168)

theorem place_congr (s t : Fin (cfgA pf hr).N) (y : S1x2048x1024.Idx)
    (he : (tab0 pf (ix1 (here (crd pf hr s))) : BitVec 32) = tab0 pf (ix1 (here (crd pf hr t))))
    (hc : (crd pf hr s 0).val = (crd pf hr t 0).val) : place pf hr s y = place pf hr t y := by
  have hn : expertOf pf (here (crd pf hr s)) = expertOf pf (here (crd pf hr t)) := congrArg (fun w : BitVec 32 => w.toNat) he
  unfold place
  refine funext fun a => Fin.ext ?_
  fin_cases a
  · exact hn
  · rfl
  · show (crd pf hr s 0).val * 1024 + _ = (crd pf hr t 0).val * 1024 + _
    rw [hc]

theorem iblk_1_place (c : Dev nD) (t : Fin (cfgA pf hr).N) (y : S1x2048x1024.Idx) :
    (iblk pf hr m c (1 : Fin 4) t : S1x2048x1024.Idx → Elt F .f32) y = m ((c : Thread nD τ).loc main_arg1) (place pf hr t y) :=
  iblk_1 pf hr m c t y _ (by
    have h : (y 0).val < 1 := (y 0).isLt
    show expertOf pf _ = _
    omega) rfl rfl
theorem iblk_2_place (c : Dev nD) (t : Fin (cfgA pf hr).N) (y : S1x2048x1024.Idx) :
    (iblk pf hr m c (2 : Fin 4) t : S1x2048x1024.Idx → Elt F .f32) y = m ((c : Thread nD τ).loc main_arg2) (place pf hr t y) :=
  iblk_2 pf hr m c t y _ (by
    have h : (y 0).val < 1 := (y 0).isLt
    show expertOf pf _ = _
    omega) rfl rfl

/-- A point whose weights are the point before's: that point is in use too, and copies the same blocks. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyG pf hr m c s = copyG pf hr m c t ∧ copyU pf hr m c s = copyU pf hr m c t := by
  obtain ⟨hz, he⟩ := not_or.mp fun h => hc ((changed_iff (crd pf hr t) (tab0 pf)).mpr h)
  rw [not_not] at he
  have hN : (cfgA pf hr).N = 287 := N_0
  have ht := t.isLt
  have hrow := crd_row pf hr t
  have hcol := crd_col pf hr t
  have hz' : t.val % 41 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 41 % 7 = _; omega
  have e1 : (crd pf hr ⟨t.val - 1, hs⟩ 1).val = (crd pf hr t 1).val - 1 := by
    rw [srow, hrow]; show (t.val - 1) % 41 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)
  · refine congrArg k0_pay2 (funext fun y => ?_)
    exact (iblk_2_place pf hr m c _ y).trans ((congrArg _ (place_congr pf hr _ t y ee e0)).trans (iblk_2_place pf hr m c t y).symm)

end Cert.Kernel2Ideal.Up

end
-- ==== Proof.Up.Step.lean ====
module

public import proofs.«01_k».proof.Proof.Up.Region

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (3 : Fin 4) ((cfgA pf hr).grid.coords t) = false := idle_3 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t) (st3 pf hr t) (sw3 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 4) t)
        ∗ owns (c : Thread nD τ) (st1 pf hr t) fullShare (iblk pf hr m c (1 : Fin 4) t)
        ∗ owns (c : Thread nD τ) (st2 pf hr t) fullShare (iblk pf hr m c (2 : Fin 4) t)
        ∗ (∃ d, owns (c : Thread nD τ) (st3 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 4) t)
        ∗ owns (c : Thread nD τ) (st1 pf hr t) fullShare (iblk pf hr m c (1 : Fin 4) t)
        ∗ owns (c : Thread nD τ) (st2 pf hr t) fullShare (iblk pf hr m c (2 : Fin 4) t)
        ∗ owns (c : Thread nD τ) (st3 pf hr t) fullShare (outBlk pf hr m c t)) := by
  have hw : (wordN (tab1 pf) : BitVec 32).toNat ≤ 41 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HG⟩, ⟨%a1, %ha1, HU⟩, HE, HN⟩, H4, H5, H6, H7⟩
  by_cases hu : Used pf hr t
  · have hn : ¬ k0_cond3 (crd pf hr t) (wordN (tab1 pf)) = 1#1 := fun h => h3.mp h hu
    have ho : outBlk pf hr m c t = k0_pay3 (iblk pf hr m c (0 : Fin 4) t) (copyG pf hr m c t) (copyU pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t) (st3 pf hr t) (sw3 pf hr t)
        (tab0 pf) (tab1 pf) (iblk pf hr m c (0 : Fin 4) t) (iblk pf hr m c (1 : Fin 4) t) (iblk pf hr m c (2 : Fin 4) t) a0 a1 (h1.mpr hu) hc hn _)
      isplitl [H4 H5 H6 HE HN]
      · isplitl [H4]; · iapply rep_of_owns; iexact H4
        isplitl [H5]; · iapply rep_of_owns; iexact H5
        isplitl [H6]; · iapply rep_of_owns; iexact H6
        isplitl [HE]; · iexact HE
        iexact HN
      isplitl [H7]; · iexact H7
      isplitl [HG]; · iexact HG
      isplitl [HU]; · iexact HU
      iintro ⟨⟨H4, H5, H6, HE, HN⟩, H7, ⟨%f0, %e0, HG⟩, ⟨%f1, %e1, HU⟩⟩
      isplitl [HG HU HE HN]
      · isplitl [HG]
        · iexists f0; isplitr; swap
          · iexact HG
          · ipureintro; intro s hs _
            obtain rfl : s = t := Fin.ext (Nat.succ.inj hs.symm)
            exact e0
        isplitl [HU]
        · iexists f1; isplitr; swap
          · iexact HU
          · ipureintro; intro s hs _
            obtain rfl : s = t := Fin.ext (Nat.succ.inj hs.symm)
            exact e1
        isplitl [HE]; · iexact HE
        iexact HN
      isplitl [H4]; · iapply owns_of_rep; iexact H4
      isplitl [H5]; · iapply owns_of_rep; iexact H5
      isplitl [H6]; · iapply owns_of_rep; iexact H6
      iexact H7
    · obtain ⟨p, hp, hpu, eG, eU⟩ := same_weights pf hr m c t hu hc
      have k0 := (ha0 p hp hpu).trans eG
      have k1 := (ha1 p hp hpu).trans eU
      rw [← k0, ← k1]
      iapply (run_same c (crd pf hr t) (st0 pf hr t) (sw0 pf hr t) (st1 pf hr t) (sw1 pf hr t) (st2 pf hr t) (sw2 pf hr t) (st3 pf hr t) (sw3 pf hr t)
        (tab0 pf) (tab1 pf) (iblk pf hr m c (0 : Fin 4) t) (iblk pf hr m c (1 : Fin 4) t) (iblk pf hr m c (2 : Fin 4) t) a0 a1 (h1.mpr hu) hc hn _)
      isplitl [H4 H5 H6 HE HN]
      · isplitl [H4]; · iapply rep_of_owns; iexact H4
        isplitl [H5]; · iapply rep_of_owns; iexact H5
        isplitl [H6]; · iapply rep_of_owns; iexact H6
        isplitl [HE]; · iexact HE
        iexact HN
      isplitl [H7]; · iexact H7
      isplitl [HG]; · iexact HG
      isplitl [HU]; · iexact HU
      iintro ⟨⟨H4, H5, H6, HE, HN⟩, H7, HG, HU⟩
      isplitl [HG HU HE HN]
      · isplitl [HG]
        · iexists a0; isplitr; swap
          · iexact HG
          · ipureintro; intro s hs _
            obtain rfl : s = t := Fin.ext (Nat.succ.inj hs.symm)
            exact k0
        isplitl [HU]
        · iexists a1; isplitr; swap
          · iexact HU
          · ipureintro; intro s hs _
            obtain rfl : s = t := Fin.ext (Nat.succ.inj hs.symm)
            exact k1
        isplitl [HE]; · iexact HE
        iexact HN
      isplitl [H4]; · iapply owns_of_rep; iexact H4
      isplitl [H5]; · iapply owns_of_rep; iexact H5
      isplitl [H6]; · iapply owns_of_rep; iexact H6
      iexact H7
  · have ho : outBlk pf hr m c t = k0_pay4 := if_neg hu
    rw [ho]
    iapply (run_unused c (crd pf hr t) (st0 pf hr t) (sw0 pf hr t) (st1 pf hr t) (sw1 pf hr t) (st2 pf hr t) (sw2 pf hr t) (st3 pf hr t) (sw3 pf hr t)
      (tab0 pf) (tab1 pf) (iblk pf hr m c (0 : Fin 4) t) (iblk pf hr m c (1 : Fin 4) t) (iblk pf hr m c (2 : Fin 4) t) a0 a1 (fun h => hu (h1.mp h)) (h3.mpr hu) _)
    isplitl [H4 H5 H6 HE HN]
    · isplitl [H4]; · iapply rep_of_owns; iexact H4
      isplitl [H5]; · iapply rep_of_owns; iexact H5
      isplitl [H6]; · iapply rep_of_owns; iexact H6
      isplitl [HE]; · iexact HE
      iexact HN
    isplitl [H7]; · iexact H7
    isplitl [HG]; · iexact HG
    isplitl [HU]; · iexact HU
    iintro ⟨⟨H4, H5, H6, HE, HN⟩, H7, HG, HU⟩
    isplitl [HG HU HE HN]
    · isplitl [HG]
      · iexists a0; isplitr; swap
        · iexact HG
        · ipureintro; intro s hs hsu
          obtain rfl : s = t := Fin.ext (Nat.succ.inj hs.symm)
          exact absurd hsu hu
      isplitl [HU]
      · iexists a1; isplitr; swap
        · iexact HU
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    isplitl [H6]; · iapply owns_of_rep; iexact H6
    iexact H7

end Cert.Kernel2Ideal.Up

end
-- ==== Proof.Up.Launch.lean ====
module

public import proofs.«01_k».proof.Proof.Up.Step

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, before_2, after_0, after_1, after_2, after_3]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H6, H7⟩
    isplitl [HP]; · iexact HP
    isplitl [Ho]; · iexact Ho
    isplitl [H4]; · iexact H4
    isplitl [H5]; · iexact H5
    isplitl [H6]; · iexact H6
    iexact H7
  · iintro ⟨HP, Ho, ⟨%d0, H4⟩, ⟨%d1, H5⟩, ⟨%d2, H6⟩, ⟨%d3, H7⟩⟩
    isplitl [Ho]; · iexact Ho
    isplitl [HP]; · iexact HP
    isplitl [H4]; · iexact H4
    isplitl [H5]; · iexact H5
    isplitl [H6]; · iexact H6
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HG⟩, ⟨%a1, HU⟩⟩
  isplitl [HG]
  · iexists a0; isplitr; swap
    · iexact HG
    · ipureintro; intro s hs; exact absurd hs.symm (Nat.succ_ne_zero _)
  isplitl [HU]
  · iexists a1; isplitr; swap
    · iexact HU
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HG⟩, ⟨%a1, -, HU⟩, -, -⟩
  isplitr; · iempintro
  isplitl [HG]
  · iexists a0; iexact HG
  iexists a1; iexact HU

/-- The tables are the memory's, on every core. -/
def Holds : Prop := ∀ (c : Dev nD) (j : Fin 2), m ((c : Thread nD τ).loc (pre0.ref j)) = pf j

/-- Where every run ends: each array as computed, each table as it was. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)
    ∧ ∀ j, r.2.mem ((c : Thread nD τ).loc (pre0.ref j)) = (adm pf hr).1 j

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hr) (dats pf hr m) 0 (launch0 (F := F)).win.arr_inj c (launch0 (F := F)).arr_whole
      (share_full pf hr m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first pf hr m)
    (hout := phi_last pf hr m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The arguments end as they were, every counter at zero, and the result is what the pipeline computes. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 4)).trans ((dats pf hr m 0 c).arrAt_in (0 : Fin 4) rfl _),
    ((h.1 c).1 (1 : Fin 4)).trans ((dats pf hr m 0 c).arrAt_in (1 : Fin 4) rfl _),
    ((h.1 c).1 (2 : Fin 4)).trans ((dats pf hr m 0 c).arrAt_in (2 : Fin 4) rfl _),
    ((h.1 c).2 0).trans (hp c 0).symm, ((h.1 c).2 1).trans (hp c 1).symm⟩, h.2⟩) (run_main pf hr m ρ hp)

end Cert.Kernel2Ideal.Up

end
-- ==== Proof.Up.Frames.lean ====
module

public import proofs.«01_k».proof.Proof.Up.Launch
public import proofs.«01_k».proof.Proof.Gen.Kernel2
public import proofs.«01_k».proof.Proof.Gen.Pre_in_range2
public import proofs.«01_k».proof.Defs

@[expose] public section

noncomputable section

namespace Cert.Kernel2Ideal.Up

open Cert.Kernel2Ideal Cert.Kernel2Ideal.Gen
open Idealize.ShloMosaic
open Idealize.ShloMosaic.TcCoe
open Idealize.SL.Sem

variable {F : FTy → Type} [FloatOps F]

/-! ## The tables' ranges, from the precondition -/

/-- An expert's number at least zero and below sixteen, and a count between one and forty-one, as words. -/
theorem word_ranges (w n : BitVec 32)
    (h : IntOp.andi (IntOp.andi (IntOp.andi (IntOp.cmpi .sge w 0#32) (IntOp.cmpi .slt w 16#32)) (IntOp.cmpi .sge n 1#32)) (IntOp.cmpi .sle n 41#32) = 1#1) :
    w.toNat < 16 ∧ 1 ≤ n.toNat ∧ n.toNat ≤ 41 := by
  have split : ∀ a b : BitVec 1, IntOp.andi a b = 1#1 → a = 1#1 ∧ b = 1#1 := by decide
  have dec : ∀ p : Prop, ∀ [Decidable p], BitVec.ofBool (decide p) = 1#1 → p := fun p _ hp => by
    by_cases q : p
    · exact q
    · simp [q] at hp
  obtain ⟨h, h4⟩ := split _ _ h
  obtain ⟨h, h3⟩ := split _ _ h
  obtain ⟨h1, h2⟩ := split _ _ h
  have k1 := dec _ h1
  have k2 := dec _ h2
  have k3 := dec _ h3
  have k4 := dec _ h4
  have z0 : (0#32 : BitVec 32).toInt = 0 := by decide
  have z1 : (1#32 : BitVec 32).toInt = 1 := by decide
  have z16 : (16#32 : BitVec 32).toInt = 16 := by decide
  have z41 : (41#32 : BitVec 32).toInt = 41 := by decide
  rw [z0] at k1; rw [z16] at k2; rw [z1] at k3; rw [z41] at k4
  rw [BitVec.toInt_eq_toNat_cond] at k1 k2 k3 k4
  have := w.isLt
  have := n.isLt
  refine ⟨?_, ?_, ?_⟩ <;> split_ifs at * <;> omega

/-- The tables of the first core. -/
def tables (m : (ℓ : Loc nD τ sig) → Buf (Elt F) ℓ) : pre0.Contents (Elt F) := fun j => m (((0 : Dev nD).tc : Thread nD τ).loc (pre0.ref j))

theorem holds_tables (m : (ℓ : Loc nD τ sig) → Buf (Elt F) ℓ) : Holds (tables m) m := fun c j => by
  have e : c = (0 : Dev nD) := Subsingleton.elim _ _
  subst e; rfl

theorem one_idx (x y : S1.Idx) : x = y := funext fun a => by
  match a with
  | ⟨0, _⟩ => exact Subsingleton.elim (α := Fin 1) _ _

/-- The precondition, decoded at a block. -/
theorem pre_at (a0 : FVec F Cert.Pre_in_range2.S20992x2048 .bf16) (a1 a2 : FVec F Cert.Pre_in_range2.S16x2048x7168 .f32) (a3 : IVec S41 32) (a4 : IVec S1 32)
    (h : Cert.Pre_in_range2.fn (F := F) a0 a1 a2 a3 a4 = fun _ => 1#1) (b : Fin 41) :
    (a3 (ix1 b)).toNat < 16 ∧ 1 ≤ (a4 (ix1 (0 : Fin 1))).toNat ∧ (a4 (ix1 (0 : Fin 1))).toNat ≤ 41 := by
  have hb := congrFun h (ix1 b)
  refine word_ranges _ _ (Eq.trans ?_ hb)
  simp only [Cert.Pre_in_range2.fn, andi, cmpi, broadcastInDim, constantI]
  congr 2
  · congr 1
    exact congrArg a4 (one_idx _ _)
  · exact congrArg a4 (one_idx _ _)

/-- The precondition gives the ranges. -/
theorem ranges_of_pre (m : (ℓ : Loc nD τ sig) → Buf (Elt F) ℓ) (a0 : FVec F Cert.Pre_in_range2.S20992x2048 .bf16) (a1 a2 : FVec F Cert.Pre_in_range2.S16x2048x7168 .f32)
    (h : Cert.Pre_in_range2.fn (F := F) a0 a1 a2 (m (((0 : Dev nD).tc : Thread nD τ).loc main_arg3)) (m (((0 : Dev nD).tc : Thread nD τ).loc main_arg4)) = fun _ => 1#1) :
    Ranges (tables m) :=
  ⟨fun b => (pre_at _ _ _ _ _ h b).1, (pre_at _ _ _ _ _ h 0).2.1, (pre_at _ _ _ _ _ h 0).2.2⟩

/-- The idealized program's frame. -/
theorem frame_ideal : Cert.quiescent_Kernel2Ideal := fun m ρ hp =>
  run_frame (tables m) (ranges_of_pre m _ _ _ (hp 0)) m ρ (holds_tables m)

end Cert.Kernel2Ideal.Up

end
-- ==== Proof.Up.FrameBits.lean ====
module

public import proofs.«01_k».proof.Proof.Up.Frames
public import proofs.«01_k».proof.Proof.Gen.Kernel2
public import proofs.«01_k».proof.Proof.Gen.Pre_in_range2
public import proofs.«01_k».proof.Defs

@[expose] public section

noncomputable section

namespace Cert.Kernel2Ideal.Up

open Cert.Kernel2Ideal Cert.Kernel2Ideal.Gen
open Idealize.ShloMosaic
open Idealize.ShloMosaic.TcCoe
open Idealize.SL.Sem

set_option maxHeartbeats 400000
/-- The two programs' bodies are one text. -/
theorem body_eq : @Cert.Kernel2.cc0_moe_up Bits _ _ = @Cert.Kernel2Ideal.cc0_moe_up Bits _ _ := by
  funext i a2 h2 a3 h3 a4 h4 a5 h5 a6 h6 a7 h7 a8 h8 a9 h9
  unfold Cert.Kernel2.cc0_moe_up Cert.Kernel2Ideal.cc0_moe_up
  rfl

/-- And so their body tables. -/
theorem table_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    have e := body_eq
    simp only [funext_iff] at e
    exact e _ _ _ _ _ _ _ _ _ _ _ _ _ _ _ _ _

theorem defs_eq : Cert.Kernel2.defs (F := Bits) = Cert.Kernel2Ideal.defs (F := Bits) := congrArg (Pipeline.defs Cert.Kernel2Ideal.pcfgs) table_eq

/-- The program's frame, from the same run. -/
theorem frame_kernel : Cert.quiescent_Kernel2 := fun m ρ hp => by
  have hr : Ranges (F := Bits) (tables (F := Bits) m) := ranges_of_pre (F := Bits) m _ _ _ (hp 0)
  rw [defs_eq]
  exact run_frame (F := Bits) (tables (F := Bits) m) hr m ρ (holds_tables (F := Bits) m)

end Cert.Kernel2Ideal.Up

end
-- ==== Proof.Up.Value.lean ====
/- What the gated half of the expert layer computes, and that the pipeline leaves it. -/
module

public import proofs.«01_k».proof.Proof.Up.Launch
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Up

open Cert.Kernel2Ideal Cert.Kernel2Ideal.Gen
open Idealize.ShloMosaic
open Idealize.ShloMosaic.TcCoe
open Idealize.SL.Sem

/-! ## The mathematics -/

/-- The block of 512 rows a row lies in. -/
def blockOf (r : Fin 20992) : Fin 41 := ⟨r.val / 512, by omega⟩

/-- A block's expert. -/
def expertAt (be : IVec S41 32) (b : Fin 41) : Fin 16 := ⟨min (be (ix1 b)).toNat 15, by omega⟩

/-- A row against a column of its expert's weights. -/
def proj (x : FVec Ideal S20992x2048 .bf16) (w : FVec Ideal S16x2048x7168 .f32) (be : IVec S41 32) (r : Fin 20992) (n : Fin 7168) : EReal :=
  ∑ k : Fin 2048, x (ix2 r k) * w (ix3 (expertAt be (blockOf r)) k n)

/-- The gate. -/
def gated (g u : EReal) : EReal := g * Ideal.logistic g * u

/-- The gated product of the two projections in the blocks in use, zero in the others. -/
def result (x : FVec Ideal S20992x2048 .bf16) (wg wu : FVec Ideal S16x2048x7168 .f32) (be : IVec S41 32) (nu : IVec S1 32) : FVec Ideal S20992x7168 .bf16 :=
  fun z => if (blockOf (z 0)).val < (nu (ix1 (0 : Fin 1))).toNat then gated (proj x wg be (z 0) (z 1)) (proj x wu be (z 0) (z 1)) else (0 : EReal)

/-! ## The body's payloads, read at an index -/

theorem pay1_apply (v : Vec Ideal S1x2048x1024 .f32) (k : Fin 2048) (n : Fin 1024) : k0_pay1 v (ix2 k n) = v (ix3 0 k n) := by
  unfold k0_pay1
  pointwise

theorem pay2_apply (v : Vec Ideal S1x2048x1024 .f32) (k : Fin 2048) (n : Fin 1024) : k0_pay2 v (ix2 k n) = v (ix3 0 k n) := by
  unfold k0_pay2
  pointwise

theorem pay3_apply (x : Vec Ideal S512x2048 .bf16) (g u : Vec Ideal S2048x1024 .bf16) (r : Fin 512) (n : Fin 1024) :
    k0_pay3 x g u (ix2 r n) = gated (∑ k : Fin 2048, x (ix2 r k) * g (ix2 k n)) (∑ k : Fin 2048, x (ix2 r k) * u (ix2 k n)) := by
  unfold k0_pay3 gated
  pointwise

theorem pay4_apply (r : Fin 512) (n : Fin 1024) : (k0_pay4 (F := Ideal)) (ix2 r n) = (0 : EReal) := by
  unfold k0_pay4
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S20992x2048 .bf16 := m ((c : Thread nD τ).loc main_arg0)
abbrev gatesOf (c : Dev nD) : FVec Ideal S16x2048x7168 .f32 := m ((c : Thread nD τ).loc main_arg1)
abbrev upsOf (c : Dev nD) : FVec Ideal S16x2048x7168 .f32 := m ((c : Thread nD τ).loc main_arg2)

theorem out_eq (c : Dev nD) (t : Fin (cfgA pf hr).N) (r : Fin 512) (n : Fin 1024) (z : S20992x7168.Idx)
    (h0 : (z 0).val = (crd pf hr t 1).val * 512 + r.val) (h1 : (z 1).val = (crd pf hr t 0).val * 1024 + n.val) :
    outBlk pf hr m c t (ix2 r n) = result (rowsOf m c) (gatesOf m c) (upsOf m c) (tab0 pf) (tab1 pf) z := by
  have hb : (blockOf (z 0)).val = (crd pf hr t 1).val := by show (z 0).val / 512 = _; omega
  have hh : blockOf (z 0) = here (crd pf hr t) := Fin.ext hb
  have he : (expertAt (tab0 pf) (blockOf (z 0))).val = expertOf pf (here (crd pf hr t)) := by
    rw [hh]
    exact Nat.min_eq_left (Nat.le_of_lt_succ (hr.expert _))
  unfold outBlk result
  by_cases hu : Used pf hr t
  · rw [if_pos hu, if_pos (by rw [hb]; exact hu), pay3_apply]
    have hx : ∀ k : Fin 2048, (iblk pf hr m c (0 : Fin 4) t : S512x2048.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 2048, copyG pf hr m c t (ix2 k n) = gatesOf m c (ix3 (expertAt (tab0 pf) (blockOf (z 0))) k (z 1)) := fun k =>
      (pay1_apply _ k n).trans (iblk_1 pf hr m c t (ix3 0 k n) (ix3 _ k (z 1)) (by show (expertAt _ _).val = _ * 1 + 0; rw [he]; omega) rfl h1)
    have hw : ∀ k : Fin 2048, copyU pf hr m c t (ix2 k n) = upsOf m c (ix3 (expertAt (tab0 pf) (blockOf (z 0))) k (z 1)) := fun k =>
      (pay2_apply _ k n).trans (iblk_2 pf hr m c t (ix3 0 k n) (ix3 _ k (z 1)) (by show (expertAt _ _).val = _ * 1 + 0; rw [he]; omega) rfl h1)
    unfold proj
    refine congrArg₂ gated (Finset.sum_congr rfl fun k _ => ?_) (Finset.sum_congr rfl fun k _ => ?_)
    · exact congrArg₂ (fun a b : EReal => a * b) (hx k) (hg k)
    · exact congrArg₂ (fun a b : EReal => a * b) (hx k) (hw k)
  · rw [if_neg hu, if_neg (by rw [hb]; exact hu), pay4_apply]

/-! ## The array -/

theorem covers_out : ((cfgA pf hr).win (3 : Fin 4)).Covers :=
  Pipeline.Window.covers_of_indexMap_surj _ rfl
    (fun a => by
      match a with
      | ⟨0, _⟩ => show 0 < 512; norm_num
      | ⟨1, _⟩ => show 0 < 1024; norm_num)
    fun β => by
    have e0 : ((cfgA pf hr).win (3 : Fin 4)).nblk (0 : Fin 2) = 41 := by show (20992 + 512 - 1) / 512 = 41; norm_num
    have e1 : ((cfgA pf hr).win (3 : Fin 4)).nblk (1 : Fin 2) = 7 := by show (7168 + 1024 - 1) / 1024 = 7; norm_num
    have b0 : (β (0 : Fin 2)).val < 41 := e0 ▸ (β (0 : Fin 2)).isLt
    have b1 : (β (1 : Fin 2)).val < 7 := e1 ▸ (β (1 : Fin 2)).isLt
    let i : grid0.Coords := fun a => match a with | ⟨0, _⟩ => ⟨(β (1 : Fin 2)).val, b1⟩ | ⟨1, _⟩ => ⟨(β (0 : Fin 2)).val, b0⟩
    have e : ((cfgA pf hr).win (3 : Fin 4)).indexMap i = ![(i 1).val, (i 0).val] := transform_3_eq i
    refine ⟨i, fun a => (congrFun e a).trans ?_⟩
    match a with
    | ⟨0, _⟩ => rfl
    | ⟨1, _⟩ => rfl

theorem array_eq (c : Dev nD) :
    (dats pf hr m 0 c).arrAt (3 : Fin 4) (cfgA pf hr).N = result (rowsOf m c) (gatesOf m c) (upsOf m c) (tab0 pf) (tab1 pf) := by
  refine (dats pf hr m 0 c).arrAt_eq_of_covers (3 : Fin 4) _ (covers_out pf hr) fun t hf y => ?_
  have e : ((cfgA pf hr).win (3 : Fin 4)).index t = ![(crd pf hr t 1).val, (crd pf hr t 0).val] := transform_3_eq (crd pf hr t)
  have hv := Pipeline.Window.rect_emb_val ((cfgA pf hr).win (3 : Fin 4)) t y
  rw [e] at hv
  have hy : (y : S512x1024.Idx) = ix2 (y 0) (y 1) := eq_ix2 _
  rw [after_3]
  refine Eq.trans ?_ (out_eq pf hr m c t (y 0) (y 1) _ (hv 0) (hv 1))
  exact congrArg (outBlk pf hr m c t) hy

end Cert.Kernel2Ideal.Up

end
-- ==== Proof.Up.RefValue.lean ====
/- The reference of the gated half of the expert layer, read at an index. -/
module

public import proofs.«01_k».proof.Proof.Up.Value
public import proofs.«01_k».proof.Proof.Gen.Reference2Ideal.Read
public import Idealize.ShloMosaic.Lib.WordCmp

@[expose] public section

set_option maxRecDepth 16384

noncomputable section

namespace Cert.Reference2Ideal.Blocks

open Cert.Reference2Ideal Cert.Reference2Ideal.Gen Cert.Reference2Ideal.Read
open Idealize.ShloMosaic
open Cert.Kernel2Ideal.Up (blockOf expertAt proj gated result)

/-- The weights of each block: the gather reads its start clamped into the sixteen experts. -/
theorem gather_at (w : FVec Ideal S16x2048x7168 .f32) (idx : IVec S41x1 32) (b : Fin 41) (k : Fin 2048) (n : Fin 7168) :
    Host.gather gather_S16x2048x7168_S41x1_S41x2048x7168_12_0_n_n_0_1_120487168 w idx (ix3 b k n)
      = w (ix3 (⟨min (idx (ix2 b 0)).toInt.toNat 15, by omega⟩ : Fin 16) k n) := by
  unfold Host.gather
  refine congrArg w (funext fun a => Fin.ext ?_)
  match a with
  | ⟨0, _⟩ =>
    have h : gather_S16x2048x7168_S41x1_S41x2048x7168_12_0_n_n_0_1_120487168.siIdx (ix3 b k n) (0 : Fin 1) = ix2 b 0 := funext fun a => by
      match a with
      | ⟨0, _⟩ => rfl
      | ⟨1, _⟩ => rfl
    exact congrArg (fun i => min (idx i).toInt.toNat 15) h
  | ⟨1, _⟩ =>
    have h1 : gather_S16x2048x7168_S41x1_S41x2048x7168_12_0_n_n_0_1_120487168.start (ix3 b k n) idx (1 : Fin 3) = 0 := by
      unfold GatherDims.start; exact dif_neg (by decide)
    have h2 : gather_S16x2048x7168_S41x1_S41x2048x7168_12_0_n_n_0_1_120487168.batchCoord (ix3 b k n) (1 : Fin 3) = 0 :=
      GatherDims.batchCoord_eq_zero _ _ _ List.not_mem_nil
    have h3 : gather_S16x2048x7168_S41x1_S41x2048x7168_12_0_n_n_0_1_120487168.offCoord (ix3 b k n) (1 : Fin 3) = k.val := by
      unfold GatherDims.offCoord; rw [dif_pos (by decide)]; rfl
    show gather_S16x2048x7168_S41x1_S41x2048x7168_12_0_n_n_0_1_120487168.start (ix3 b k n) idx (1 : Fin 3) + gather_S16x2048x7168_S41x1_S41x2048x7168_12_0_n_n_0_1_120487168.batchCoord (ix3 b k n) (1 : Fin 3)
      + gather_S16x2048x7168_S41x1_S41x2048x7168_12_0_n_n_0_1_120487168.offCoord (ix3 b k n) (1 : Fin 3) = _
    rw [h1, h2, h3]
    exact (congrArg (· + k.val) (Nat.add_zero 0)).trans (Nat.zero_add _)
  | ⟨2, _⟩ =>
    have h1 : gather_S16x2048x7168_S41x1_S41x2048x7168_12_0_n_n_0_1_120487168.start (ix3 b k n) idx (2 : Fin 3) = 0 := by
      unfold GatherDims.start; exact dif_neg (by decide)
    have h2 : gather_S16x2048x7168_S41x1_S41x2048x7168_12_0_n_n_0_1_120487168.batchCoord (ix3 b k n) (2 : Fin 3) = 0 :=
      GatherDims.batchCoord_eq_zero _ _ _ List.not_mem_nil
    have h3 : gather_S16x2048x7168_S41x1_S41x2048x7168_12_0_n_n_0_1_120487168.offCoord (ix3 b k n) (2 : Fin 3) = n.val := by
      unfold GatherDims.offCoord; rw [dif_pos (by decide)]; rfl
    show gather_S16x2048x7168_S41x1_S41x2048x7168_12_0_n_n_0_1_120487168.start (ix3 b k n) idx (2 : Fin 3) + gather_S16x2048x7168_S41x1_S41x2048x7168_12_0_n_n_0_1_120487168.batchCoord (ix3 b k n) (2 : Fin 3)
      + gather_S16x2048x7168_S41x1_S41x2048x7168_12_0_n_n_0_1_120487168.offCoord (ix3 b k n) (2 : Fin 3) = _
    rw [h1, h2, h3]
    exact (congrArg (· + n.val) (Nat.add_zero 0)).trans (Nat.zero_add _)

/-- An expert's number is not negative, so it is read as it stands. -/
theorem expert_word (w : BitVec 32) (h : w.toNat < 16) :
    Scalar.select (IntOp.cmpi .slt w 0#32) (IntOp.addi w 16#32) w = w ∧ w.toInt.toNat = w.toNat := by
  constructor
  · rw [WordCmp.cmpi_slt_zero, decide_eq_false (show ¬ (2 ^ (32 - 1) ≤ w.toNat) from by norm_num; omega)]
    rfl
  · rw [WordCmp.toInt_eq_toNat_of_lt_half (show w.toNat < 2 ^ (32 - 1) from by norm_num; omega)]
    rfl

/-- The weights the gate's product reads in a block. -/
theorem weights_gate (w : FVec Ideal S16x2048x7168 .f32) (be : IVec S41 32) (hbe : ∀ b : Fin 41, (be (ix1 b)).toNat < 16) (b : Fin 41) (k : Fin 2048) (n : Fin 7168) :
    val_main_v8 (F := Ideal) w be (ix3 b k n) = w (ix3 (expertAt be b) k n) := by
  have hw : val_main_v7 (F := Ideal) be (ix2 b 0) = be (ix1 b) := by
    have e : idx_main_v7 (ix2 b 0) = ix1 b := funext fun a => by
      match a with
      | ⟨0, _⟩ => rfl
    rw [val_main_v7_apply, e, val_main_v6_apply, val_main_v3_apply, val_main_v5_apply, val_main_v2_apply, val_main_v4_apply]
    exact (expert_word _ (hbe b)).1
  unfold val_main_v8
  rw [gather_at]
  refine congrArg w (congrArg (fun e => ix3 e k n) (Fin.ext ?_))
  show min (val_main_v7 (F := Ideal) be (ix2 b 0)).toInt.toNat 15 = min (be (ix1 b)).toNat 15
  rw [hw, (expert_word _ (hbe b)).2]

/-- And those the other product reads. -/
theorem weights_up (w : FVec Ideal S16x2048x7168 .f32) (be : IVec S41 32) (hbe : ∀ b : Fin 41, (be (ix1 b)).toNat < 16) (b : Fin 41) (k : Fin 2048) (n : Fin 7168) :
    val_main_v16 (F := Ideal) w be (ix3 b k n) = w (ix3 (expertAt be b) k n) :=
  weights_gate w be hbe b k n

/-- The two products, read at a row. -/
theorem product_at (x : FVec Ideal S20992x2048 .bf16) (w : FVec Ideal S16x2048x7168 .f32) (be : IVec S41 32) (hbe : ∀ b : Fin 41, (be (ix1 b)).toNat < 16)
    (r : Fin 20992) (i : S41x512x7168.Idx) (h : r.val = (i 0).val * 512 + (i 1).val) :
    val_main_v9 (F := Ideal) x w be i = proj x w be r (i 2) := by
  have i1 : (i 1).val < 512 := (i 1).isLt
  rw [val_main_v9_apply]
  unfold proj
  refine Finset.sum_congr rfl fun k _ => congrArg₂ (fun a b : EReal => a * b) ?_ ?_
  · rw [val_main_v1_apply, val_main_v0_apply]
    refine congrArg x (funext fun a => Fin.ext ?_)
    match a with
    | ⟨0, _⟩ => show (((i 0).val * 512 + (i 1).val) * 2048 + k.val) / 2048 = r.val; omega
    | ⟨1, _⟩ => show (((i 0).val * 512 + (i 1).val) * 2048 + k.val) % 2048 = k.val; omega
  · have hb : blockOf r = i 0 := Fin.ext (by show r.val / 512 = (i 0).val; omega)
    rw [hb]
    have e : ridx_main_v9 i k = ix3 (i 0) k (i 2) := funext fun a => by
      match a with
      | ⟨0, _⟩ => rfl
      | ⟨1, _⟩ => rfl
      | ⟨2, _⟩ => rfl
    rw [e]
    exact weights_gate w be hbe (i 0) k (i 2)

theorem one_eq : Ideal.ofBits FTy.f32 0x3F800000#32 = (1 : EReal) := by
  simp [Ideal.ofBits, Ideal.ieee, -EReal.coe_mul]
  norm_num

/-- Whether a block is in use. -/
theorem used_at (nu : IVec S1 32) (hn : (nu (ix1 (0 : Fin 1))).toNat ≤ 41) (b : Fin 41) :
    IntOp.cmpi .slt (BitVec.ofNat 32 b.val) (nu (ix1 (0 : Fin 1))) = if b.val < (nu (ix1 (0 : Fin 1))).toNat then 1#1 else 0#1 := by
  have hb : (BitVec.ofNat 32 b.val).toNat = b.val := by rw [BitVec.toNat_ofNat]; omega
  rw [WordCmp.cmpi_slt_of_lt (by rw [hb]; omega) (by omega), hb]
  by_cases h : b.val < (nu (ix1 (0 : Fin 1))).toNat <;> simp [h]

/-- The reference's result is the gated product in the blocks in use. -/
theorem result_eq (x : FVec Ideal S20992x2048 .bf16) (wg wu : FVec Ideal S16x2048x7168 .f32) (be : IVec S41 32) (nu : IVec S1 32)
    (hbe : ∀ b : Fin 41, (be (ix1 b)).toNat < 16) (hn : (nu (ix1 (0 : Fin 1))).toNat ≤ 41) :
    val_main_v26 (F := Ideal) x wg wu be nu = result x wg wu be nu := by
  funext z
  rw [val_main_v26_apply, val_main_v25_apply]
  generalize hi : idx_main_v25 z = i
  have z0 : (z 0).val < 20992 := (z 0).isLt
  have z1 : (z 1).val < 7168 := (z 1).isLt
  have i0 : (i 0).val = (z 0).val / 512 := by rw [← hi]; show ((z 0).val * 7168 + (z 1).val) / (512 * 7168) = _; omega
  have i1 : (i 1).val = (z 0).val % 512 := by rw [← hi]; show ((z 0).val * 7168 + (z 1).val) / 7168 % 512 = _; omega
  have i2 : i 2 = z 1 := Fin.ext (by rw [← hi]; show ((z 0).val * 7168 + (z 1).val) % 7168 = _; omega)
  have hb : blockOf (z 0) = i 0 := Fin.ext i0.symm
  have hr : (z 0).val = (i 0).val * 512 + (i 1).val := by omega
  have hg := product_at x wg be hbe (z 0) i hr
  have hu : val_main_v17 (F := Ideal) x wu be i = proj x wu be (z 0) (i 2) := product_at x wu be hbe (z 0) i hr
  rw [val_main_v24_apply, val_main_call1_v1_apply, val_main_v21_apply, val_main_v20_apply, val_main_v18_apply, val_main_v19_apply]
  have e : idx_main_v19 (idx_main_v21 (idx_main_call1_v1 i)) = ix1 (0 : Fin 1) := funext fun a => by
    match a with
    | ⟨0, _⟩ => rfl
  have hz : val_main_call1_v2 (F := Ideal) i = (0 : EReal) := by
    rw [val_main_call1_v2_apply, val_main_call1_v0_apply, val_main_cst_apply]
    exact Ideal.ofBits_zero_f32
  have hv : val_main_v23 (F := Ideal) x wg wu be i = gated (proj x wg be (z 0) (z 1)) (proj x wu be (z 0) (z 1)) := by
    rw [val_main_v23_apply, val_main_v22_apply, val_main_call0_v5_apply, val_main_call0_v4_apply, val_main_call0_cst_0_apply, val_main_call0_v3_apply,
      val_main_call0_v2_apply, val_main_call0_cst_apply, val_main_call0_v1_apply, val_main_call0_v0_apply, hg, hu, i2]
    show proj x wg be (z 0) (z 1) * Ideal.div (Ideal.ofBits FTy.f32 0x3F800000#32) (Ideal.ofBits FTy.f32 0x3F800000#32 + Ideal.exp (-proj x wg be (z 0) (z 1))) * proj x wu be (z 0) (z 1) = _
    rw [one_eq]
    rfl
  rw [e, hz, hv]
  show Scalar.select (IntOp.cmpi .slt (BitVec.ofNat 32 (i 0).val) (nu (ix1 (0 : Fin 1)))) (gated (proj x wg be (z 0) (z 1)) (proj x wu be (z 0) (z 1))) (0 : EReal) = _
  rw [used_at nu hn (i 0)]
  unfold result
  rw [hb]
  by_cases h : (i 0).val < (nu (ix1 (0 : Fin 1))).toNat
  · rw [if_pos h, if_pos h]; rfl
  · rw [if_neg h, if_neg h]; rfl

end Cert.Reference2Ideal.Blocks

end
-- ==== Proof.Up.Equal.lean ====
module

public import proofs.«01_k».proof.Proof.Up.Frames
public import proofs.«01_k».proof.Proof.Up.RefValue
public import proofs.«01_k».proof.Proof.Gen.Reference2Ideal.Run
public import Idealize.ShloMosaic.Lib.Quiescent
public import proofs.«01_k».proof.Defs

@[expose] public section

noncomputable section

namespace Cert.Kernel2Ideal.Up

open Cert.Kernel2Ideal Cert.Kernel2Ideal.Gen
open Idealize.ShloMosaic
open Idealize.ShloMosaic.TcCoe
open Idealize.SL.Sem

/-- The result of the gated product over the blocks, of a memory's arguments. -/
def value (m : (ℓ : Loc nD τ sig) → Buf (Elt Ideal) ℓ) (c : Dev nD) : FVec Ideal S20992x7168 .bf16 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v0) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (3 : Fin 4)).trans ((array_eq (tables m) hr m c).trans (by
      have e : c = (0 : Dev nD) := Subsingleton.elim _ _
      subst e; rfl)),
    ((h.1 c).1 (0 : Fin 4)).trans ((dats (tables m) hr m 0 c).arrAt_in (0 : Fin 4) rfl _),
    ((h.1 c).1 (1 : Fin 4)).trans ((dats (tables m) hr m 0 c).arrAt_in (1 : Fin 4) rfl _),
    ((h.1 c).1 (2 : Fin 4)).trans ((dats (tables m) hr m 0 c).arrAt_in (2 : Fin 4) rfl _),
    ((h.1 c).2 0).trans (holds_tables m c 0).symm, ((h.1 c).2 1).trans (holds_tables m c 1).symm⟩)
    (run_main (tables m) hr m ρ (holds_tables m))

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The kernel and its reference end with equal results. -/
theorem equal_results : Cert.algebraic_Kernel2Ideal_Reference2Ideal := fun m ρ m' ρ' hp hm => by
  have hr := ranges_of_pre m _ _ _ (hp 0)
  refine ⟨value m, run_value m ρ hr, (θ_run Cert.Reference2Ideal.defs _ _).mono (fun _ h c => ⟨(h c).1.trans ?_, (h c).2⟩)
    (Cert.Reference2Ideal.Value.run m' ρ')⟩
  refine (Cert.Reference2Ideal.Read.val_main_v26_eq _ _ _ _ _).trans ?_
  have e : c = (0 : Dev nD) := Subsingleton.elim _ _
  subst e
  have h0 := hm 0
  rw [h0.1, h0.2.1, h0.2.2.1, h0.2.2.2.1, h0.2.2.2.2]
  exact Cert.Reference2Ideal.Blocks.result_eq _ _ _ _ _ hr.1 hr.le

end Cert.Kernel2Ideal.Up

end
-- ==== Proof.Down.Run.lean ====
module

public import proofs.«01_k».proof.Proof.Gen.Kernel3Ideal.Skeleton
public import proofs.«01_k».proof.Proof.Gen.Kernel3Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, whole. -/
abbrev tabE : Memref sig .tc .smem S41 .i32 := Memref.whole main_arg2
/-- The number of blocks in use, whole. -/
abbrev tabN : Memref sig .tc .smem S1 .i32 := Memref.whole main_arg3
/-- The copy of the weights' block. -/
abbrev accW : Memref sig .tc .vmem S7168x512 .bf16 := Memref.whole cc0_scratch0
/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The expert of the block before, as the body reads it. -/
abbrev wordP (i : grid0.Coords) (T0 : S41.Idx → Elt F .i32) : Elt F .i32 :=
  View.readAt (Elt F) tabE.view (Rect.unit (s := S41) (k0_off2 i) S1.size (k0_off2_inb i)).toLoadRect T0 (Shape.Idx.first (numel1_S1.symm ▸ Nat.one_pos))
/-- The expert of the block, as the body reads it. -/
abbrev wordE (i : grid0.Coords) (T0 : S41.Idx → Elt F .i32) : Elt F .i32 :=
  View.readAt (Elt F) tabE.view (Rect.unit (s := S41) (k0_off3 i) S1.size (k0_off3_inb i)).toLoadRect T0 (Shape.Idx.first (numel1_S1.symm ▸ Nat.one_pos))
/-- Whether the weights have changed, as the body decides it. -/
abbrev changed (i : grid0.Coords) (T0 : S41.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S512x7168 .bf16) (h4 : a4.IsWhole) (a5 : Memref sig .tc .vmem S1x7168x512 .f32) (h5 : a5.IsWhole)
  (a7 : Memref sig .tc .vmem S512x512 .f32) (h7 : a7.IsWhole)
  (T0 : S41.Idx → Elt F .i32) (T1 : S1.Idx → Elt F .i32)
  (x : S512x7168.Idx → Elt F .bf16) (w : S1x7168x512.Idx → Elt F .f32)

/-- The body at one point of the grid. -/
abbrev body : Prog (TpuEff nD τ sig (Elt F) Λ₀ .tc) PUnit :=
  cc0_moe_down i tabE (Memref.isWhole_whole _) tabN (Memref.isWhole_whole _) a4 h4 a5 h5 a7 h7 accW (Memref.isWhole_whole _)

/-- What the body holds besides its output and its copy. -/
abbrev held : sProp 𝕄 :=
  iprop((a4.view.loc (c : Thread nD τ) ↦[a4.view.set]{fullShare} a4.view.rep x)
    ∗ (a5.view.loc (c : Thread nD τ) ↦[a5.view.set]{fullShare} a5.view.rep w)
    ∗ (tabE.view.loc (c : Thread nD τ) ↦{fullShare.right} T0)
    ∗ (tabN.view.loc (c : Thread nD τ) ↦{fullShare.right} T1))

set_option maxHeartbeats 4000000 in
/-- A block in use whose weights are new: the copy is made, then the product is stored. -/
theorem run_new (b0 : accW.view.ty.Contents (Elt F)) (hu : k0_cond1 i (wordN T1) = 1#1) (hc : changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (k0_pay1 w))
            ∗ (∃ f, ⌜accW.view.read (Elt F) f = k0_pay1 w⌝ ∗ (accW.view.loc (c : Thread nD τ) ↦{fullShare} f))) -∗ K ⟨⟩))
      ⊢ wp frame (wpE (defs₀ (F := F)) Variants.none c none) Set.univ (body i a4 h4 a5 h5 a7 h7) K := by
  unfold owns body
  rw [cc0_moe_down_eq_skeleton]; unfold cc0_moe_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      have e5 := View.readAt_rep_full a5.view w inb_S1x7168x512_S1x7168x512_0_0_0
      have eW : run_new.sl.v19 a5 w = k0_pay1 w :=
        (View.readCov_full accW.view _ _ _ _).trans (congrArg k0_pay1 e5)
      rw [View.readAt_rep_full, eW]
  iexists _; isplitr; swap
  · iexact HW
  · ipureintro
    exact (View.read_writes_full _ _ _ _ _).trans (congrArg k0_pay1 (View.readAt_rep_full _ _ _))

set_option maxHeartbeats 4000000 in
/-- A block in use whose weights are those of the block before: the product is stored. -/
theorem run_same (b0 : accW.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (accW.view.read (Elt F) b0))
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_moe_down_eq_skeleton]; unfold cc0_moe_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      rw [View.readAt_rep_full, View.readAt_full]
  iexact HW

set_option maxHeartbeats 4000000 in
/-- A block not in use: zeros are stored. -/
theorem run_unused (b0 : accW.view.ty.Contents (Elt F)) (hu : ¬ k0_cond1 i (wordN T1) = 1#1)
    (hn : k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay3)
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_moe_down_eq_skeleton]; unfold cc0_moe_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      exact View.read_writes_full _ _ _ _ _
  iexact HW

end Cert.Kernel3Ideal.Down

end
-- ==== Proof.Down.Words.lean ====
module

public import proofs.«01_k».proof.Proof.Down.Run
public import proofs.«01_k».proof.Proof.Up.Words
public import Idealize.ShloMosaic.Lib.WordCmp
public import Idealize.ShloMosaic.Lib.Pointwise.Index

@[expose] public section

set_option maxRecDepth 16384

noncomputable section

namespace Cert.Kernel3Ideal.Down

open Cert.Kernel3Ideal Cert.Kernel3Ideal.Gen
open Cert.Kernel2Ideal.Up (bit_ne_zero slt_iff toNat_coord toNat_word)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

theorem coord_lt (i : grid0.Coords) : (i 1).val < 41 := (i 1).isLt
theorem col_lt (i : grid0.Coords) : (i 0).val < 4 := (i 0).isLt

/-- The body's first branch is taken just at the blocks in use. -/
theorem cond1_iff (i : grid0.Coords) (w : BitVec 32) (hw : w.toNat ≤ 41) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord hi]; omega) (by omega), toNat_coord hi]

/-- The body's last branch is taken just at the others. -/
theorem cond3_iff (i : grid0.Coords) (w : BitVec 32) (hw : w.toNat ≤ 41) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord hi]; omega) (by omega), toNat_coord hi]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 41 := i 1
/-- The place of the block before, the first block's its own. -/
def before (i : grid0.Coords) : Fin 41 := ⟨(i 1).val - 1, by have := coord_lt i; omega⟩

theorem off3_eq (i : grid0.Coords) : k0_off3 i 0 = (i 1).val := by
  show (BitVec.ofNat 32 (i 1).val).toNat = _
  exact toNat_coord (coord_lt i)

theorem off2_eq (i : grid0.Coords) : k0_off2 i 0 = (i 1).val - 1 := by
  have key : ∀ n : Fin 41, (Scalar.maxsi (Scalar.subi (BitVec.ofNat 32 n.val) 1#32) 0#32).toNat = n.val - 1 := by decide
  exact key (i 1)

theorem wordE_eq (i : grid0.Coords) (T0 : S41.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S41.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the expert is another than the block before's. -/
theorem changed_iff (i : grid0.Coords) (T0 : S41.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 41, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  expert : ∀ b : Fin 41, (pf 0 (ix1 b) : BitVec 32).toNat < 16
  pos : 1 ≤ (pf 1 (ix1 (0 : Fin 1)) : BitVec 32).toNat
  le : (pf 1 (ix1 (0 : Fin 1)) : BitVec 32).toNat ≤ 41

/-- The expert of a block. -/
abbrev expertOf (pf : pre0.Contents (Elt F)) (b : Fin 41) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 42, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 41) (n : Fin 42), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S41) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord (coord_lt i)]; rfl

theorem transform_1_eq (pf : pre0.Contents (Elt F)) (i : grid0.Coords) :
    cc0_transform_1 k0_off1_inb numel1_S1 pf i = ![expertOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (i : grid0.Coords) : cc0_transform_2 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord (coord_lt i)]

/-- In range, every block the pipeline moves lies in its array. -/
theorem ok_of_ranges (pf : pre0.Contents (Elt F)) (hr : Ranges pf) : ok0 pf := by
  refine ⟨fun i => ⟨?_, .inr (Affine.block_words_dvd (s := S20992x7168) (p := EltTy.packing .bf16) (by decide) (by decide))⟩,
    fun i => ⟨?_, .inl rfl⟩⟩
  · rw [transform_0_eq pf hr]
    have hi := coord_lt i
    intro a; fin_cases a
    · show (min (i 1).val (usedOf pf - 1) + 1) * 512 ≤ 20992
      omega
    · show (0 + 1) * 7168 ≤ 7168
      omega
  · rw [transform_1_eq]
    have he := hr.expert (here i)
    have hc := col_lt i
    intro a; fin_cases a
    · show (expertOf pf (here i) + 1) * 1 ≤ 16
      unfold expertOf; omega
    · show (0 + 1) * 7168 ≤ 7168
      omega
    · show ((i 0).val + 1) * 512 ≤ 2048
      omega

/-- In range, the output's block is stored at every point. -/
theorem idle_2 (pf : pre0.Contents (Elt F)) (hr : Ranges pf) (i : grid0.Coords) : idle0 pf 2 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel3Ideal.Down

end
-- ==== Proof.Down.Region.lean ====
module

public import proofs.«01_k».proof.Proof.Down.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of experts, at its own type. -/
abbrev tab0 : S41.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S512x7168 .bf16 := spec0_0.stage ((cfgA pf hr).slots t (0 : Fin 3))
abbrev sw0 (t : Fin (cfgA pf hr).N) : (st0 pf hr t).IsWhole := hstage0_0 (((cfgA pf hr).slots t (0 : Fin 3)).cast nbuf0_0)
abbrev st1 (t : Fin (cfgA pf hr).N) : Memref sig .tc .vmem S1x7168x512 .f32 := spec0_1.stage ((cfgA pf hr).slots t (1 : Fin 3))
abbrev sw1 (t : Fin (cfgA pf hr).N) : (st1 pf hr t).IsWhole := hstage0_1 (((cfgA pf hr).slots t (1 : Fin 3)).cast nbuf0_1)
abbrev st2 (t : Fin (cfgA pf hr).N) : Memref sig .tc .vmem S512x512 .f32 := spec0_2.stage ((cfgA pf hr).slots t (2 : Fin 3))
abbrev sw2 (t : Fin (cfgA pf hr).N) : (st2 pf hr t).IsWhole := hstage0_2 (((cfgA pf hr).slots t (2 : Fin 3)).cast nbuf0_2)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of weights a point copies. -/
abbrev copyW (c : Dev nD) (t : Fin (cfgA pf hr).N) : FVec F S7168x512 .bf16 := k0_pay1 (iblk pf hr m c (1 : Fin 3) t)
/-- What a point stores. -/
def outBlk (c : Dev nD) (t : Fin (cfgA pf hr).N) : FVec F S512x512 .f32 :=
  if Used pf hr t then k0_pay2 (iblk pf hr m c (0 : Fin 3) t) (copyW pf hr m c t) else k0_pay3

/-- Between the points: after a point in use the copy is of that point's weights. -/
def Phi (c : Dev nD) (n : ℕ) : sProp 𝕄 :=
  iprop((∃ a, ⌜∀ s : Fin (cfgA pf hr).N, n = s.val + 1 → Used pf hr s → accW.view.read (Elt F) a = copyW pf hr m c s⌝
        ∗ (accW.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 3) t
    | ⟨1, _⟩ => iblk pf hr m c (1 : Fin 3) t
    | ⟨2, _⟩ => outBlk pf hr m c t
  Φ t := Phi pf hr m c t.val
  q _ := fullShare
  owed _ := 0

theorem after_0 (c : Dev nD) (t : Fin (cfgA pf hr).N) : (dats pf hr m 0 c).after (0 : Fin 3) t = iblk pf hr m c (0 : Fin 3) t := rfl
theorem after_1 (c : Dev nD) (t : Fin (cfgA pf hr).N) : (dats pf hr m 0 c).after (1 : Fin 3) t = iblk pf hr m c (1 : Fin 3) t := rfl
theorem after_2 (c : Dev nD) (t : Fin (cfgA pf hr).N) : (dats pf hr m 0 c).after (2 : Fin 3) t = outBlk pf hr m c t := rfl

theorem before_0 (c : Dev nD) (t : Fin (cfgA pf hr).N) (d) : (dats pf hr m 0 c).before (0 : Fin 3) t d = iblk pf hr m c (0 : Fin 3) t :=
  ((dats pf hr m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 3) t d = iblk pf hr m c (1 : Fin 3) t :=
  ((dats pf hr m 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The coordinates of a point and of the one before it -/

theorem crd_col (t : Fin (cfgA pf hr).N) : (crd pf hr t 0).val = t.val / 41 % 4 :=
  Pipeline.Grid.coords_val (G := grid0) t 0 (by decide) (by decide)
theorem crd_row (t : Fin (cfgA pf hr).N) : (crd pf hr t 1).val = t.val % 41 := by
  have h := Pipeline.Grid.coords_val (G := grid0) t 1 (S := 1) (B := 41) (by decide) (by decide)
  rw [Nat.div_one] at h; exact h

/-! ## The blocks read, by their coordinates -/

theorem iblk_0 (c : Dev nD) (t : Fin (cfgA pf hr).N) (y : S512x7168.Idx) (z : S20992x7168.Idx)
    (h0 : (z 0).val = min (crd pf hr t 1).val (usedOf pf - 1) * 512 + (y 0).val) (h1 : (z 1).val = (y 1).val) :
    (iblk pf hr m c (0 : Fin 3) t : S512x7168.Idx → Elt F .bf16) y = m ((c : Thread nD τ).loc main_arg0) z := by
  have e : ((cfgA pf hr).win (0 : Fin 3)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 3)) t y a
  refine hv.trans ?_
  rw [e]
  fin_cases a
  · exact h0.symm
  · exact (Nat.zero_add _).trans h1.symm

theorem iblk_1 (c : Dev nD) (t : Fin (cfgA pf hr).N) (y : S1x7168x512.Idx) (z : S16x7168x2048.Idx)
    (h0 : (z 0).val = expertOf pf (here (crd pf hr t)) * 1 + (y 0).val) (h1 : (z 1).val = (y 1).val)
    (h2 : (z 2).val = (crd pf hr t 0).val * 512 + (y 2).val) :
    (iblk pf hr m c (1 : Fin 3) t : S1x7168x512.Idx → Elt F .f32) y = m ((c : Thread nD τ).loc main_arg1) z := by
  have e : ((cfgA pf hr).win (1 : Fin 3)).index t = ![expertOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 3)) t y a
  refine hv.trans ?_
  rw [e]
  fin_cases a
  · exact h0.symm
  · exact (Nat.zero_add _).trans h1.symm
  · exact h2.symm

/-- A place in the weights for an element of a point's block. -/
def place (t : Fin (cfgA pf hr).N) (y : S1x7168x512.Idx) : S16x7168x2048.Idx :=
  ix3 (⟨expertOf pf (here (crd pf hr t)), hr.expert _⟩ : Fin 16) (y 1)
    (⟨(crd pf hr t 0).val * 512 + (y 2).val, by
      have h := col_lt (crd pf hr t)
      have h2 : (y 2).val < 512 := (y 2).isLt
      omega⟩ : Fin 2048)

theorem place_congr (s t : Fin (cfgA pf hr).N) (y : S1x7168x512.Idx)
    (he : (tab0 pf (ix1 (here (crd pf hr s))) : BitVec 32) = tab0 pf (ix1 (here (crd pf hr t))))
    (hc : (crd pf hr s 0).val = (crd pf hr t 0).val) : place pf hr s y = place pf hr t y := by
  have hn : expertOf pf (here (crd pf hr s)) = expertOf pf (here (crd pf hr t)) := congrArg (fun w : BitVec 32 => w.toNat) he
  unfold place
  refine funext fun a => Fin.ext ?_
  fin_cases a
  · exact hn
  · rfl
  · show (crd pf hr s 0).val * 512 + _ = (crd pf hr t 0).val * 512 + _
    rw [hc]

theorem iblk_1_place (c : Dev nD) (t : Fin (cfgA pf hr).N) (y : S1x7168x512.Idx) :
    (iblk pf hr m c (1 : Fin 3) t : S1x7168x512.Idx → Elt F .f32) y = m ((c : Thread nD τ).loc main_arg1) (place pf hr t y) :=
  iblk_1 pf hr m c t y _ (by
    have h : (y 0).val < 1 := (y 0).isLt
    show expertOf pf _ = _
    omega) rfl rfl
/-- A point whose weights are the point before's: that point is in use too, and copies the same block. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyW pf hr m c s = copyW pf hr m c t := by
  obtain ⟨hz, he⟩ := not_or.mp fun h => hc ((changed_iff (crd pf hr t) (tab0 pf)).mpr h)
  rw [not_not] at he
  have hN : (cfgA pf hr).N = 164 := N_0
  have ht := t.isLt
  have hrow := crd_row pf hr t
  have hcol := crd_col pf hr t
  have hz' : t.val % 41 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 41 % 4 = _; omega
  have e1 : (crd pf hr ⟨t.val - 1, hs⟩ 1).val = (crd pf hr t 1).val - 1 := by
    rw [srow, hrow]; show (t.val - 1) % 41 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)

end Cert.Kernel3Ideal.Down

end
-- ==== Proof.Down.Step.lean ====
module

public import proofs.«01_k».proof.Proof.Down.Region

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (2 : Fin 3) ((cfgA pf hr).grid.coords t) = false := idle_2 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 3) t)
        ∗ owns (c : Thread nD τ) (st1 pf hr t) fullShare (iblk pf hr m c (1 : Fin 3) t)
        ∗ (∃ d, owns (c : Thread nD τ) (st2 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 3) t)
        ∗ owns (c : Thread nD τ) (st1 pf hr t) fullShare (iblk pf hr m c (1 : Fin 3) t)
        ∗ owns (c : Thread nD τ) (st2 pf hr t) fullShare (outBlk pf hr m c t)) := by
  have hw : (wordN (tab1 pf) : BitVec 32).toNat ≤ 41 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HW⟩, HE, HN⟩, H4, H5, H7⟩
  by_cases hu : Used pf hr t
  · have hn : ¬ k0_cond3 (crd pf hr t) (wordN (tab1 pf)) = 1#1 := fun h => h3.mp h hu
    have ho : outBlk pf hr m c t = k0_pay2 (iblk pf hr m c (0 : Fin 3) t) (copyW pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, ⟨%f0, %e0, HW⟩⟩
      isplitl [HW HE HN]
      · isplitl [HW]
        · iexists f0; isplitr; swap
          · iexact HW
          · ipureintro; intro s hs _
            obtain rfl : s = t := Fin.ext (Nat.succ.inj hs.symm)
            exact e0
        isplitl [HE]; · iexact HE
        iexact HN
      isplitl [H4]; · iapply owns_of_rep; iexact H4
      isplitl [H5]; · iapply owns_of_rep; iexact H5
      iexact H7
    · obtain ⟨p, hp, hpu, eW⟩ := same_weights pf hr m c t hu hc
      have k0 := (ha0 p hp hpu).trans eW
      rw [← k0]
      iapply (run_same c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, HW⟩
      isplitl [HW HE HN]
      · isplitl [HW]
        · iexists a0; isplitr; swap
          · iexact HW
          · ipureintro; intro s hs _
            obtain rfl : s = t := Fin.ext (Nat.succ.inj hs.symm)
            exact k0
        isplitl [HE]; · iexact HE
        iexact HN
      isplitl [H4]; · iapply owns_of_rep; iexact H4
      isplitl [H5]; · iapply owns_of_rep; iexact H5
      iexact H7
  · have ho : outBlk pf hr m c t = k0_pay3 := if_neg hu
    rw [ho]
    iapply (run_unused c (crd pf hr t) (st0 pf hr t) (sw0 pf hr t) (st1 pf hr t) (sw1 pf hr t) (st2 pf hr t) (sw2 pf hr t)
      (tab0 pf) (tab1 pf) (iblk pf hr m c (0 : Fin 3) t) (iblk pf hr m c (1 : Fin 3) t) a0 (fun h => hu (h1.mp h)) (h3.mpr hu) _)
    isplitl [H4 H5 HE HN]
    · isplitl [H4]; · iapply rep_of_owns; iexact H4
      isplitl [H5]; · iapply rep_of_owns; iexact H5
      isplitl [HE]; · iexact HE
      iexact HN
    isplitl [H7]; · iexact H7
    isplitl [HW]; · iexact HW
    iintro ⟨⟨H4, H5, HE, HN⟩, H7, HW⟩
    isplitl [HW HE HN]
    · isplitl [HW]
      · iexists a0; isplitr; swap
        · iexact HW
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    iexact H7

end Cert.Kernel3Ideal.Down

end
-- ==== Proof.Down.Launch.lean ====
module

public import proofs.«01_k».proof.Proof.Down.Step

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, after_0, after_1, after_2]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H7⟩
    isplitl [HP]; · iexact HP
    isplitl [Ho]; · iexact Ho
    isplitl [H4]; · iexact H4
    isplitl [H5]; · iexact H5
    iexact H7
  · iintro ⟨HP, Ho, ⟨%d0, H4⟩, ⟨%d1, H5⟩, ⟨%d2, H7⟩⟩
    isplitl [Ho]; · iexact Ho
    isplitl [HP]; · iexact HP
    isplitl [H4]; · iexact H4
    isplitl [H5]; · iexact H5
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HW⟩⟩
  isplitl [HW]
  · iexists a0; isplitr; swap
    · iexact HW
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HW⟩, -, -⟩
  isplitr; · iempintro
  iexists a0; iexact HW

/-- The tables are the memory's, on every core. -/
def Holds : Prop := ∀ (c : Dev nD) (j : Fin 2), m ((c : Thread nD τ).loc (pre0.ref j)) = pf j

/-- Where every run ends: each array as computed, each table as it was. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)
    ∧ ∀ j, r.2.mem ((c : Thread nD τ).loc (pre0.ref j)) = (adm pf hr).1 j

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hr) (dats pf hr m) 0 (launch0 (F := F)).win.arr_inj c (launch0 (F := F)).arr_whole
      (share_full pf hr m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first pf hr m)
    (hout := phi_last pf hr m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The arguments end as they were, every counter at zero, and the result is what the pipeline computes. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 3)).trans ((dats pf hr m 0 c).arrAt_in (0 : Fin 3) rfl _),
    ((h.1 c).1 (1 : Fin 3)).trans ((dats pf hr m 0 c).arrAt_in (1 : Fin 3) rfl _),
    ((h.1 c).2 0).trans (hp c 0).symm, ((h.1 c).2 1).trans (hp c 1).symm⟩, h.2⟩) (run_main pf hr m ρ hp)

end Cert.Kernel3Ideal.Down

end
-- ==== Proof.Down.Frames.lean ====
module

public import proofs.«01_k».proof.Proof.Down.Launch
public import proofs.«01_k».proof.Proof.Up.Frames
public import proofs.«01_k».proof.Proof.Gen.Kernel3
public import proofs.«01_k».proof.Proof.Gen.Pre_in_range3
public import proofs.«01_k».proof.Defs

@[expose] public section

noncomputable section

namespace Cert.Kernel3Ideal.Down

open Cert.Kernel3Ideal Cert.Kernel3Ideal.Gen
open Cert.Kernel2Ideal.Up (word_ranges one_idx)
open Idealize.ShloMosaic
open Idealize.ShloMosaic.TcCoe
open Idealize.SL.Sem

variable {F : FTy → Type} [FloatOps F]

/-! ## The tables' ranges, from the precondition -/

/-- The tables of the first core. -/
def tables (m : (ℓ : Loc nD τ sig) → Buf (Elt F) ℓ) : pre0.Contents (Elt F) := fun j => m (((0 : Dev nD).tc : Thread nD τ).loc (pre0.ref j))

theorem holds_tables (m : (ℓ : Loc nD τ sig) → Buf (Elt F) ℓ) : Holds (tables m) m := fun c j => by
  have e : c = (0 : Dev nD) := Subsingleton.elim _ _
  subst e; rfl

/-- The precondition, decoded at a block. -/
theorem pre_at (a0 : FVec F Cert.Pre_in_range3.S20992x7168 .bf16) (a1 : FVec F Cert.Pre_in_range3.S16x7168x2048 .f32) (a2 : IVec S41 32) (a3 : IVec S1 32)
    (h : Cert.Pre_in_range3.fn (F := F) a0 a1 a2 a3 = fun _ => 1#1) (b : Fin 41) :
    (a2 (ix1 b)).toNat < 16 ∧ 1 ≤ (a3 (ix1 (0 : Fin 1))).toNat ∧ (a3 (ix1 (0 : Fin 1))).toNat ≤ 41 := by
  have hb := congrFun h (ix1 b)
  refine word_ranges _ _ (Eq.trans ?_ hb)
  simp only [Cert.Pre_in_range3.fn, andi, cmpi, broadcastInDim, constantI]
  congr 2
  · congr 1
    exact congrArg a3 (one_idx _ _)
  · exact congrArg a3 (one_idx _ _)

/-- The precondition gives the ranges. -/
theorem ranges_of_pre (m : (ℓ : Loc nD τ sig) → Buf (Elt F) ℓ) (a0 : FVec F Cert.Pre_in_range3.S20992x7168 .bf16) (a1 : FVec F Cert.Pre_in_range3.S16x7168x2048 .f32)
    (h : Cert.Pre_in_range3.fn (F := F) a0 a1 (m (((0 : Dev nD).tc : Thread nD τ).loc main_arg2)) (m (((0 : Dev nD).tc : Thread nD τ).loc main_arg3)) = fun _ => 1#1) :
    Ranges (tables m) :=
  ⟨fun b => (pre_at _ _ _ _ h b).1, (pre_at _ _ _ _ h 0).2.1, (pre_at _ _ _ _ h 0).2.2⟩

/-- The idealized program's frame. -/
theorem frame_ideal : Cert.quiescent_Kernel3Ideal := fun m ρ hp =>
  run_frame (tables m) (ranges_of_pre m _ _ (hp 0)) m ρ (holds_tables m)

end Cert.Kernel3Ideal.Down

end
-- ==== Proof.Down.FrameBits.lean ====
module

public import proofs.«01_k».proof.Proof.Down.Frames
public import proofs.«01_k».proof.Proof.Gen.Kernel3
public import proofs.«01_k».proof.Proof.Gen.Pre_in_range3
public import proofs.«01_k».proof.Defs

@[expose] public section

noncomputable section

namespace Cert.Kernel3Ideal.Down

open Cert.Kernel3Ideal Cert.Kernel3Ideal.Gen
open Idealize.ShloMosaic
open Idealize.ShloMosaic.TcCoe
open Idealize.SL.Sem

set_option maxHeartbeats 400000
/-- The two programs' bodies are one text. -/
theorem body_eq : @Cert.Kernel3.cc0_moe_down Bits _ _ = @Cert.Kernel3Ideal.cc0_moe_down Bits _ _ := by
  funext i a2 h2 a3 h3 a4 h4 a5 h5 a6 h6 a7 h7
  unfold Cert.Kernel3.cc0_moe_down Cert.Kernel3Ideal.cc0_moe_down
  rfl

/-- And so their body tables. -/
theorem table_eq : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) =>
    have e := body_eq
    simp only [funext_iff] at e
    exact e _ _ _ _ _ _ _ _ _ _ _ _ _

theorem defs_eq : Cert.Kernel3.defs (F := Bits) = Cert.Kernel3Ideal.defs (F := Bits) := congrArg (Pipeline.defs Cert.Kernel3Ideal.pcfgs) table_eq

/-- The program's frame, from the same run. -/
theorem frame_kernel : Cert.quiescent_Kernel3 := fun m ρ hp => by
  have hr : Ranges (F := Bits) (tables (F := Bits) m) := ranges_of_pre (F := Bits) m _ _ (hp 0)
  rw [defs_eq]
  exact run_frame (F := Bits) (tables (F := Bits) m) hr m ρ (holds_tables (F := Bits) m)

end Cert.Kernel3Ideal.Down

end
-- ==== Proof.Down.Value.lean ====
/- What the other half of the expert layer computes, and that the pipeline leaves it. -/
module

public import proofs.«01_k».proof.Proof.Down.Launch
public import proofs.«01_k».proof.Proof.Up.Value
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel3Ideal.Down

open Cert.Kernel3Ideal Cert.Kernel3Ideal.Gen
open Cert.Kernel2Ideal.Up (blockOf expertAt)
open Idealize.ShloMosaic
open Idealize.ShloMosaic.TcCoe
open Idealize.SL.Sem

/-! ## The mathematics -/

/-- A row against a column of its expert's weights. -/
def proj (x : FVec Ideal S20992x7168 .bf16) (w : FVec Ideal S16x7168x2048 .f32) (be : IVec S41 32) (r : Fin 20992) (n : Fin 2048) : EReal :=
  ∑ k : Fin 7168, x (ix2 r k) * w (ix3 (expertAt be (blockOf r)) k n)

/-- The product in the blocks in use, zero in the others. -/
def result (x : FVec Ideal S20992x7168 .bf16) (w : FVec Ideal S16x7168x2048 .f32) (be : IVec S41 32) (nu : IVec S1 32) : FVec Ideal S20992x2048 .f32 :=
  fun z => if (blockOf (z 0)).val < (nu (ix1 (0 : Fin 1))).toNat then proj x w be (z 0) (z 1) else (0 : EReal)

/-! ## The body's payloads, read at an index -/

theorem pay1_apply (v : Vec Ideal S1x7168x512 .f32) (k : Fin 7168) (n : Fin 512) : k0_pay1 v (ix2 k n) = v (ix3 0 k n) := by
  unfold k0_pay1
  pointwise

theorem pay2_apply (x : Vec Ideal S512x7168 .bf16) (w : Vec Ideal S7168x512 .bf16) (r : Fin 512) (n : Fin 512) :
    k0_pay2 x w (ix2 r n) = ∑ k : Fin 7168, x (ix2 r k) * w (ix2 k n) := by
  unfold k0_pay2
  pointwise

theorem pay3_apply (r : Fin 512) (n : Fin 512) : (k0_pay3 (F := Ideal)) (ix2 r n) = (0 : EReal) := by
  unfold k0_pay3
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S20992x7168 .bf16 := m ((c : Thread nD τ).loc main_arg0)
abbrev weightsOf (c : Dev nD) : FVec Ideal S16x7168x2048 .f32 := m ((c : Thread nD τ).loc main_arg1)

theorem out_eq (c : Dev nD) (t : Fin (cfgA pf hr).N) (r : Fin 512) (n : Fin 512) (z : S20992x2048.Idx)
    (h0 : (z 0).val = (crd pf hr t 1).val * 512 + r.val) (h1 : (z 1).val = (crd pf hr t 0).val * 512 + n.val) :
    outBlk pf hr m c t (ix2 r n) = result (rowsOf m c) (weightsOf m c) (tab0 pf) (tab1 pf) z := by
  have hb : (blockOf (z 0)).val = (crd pf hr t 1).val := by show (z 0).val / 512 = _; omega
  have hh : blockOf (z 0) = here (crd pf hr t) := Fin.ext hb
  have he : (expertAt (tab0 pf) (blockOf (z 0))).val = expertOf pf (here (crd pf hr t)) := by
    rw [hh]
    exact Nat.min_eq_left (Nat.le_of_lt_succ (hr.expert _))
  unfold outBlk result
  by_cases hu : Used pf hr t
  · rw [if_pos hu, if_pos (by rw [hb]; exact hu), pay2_apply]
    have hx : ∀ k : Fin 7168, (iblk pf hr m c (0 : Fin 3) t : S512x7168.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 7168, copyW pf hr m c t (ix2 k n) = weightsOf m c (ix3 (expertAt (tab0 pf) (blockOf (z 0))) k (z 1)) := fun k =>
      (pay1_apply _ k n).trans (iblk_1 pf hr m c t (ix3 0 k n) (ix3 _ k (z 1)) (by show (expertAt _ _).val = _ * 1 + 0; rw [he]; omega) rfl h1)
    unfold proj
    exact Finset.sum_congr rfl fun k _ => congrArg₂ (fun a b : EReal => a * b) (hx k) (hg k)
  · rw [if_neg hu, if_neg (by rw [hb]; exact hu), pay3_apply]

/-! ## The array -/

theorem covers_out : ((cfgA pf hr).win (2 : Fin 3)).Covers :=
  Pipeline.Window.covers_of_indexMap_surj _ rfl
    (fun a => by
      match a with
      | ⟨0, _⟩ => show 0 < 512; norm_num
      | ⟨1, _⟩ => show 0 < 512; norm_num)
    fun β => by
    have e0 : ((cfgA pf hr).win (2 : Fin 3)).nblk (0 : Fin 2) = 41 := by show (20992 + 512 - 1) / 512 = 41; norm_num
    have e1 : ((cfgA pf hr).win (2 : Fin 3)).nblk (1 : Fin 2) = 4 := by show (2048 + 512 - 1) / 512 = 4; norm_num
    have b0 : (β (0 : Fin 2)).val < 41 := e0 ▸ (β (0 : Fin 2)).isLt
    have b1 : (β (1 : Fin 2)).val < 4 := e1 ▸ (β (1 : Fin 2)).isLt
    let i : grid0.Coords := fun a => match a with | ⟨0, _⟩ => ⟨(β (1 : Fin 2)).val, b1⟩ | ⟨1, _⟩ => ⟨(β (0 : Fin 2)).val, b0⟩
    have e : ((cfgA pf hr).win (2 : Fin 3)).indexMap i = ![(i 1).val, (i 0).val] := transform_2_eq i
    refine ⟨i, fun a => (congrFun e a).trans ?_⟩
    match a with
    | ⟨0, _⟩ => rfl
    | ⟨1, _⟩ => rfl

theorem array_eq (c : Dev nD) :
    (dats pf hr m 0 c).arrAt (2 : Fin 3) (cfgA pf hr).N = result (rowsOf m c) (weightsOf m c) (tab0 pf) (tab1 pf) := by
  refine (dats pf hr m 0 c).arrAt_eq_of_covers (2 : Fin 3) _ (covers_out pf hr) fun t hf y => ?_
  have e : ((cfgA pf hr).win (2 : Fin 3)).index t = ![(crd pf hr t 1).val, (crd pf hr t 0).val] := transform_2_eq (crd pf hr t)
  have hv := Pipeline.Window.rect_emb_val ((cfgA pf hr).win (2 : Fin 3)) t y
  rw [e] at hv
  have hy : (y : S512x512.Idx) = ix2 (y 0) (y 1) := eq_ix2 _
  rw [after_2]
  refine Eq.trans ?_ (out_eq pf hr m c t (y 0) (y 1) _ (hv 0) (hv 1))
  exact congrArg (outBlk pf hr m c t) hy

end Cert.Kernel3Ideal.Down

end
-- ==== Proof.Down.RefValue.lean ====
/- The reference of the other half of the expert layer, read at an index. -/
module

public import proofs.«01_k».proof.Proof.Down.Value
public import proofs.«01_k».proof.Proof.Up.RefValue
public import proofs.«01_k».proof.Proof.Gen.Reference3Ideal.Read
public import Idealize.ShloMosaic.Lib.WordCmp

@[expose] public section

set_option maxRecDepth 16384

noncomputable section

namespace Cert.Reference3Ideal.Blocks

open Cert.Reference3Ideal Cert.Reference3Ideal.Gen Cert.Reference3Ideal.Read
open Idealize.ShloMosaic
open Cert.Kernel2Ideal.Up (blockOf expertAt)
open Cert.Kernel3Ideal.Down (proj result)
open Cert.Reference2Ideal.Blocks (expert_word used_at)

/-- The weights of each block: the gather reads its start clamped into the sixteen experts. -/
theorem gather_at (w : FVec Ideal S16x7168x2048 .f32) (idx : IVec S41x1 32) (b : Fin 41) (k : Fin 7168) (n : Fin 2048) :
    Host.gather gather_S16x7168x2048_S41x1_S41x7168x2048_12_0_n_n_0_1_171682048 w idx (ix3 b k n)
      = w (ix3 (⟨min (idx (ix2 b 0)).toInt.toNat 15, by omega⟩ : Fin 16) k n) := by
  unfold Host.gather
  refine congrArg w (funext fun a => Fin.ext ?_)
  match a with
  | ⟨0, _⟩ =>
    have h : gather_S16x7168x2048_S41x1_S41x7168x2048_12_0_n_n_0_1_171682048.siIdx (ix3 b k n) (0 : Fin 1) = ix2 b 0 := funext fun a => by
      match a with
      | ⟨0, _⟩ => rfl
      | ⟨1, _⟩ => rfl
    exact congrArg (fun i => min (idx i).toInt.toNat 15) h
  | ⟨1, _⟩ =>
    have h1 : gather_S16x7168x2048_S41x1_S41x7168x2048_12_0_n_n_0_1_171682048.start (ix3 b k n) idx (1 : Fin 3) = 0 := by
      unfold GatherDims.start; exact dif_neg (by decide)
    have h2 : gather_S16x7168x2048_S41x1_S41x7168x2048_12_0_n_n_0_1_171682048.batchCoord (ix3 b k n) (1 : Fin 3) = 0 :=
      GatherDims.batchCoord_eq_zero _ _ _ List.not_mem_nil
    have h3 : gather_S16x7168x2048_S41x1_S41x7168x2048_12_0_n_n_0_1_171682048.offCoord (ix3 b k n) (1 : Fin 3) = k.val := by
      unfold GatherDims.offCoord; rw [dif_pos (by decide)]; rfl
    show gather_S16x7168x2048_S41x1_S41x7168x2048_12_0_n_n_0_1_171682048.start (ix3 b k n) idx (1 : Fin 3) + gather_S16x7168x2048_S41x1_S41x7168x2048_12_0_n_n_0_1_171682048.batchCoord (ix3 b k n) (1 : Fin 3)
      + gather_S16x7168x2048_S41x1_S41x7168x2048_12_0_n_n_0_1_171682048.offCoord (ix3 b k n) (1 : Fin 3) = _
    rw [h1, h2, h3]
    exact (congrArg (· + k.val) (Nat.add_zero 0)).trans (Nat.zero_add _)
  | ⟨2, _⟩ =>
    have h1 : gather_S16x7168x2048_S41x1_S41x7168x2048_12_0_n_n_0_1_171682048.start (ix3 b k n) idx (2 : Fin 3) = 0 := by
      unfold GatherDims.start; exact dif_neg (by decide)
    have h2 : gather_S16x7168x2048_S41x1_S41x7168x2048_12_0_n_n_0_1_171682048.batchCoord (ix3 b k n) (2 : Fin 3) = 0 :=
      GatherDims.batchCoord_eq_zero _ _ _ List.not_mem_nil
    have h3 : gather_S16x7168x2048_S41x1_S41x7168x2048_12_0_n_n_0_1_171682048.offCoord (ix3 b k n) (2 : Fin 3) = n.val := by
      unfold GatherDims.offCoord; rw [dif_pos (by decide)]; rfl
    show gather_S16x7168x2048_S41x1_S41x7168x2048_12_0_n_n_0_1_171682048.start (ix3 b k n) idx (2 : Fin 3) + gather_S16x7168x2048_S41x1_S41x7168x2048_12_0_n_n_0_1_171682048.batchCoord (ix3 b k n) (2 : Fin 3)
      + gather_S16x7168x2048_S41x1_S41x7168x2048_12_0_n_n_0_1_171682048.offCoord (ix3 b k n) (2 : Fin 3) = _
    rw [h1, h2, h3]
    exact (congrArg (· + n.val) (Nat.add_zero 0)).trans (Nat.zero_add _)

/-- The weights the product reads in a block. -/
theorem weights_at (w : FVec Ideal S16x7168x2048 .f32) (be : IVec S41 32) (hbe : ∀ b : Fin 41, (be (ix1 b)).toNat < 16) (b : Fin 41) (k : Fin 7168) (n : Fin 2048) :
    val_main_v8 (F := Ideal) w be (ix3 b k n) = w (ix3 (expertAt be b) k n) := by
  have hw : val_main_v7 (F := Ideal) be (ix2 b 0) = be (ix1 b) := by
    have e : idx_main_v7 (ix2 b 0) = ix1 b := funext fun a => by
      match a with
      | ⟨0, _⟩ => rfl
    rw [val_main_v7_apply, e, val_main_v6_apply, val_main_v3_apply, val_main_v5_apply, val_main_v2_apply, val_main_v4_apply]
    exact (expert_word _ (hbe b)).1
  unfold val_main_v8
  rw [gather_at]
  refine congrArg w (congrArg (fun e => ix3 e k n) (Fin.ext ?_))
  show min (val_main_v7 (F := Ideal) be (ix2 b 0)).toInt.toNat 15 = min (be (ix1 b)).toNat 15
  rw [hw, (expert_word _ (hbe b)).2]

/-- The product, read at a row. -/
theorem product_at (x : FVec Ideal S20992x7168 .bf16) (w : FVec Ideal S16x7168x2048 .f32) (be : IVec S41 32) (hbe : ∀ b : Fin 41, (be (ix1 b)).toNat < 16)
    (r : Fin 20992) (i : S41x512x2048.Idx) (h : r.val = (i 0).val * 512 + (i 1).val) :
    val_main_v9 (F := Ideal) x w be i = proj x w be r (i 2) := by
  have i1 : (i 1).val < 512 := (i 1).isLt
  rw [val_main_v9_apply]
  unfold proj
  refine Finset.sum_congr rfl fun k _ => congrArg₂ (fun a b : EReal => a * b) ?_ ?_
  · rw [val_main_v1_apply, val_main_v0_apply]
    refine congrArg x (funext fun a => Fin.ext ?_)
    match a with
    | ⟨0, _⟩ => show (((i 0).val * 512 + (i 1).val) * 7168 + k.val) / 7168 = r.val; omega
    | ⟨1, _⟩ => show (((i 0).val * 512 + (i 1).val) * 7168 + k.val) % 7168 = k.val; omega
  · have hb : blockOf r = i 0 := Fin.ext (by show r.val / 512 = (i 0).val; omega)
    rw [hb]
    have e : ridx_main_v9 i k = ix3 (i 0) k (i 2) := funext fun a => by
      match a with
      | ⟨0, _⟩ => rfl
      | ⟨1, _⟩ => rfl
      | ⟨2, _⟩ => rfl
    rw [e]
    exact weights_at w be hbe (i 0) k (i 2)

/-- The reference's result is the product in the blocks in use. -/
theorem result_eq (x : FVec Ideal S20992x7168 .bf16) (w : FVec Ideal S16x7168x2048 .f32) (be : IVec S41 32) (nu : IVec S1 32)
    (hbe : ∀ b : Fin 41, (be (ix1 b)).toNat < 16) (hn : (nu (ix1 (0 : Fin 1))).toNat ≤ 41) :
    val_main_v15 (F := Ideal) x w be nu = result x w be nu := by
  funext z
  rw [val_main_v15_apply]
  generalize hi : idx_main_v15 z = i
  have z0 : (z 0).val < 20992 := (z 0).isLt
  have z1 : (z 1).val < 2048 := (z 1).isLt
  have i0 : (i 0).val = (z 0).val / 512 := by rw [← hi]; show ((z 0).val * 2048 + (z 1).val) / (512 * 2048) = _; omega
  have i1 : (i 1).val = (z 0).val % 512 := by rw [← hi]; show ((z 0).val * 2048 + (z 1).val) / 2048 % 512 = _; omega
  have i2 : i 2 = z 1 := Fin.ext (by rw [← hi]; show ((z 0).val * 2048 + (z 1).val) % 2048 = _; omega)
  have hb : blockOf (z 0) = i 0 := Fin.ext i0.symm
  have hr : (z 0).val = (i 0).val * 512 + (i 1).val := by omega
  have hg := product_at x w be hbe (z 0) i hr
  rw [val_main_v14_apply, val_main_call0_v1_apply, val_main_v13_apply, val_main_v12_apply, val_main_v10_apply, val_main_v11_apply]
  have e : idx_main_v11 (idx_main_v13 (idx_main_call0_v1 i)) = ix1 (0 : Fin 1) := funext fun a => by
    match a with
    | ⟨0, _⟩ => rfl
  have hz : val_main_call0_v2 (F := Ideal) i = (0 : EReal) := by
    rw [val_main_call0_v2_apply, val_main_call0_v0_apply, val_main_cst_apply]
    exact Ideal.ofBits_zero_f32
  rw [e, hz, hg, i2]
  show Scalar.select (IntOp.cmpi .slt (BitVec.ofNat 32 (i 0).val) (nu (ix1 (0 : Fin 1)))) (proj x w be (z 0) (z 1)) (0 : EReal) = _
  rw [used_at nu hn (i 0)]
  unfold result
  rw [hb]
  by_cases h : (i 0).val < (nu (ix1 (0 : Fin 1))).toNat
  · rw [if_pos h, if_pos h]; rfl
  · rw [if_neg h, if_neg h]; rfl

end Cert.Reference3Ideal.Blocks

end
-- ==== Proof.Down.Equal.lean ====
module

public import proofs.«01_k».proof.Proof.Down.Frames
public import proofs.«01_k».proof.Proof.Down.RefValue
public import proofs.«01_k».proof.Proof.Gen.Reference3Ideal.Run
public import Idealize.ShloMosaic.Lib.Quiescent
public import proofs.«01_k».proof.Defs

@[expose] public section

noncomputable section

namespace Cert.Kernel3Ideal.Down

open Cert.Kernel3Ideal Cert.Kernel3Ideal.Gen
open Idealize.ShloMosaic
open Idealize.ShloMosaic.TcCoe
open Idealize.SL.Sem

/-- The result of the product over the blocks, of a memory's arguments. -/
def value (m : (ℓ : Loc nD τ sig) → Buf (Elt Ideal) ℓ) (c : Dev nD) : FVec Ideal S20992x2048 .f32 :=
  result (m ((c.tc : Thread nD τ).loc main_arg0)) (m ((c.tc : Thread nD τ).loc main_arg1))
    (m ((c.tc : Thread nD τ).loc main_arg2)) (m ((c.tc : Thread nD τ).loc main_arg3))

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v0) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 (2 : Fin 3)).trans ((array_eq (tables m) hr m c).trans (by
      have e : c = (0 : Dev nD) := Subsingleton.elim _ _
      subst e; rfl)),
    ((h.1 c).1 (0 : Fin 3)).trans ((dats (tables m) hr m 0 c).arrAt_in (0 : Fin 3) rfl _),
    ((h.1 c).1 (1 : Fin 3)).trans ((dats (tables m) hr m 0 c).arrAt_in (1 : Fin 3) rfl _),
    ((h.1 c).2 0).trans (holds_tables m c 0).symm, ((h.1 c).2 1).trans (holds_tables m c 1).symm⟩)
    (run_main (tables m) hr m ρ (holds_tables m))

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The kernel and its reference end with equal results. -/
theorem equal_results : Cert.algebraic_Kernel3Ideal_Reference3Ideal := fun m ρ m' ρ' hp hm => by
  have hr := ranges_of_pre m _ _ (hp 0)
  refine ⟨value m, run_value m ρ hr, (θ_run Cert.Reference3Ideal.defs _ _).mono (fun _ h c => ⟨(h c).1.trans ?_, (h c).2⟩)
    (Cert.Reference3Ideal.Value.run m' ρ')⟩
  refine (Cert.Reference3Ideal.Read.val_main_v15_eq _ _ _ _).trans ?_
  have e : c = (0 : Dev nD) := Subsingleton.elim _ _
  subst e
  have h0 := hm 0
  rw [h0.1, h0.2.1, h0.2.2.1, h0.2.2.2]
  exact Cert.Reference3Ideal.Blocks.result_eq _ _ _ _ hr.1 hr.le

end Cert.Kernel3Ideal.Down

end
-- ==== Proof.FfnUp.Run.lean ====
module

public import proofs.«01_k».proof.Proof.Gen.Kernel4Ideal.Skeleton
public import proofs.«01_k».proof.Proof.Gen.Kernel4Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel4Ideal.FfnUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' layers, whole. -/
abbrev tabE : Memref sig .tc .smem S11 .i32 := Memref.whole main_v0
/-- The number of blocks in use, whole. -/
abbrev tabN : Memref sig .tc .smem S1 .i32 := Memref.whole main_v1
/-- The copy of the gate weights' block. -/
abbrev accG : Memref sig .tc .vmem S2048x512 .bf16 := Memref.whole cc0_scratch0
/-- The copy of the up weights' block. -/
abbrev accU : Memref sig .tc .vmem S2048x512 .bf16 := Memref.whole cc0_scratch1

/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The layer of the block before, as the body reads it. -/
abbrev wordP (i : grid0.Coords) (T0 : S11.Idx → Elt F .i32) : Elt F .i32 :=
  View.readAt (Elt F) tabE.view (Rect.unit (s := S11) (k0_off2 i) S1.size (k0_off2_inb i)).toLoadRect T0 (Shape.Idx.first (numel1_S1.symm ▸ Nat.one_pos))
/-- The layer of the block, as the body reads it. -/
abbrev wordE (i : grid0.Coords) (T0 : S11.Idx → Elt F .i32) : Elt F .i32 :=
  View.readAt (Elt F) tabE.view (Rect.unit (s := S11) (k0_off3 i) S1.size (k0_off3_inb i)).toLoadRect T0 (Shape.Idx.first (numel1_S1.symm ▸ Nat.one_pos))
/-- Whether the weights have changed, as the body decides it. -/
abbrev changed (i : grid0.Coords) (T0 : S11.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S768x2048 .bf16) (h4 : a4.IsWhole) (a5 : Memref sig .tc .vmem S1x2048x512 .f32) (h5 : a5.IsWhole)
  (a6 : Memref sig .tc .vmem S1x2048x512 .f32) (h6 : a6.IsWhole) (a7 : Memref sig .tc .vmem S768x512 .bf16) (h7 : a7.IsWhole)
  (T0 : S11.Idx → Elt F .i32) (T1 : S1.Idx → Elt F .i32)
  (x : S768x2048.Idx → Elt F .bf16) (g u : S1x2048x512.Idx → Elt F .f32)

/-- The body at one point of the grid. -/
abbrev body : Prog (TpuEff nD τ sig (Elt F) Λ₀ .tc) PUnit :=
  cc0_ffn_up i tabE (Memref.isWhole_whole _) tabN (Memref.isWhole_whole _) a4 h4 a5 h5 a6 h6 a7 h7 accG (Memref.isWhole_whole _) accU (Memref.isWhole_whole _)

/-- What the body holds besides its output and its two copies. -/
abbrev held : sProp 𝕄 :=
  iprop((a4.view.loc (c : Thread nD τ) ↦[a4.view.set]{fullShare} a4.view.rep x)
    ∗ (a5.view.loc (c : Thread nD τ) ↦[a5.view.set]{fullShare} a5.view.rep g)
    ∗ (a6.view.loc (c : Thread nD τ) ↦[a6.view.set]{fullShare} a6.view.rep u)
    ∗ (tabE.view.loc (c : Thread nD τ) ↦{fullShare.right} T0)
    ∗ (tabN.view.loc (c : Thread nD τ) ↦{fullShare.right} T1))

set_option maxHeartbeats 4000000 in
/-- A block in use whose weights are new: both copies are made, then the product is stored. -/
theorem run_new (b0 : accG.view.ty.Contents (Elt F)) (b1 : accU.view.ty.Contents (Elt F)) (hu : k0_cond1 i (wordN T1) = 1#1) (hc : changed i T0 = 1#1)
    (hn : ¬ k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay3 x (k0_pay1 g) (k0_pay2 u))
            ∗ (∃ f, ⌜accG.view.read (Elt F) f = k0_pay1 g⌝ ∗ (accG.view.loc (c : Thread nD τ) ↦{fullShare} f))
            ∗ (∃ f, ⌜accU.view.read (Elt F) f = k0_pay2 u⌝ ∗ (accU.view.loc (c : Thread nD τ) ↦{fullShare} f))) -∗ K ⟨⟩))
      ⊢ wp frame (wpE (defs₀ (F := F)) Variants.none c none) Set.univ (body i a4 h4 a5 h5 a6 h6 a7 h7) K := by
  unfold owns body
  rw [cc0_ffn_up_eq_skeleton]; unfold cc0_ffn_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      refine (View.read_writes_full _ _ _ _ _).trans ?_
      have e5 := View.readAt_rep_full a5.view g inb_S1x2048x512_S1x2048x512_0_0_0
      have e6 := View.readAt_rep_full a6.view u inb_S1x2048x512_S1x2048x512_0_0_0
      have eG : run_new.sl.v19 a5 g = k0_pay1 g :=
        (View.readCov_full accG.view _ _ _ _).trans (congrArg k0_pay1 e5)
      have eU : run_new.sl.v21 a6 u = k0_pay2 u :=
        (View.readCov_full accU.view _ _ _ _).trans (congrArg k0_pay2 e6)
      rw [View.readAt_rep_full, eG, eU]
  isplitl [HG]
  · iexists _; isplitr; swap
    · iexact HG
    · ipureintro
      exact (View.read_writes_full _ _ _ _ _).trans (congrArg k0_pay1 (View.readAt_rep_full _ _ _))
  · iexists _; isplitr; swap
    · iexact HU
    · ipureintro
      exact (View.read_writes_full _ _ _ _ _).trans (congrArg k0_pay2 (View.readAt_rep_full _ _ _))

set_option maxHeartbeats 4000000 in
/-- A block in use whose weights are those of the block before: the product is stored. -/
theorem run_same (b0 : accG.view.ty.Contents (Elt F)) (b1 : accU.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay3 x (accG.view.read (Elt F) b0) (accU.view.read (Elt F) b1))
            ∗ (accG.view.loc (c : Thread nD τ) ↦{fullShare} b0) ∗ (accU.view.loc (c : Thread nD τ) ↦{fullShare} b1)) -∗ K ⟨⟩))
      ⊢ wp frame (wpE (defs₀ (F := F)) Variants.none c none) Set.univ (body i a4 h4 a5 h5 a6 h6 a7 h7) K := by
  unfold owns body
  rw [cc0_ffn_up_eq_skeleton]; unfold cc0_ffn_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      refine (View.read_writes_full _ _ _ _ _).trans ?_
      rw [View.readAt_rep_full, View.readAt_full, View.readAt_full]
  isplitl [HG]
  · iexact HG
  · iexact HU
set_option maxHeartbeats 4000000 in
/-- A block not in use: zeros are stored. -/
theorem run_unused (b0 : accG.view.ty.Contents (Elt F)) (b1 : accU.view.ty.Contents (Elt F)) (hu : ¬ k0_cond1 i (wordN T1) = 1#1)
    (hn : k0_cond3 i (wordN T1) = 1#1)
    (K : PUnit → sProp 𝕄) :
    iprop(held c a4 a5 a6 T0 T1 x g u ∗ (∃ d, owns (c : Thread nD τ) a7 fullShare d)
        ∗ (accG.view.loc (c : Thread nD τ) ↦{fullShare} b0) ∗ (accU.view.loc (c : Thread nD τ) ↦{fullShare} b1)
        ∗ (iprop(held c a4 a5 a6 T0 T1 x g u ∗ owns (c : Thread nD τ) a7 fullShare (k0_pay4)
            ∗ (accG.view.loc (c : Thread nD τ) ↦{fullShare} b0) ∗ (accU.view.loc (c : Thread nD τ) ↦{fullShare} b1)) -∗ K ⟨⟩))
      ⊢ wp frame (wpE (defs₀ (F := F)) Variants.none c none) Set.univ (body i a4 h4 a5 h5 a6 h6 a7 h7) K := by
  unfold owns body
  rw [cc0_ffn_up_eq_skeleton]; unfold cc0_ffn_up_skel
  iintro ⟨⟨H4, H5, H6, HE, HN⟩, ⟨%d7, %f7, -, H7⟩, HG, HU, Hk⟩
  have hG : accG.IsWhole := Memref.isWhole_whole _
  have hU : accU.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 H6 HE HN]
  · isplitl [H4]; · iexact H4
    isplitl [H5]; · iexact H5
    isplitl [H6]; · iexact H6
    isplitl [HE]; · iexact HE
    iexact HN
  isplitl [H7]
  · iexists _; isplitr; swap
    · iexact H7
    · ipureintro
      exact View.read_writes_full _ _ _ _ _
  isplitl [HG]
  · iexact HG
  · iexact HU

end Cert.Kernel4Ideal.FfnUp

end
-- ==== Proof.FfnUp.Words.lean ====
module

public import proofs.«01_k».proof.Proof.FfnUp.Run
public import Idealize.ShloMosaic.Lib.WordCmp
public import Idealize.ShloMosaic.Lib.Pointwise.Index

@[expose] public section

set_option maxRecDepth 16384

noncomputable section

namespace Cert.Kernel4Ideal.FfnUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

/-- A comparison's bit, widened and compared with zero, is the bit. -/
theorem bit_ne_zero : ∀ a : BitVec 1, Scalar.cmpi .ne (Scalar.extui a) 0#32 = a := by decide

theorem slt_iff {a b : BitVec 32} (ha : a.toNat < 2 ^ 31) (hb : b.toNat < 2 ^ 31) : Scalar.cmpi .slt a b = 1#1 ↔ a.toNat < b.toNat := by
  show IntOp.cmpi .slt a b = 1#1 ↔ _
  rw [WordCmp.cmpi_slt_of_lt ha hb]
  by_cases h : a.toNat < b.toNat <;> simp [h]

theorem coord_lt (i : grid0.Coords) : (i 1).val < 11 := (i 1).isLt
theorem col_lt (i : grid0.Coords) : (i 0).val < 11 := (i 0).isLt

theorem toNat_coord {n : ℕ} (h : n < 11) : (BitVec.ofNat 32 n).toNat = n := by
  rw [BitVec.toNat_ofNat]; omega

theorem toNat_word (n : ℕ) (h : n < 12) : (BitVec.ofNat 32 n).toNat = n := by
  rw [BitVec.toNat_ofNat]; omega

/-- The body's first branch is taken just at the blocks in use. -/
theorem cond1_iff (i : grid0.Coords) (w : BitVec 32) (hw : w.toNat ≤ 11) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord hi]; omega) (by omega), toNat_coord hi]

/-- The body's last branch is taken just at the others. -/
theorem cond3_iff (i : grid0.Coords) (w : BitVec 32) (hw : w.toNat ≤ 11) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord hi]; omega) (by omega), toNat_coord hi]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 11 := i 1
/-- The place of the block before, the first block's its own. -/
def before (i : grid0.Coords) : Fin 11 := ⟨(i 1).val - 1, by have := coord_lt i; omega⟩

theorem off3_eq (i : grid0.Coords) : k0_off3 i 0 = (i 1).val := by
  show (BitVec.ofNat 32 (i 1).val).toNat = _
  exact toNat_coord (coord_lt i)

theorem off2_eq (i : grid0.Coords) : k0_off2 i 0 = (i 1).val - 1 := by
  have key : ∀ n : Fin 11, (Scalar.maxsi (Scalar.subi (BitVec.ofNat 32 n.val) 1#32) 0#32).toNat = n.val - 1 := by decide
  exact key (i 1)

theorem wordE_eq (i : grid0.Coords) (T0 : S11.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S11.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the layer is another than the block before's. -/
theorem changed_iff (i : grid0.Coords) (T0 : S11.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 11, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  layer : ∀ b : Fin 11, (pf 0 (ix1 b) : BitVec 32).toNat < 2
  pos : 1 ≤ (pf 1 (ix1 (0 : Fin 1)) : BitVec 32).toNat
  le : (pf 1 (ix1 (0 : Fin 1)) : BitVec 32).toNat ≤ 11

/-- The layer of a block. -/
abbrev layerOf (pf : pre0.Contents (Elt F)) (b : Fin 11) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 12, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 11) (n : Fin 12), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S11) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord (coord_lt i)]; rfl

theorem transform_1_eq (pf : pre0.Contents (Elt F)) (i : grid0.Coords) :
    cc0_transform_1 k0_off1_inb numel1_S1 pf i = ![layerOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (pf : pre0.Contents (Elt F)) (i : grid0.Coords) :
    cc0_transform_2 k0_off1_inb numel1_S1 pf i = ![layerOf pf (here i), 0, (i 0).val] := transform_1_eq pf i

theorem transform_3_eq (i : grid0.Coords) : cc0_transform_3 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord (coord_lt i)]

/-- In range, every block the pipeline moves lies in its array. -/
theorem ok_of_ranges (pf : pre0.Contents (Elt F)) (hr : Ranges pf) : ok0 pf := by
  refine ⟨fun i => ⟨?_, .inr (Affine.block_words_dvd (s := S8448x2048) (p := EltTy.packing .bf16) (by decide) (by decide))⟩,
    fun i => ⟨?_, .inl rfl⟩, fun i => ⟨?_, .inl rfl⟩⟩
  · rw [transform_0_eq pf hr]
    have hi := coord_lt i
    intro a; fin_cases a
    · show (min (i 1).val (usedOf pf - 1) + 1) * 768 ≤ 8448
      omega
    · show (0 + 1) * 2048 ≤ 2048
      omega
  · rw [transform_1_eq]
    have he := hr.layer (here i)
    have hc := col_lt i
    intro a; fin_cases a
    · show (layerOf pf (here i) + 1) * 1 ≤ 2
      unfold layerOf; omega
    · show (0 + 1) * 2048 ≤ 2048
      omega
    · show ((i 0).val + 1) * 512 ≤ 5632
      omega
  · rw [transform_2_eq]
    have he := hr.layer (here i)
    have hc := col_lt i
    intro a; fin_cases a
    · show (layerOf pf (here i) + 1) * 1 ≤ 2
      unfold layerOf; omega
    · show (0 + 1) * 2048 ≤ 2048
      omega
    · show ((i 0).val + 1) * 512 ≤ 5632
      omega

/-- In range, the output's block is stored at every point. -/
theorem idle_3 (pf : pre0.Contents (Elt F)) (hr : Ranges pf) (i : grid0.Coords) : idle0 pf 3 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel4Ideal.FfnUp

end
-- ==== Proof.FfnUp.Region.lean ====
module

public import proofs.«01_k».proof.Proof.FfnUp.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel4Ideal.FfnUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of layers, at its own type. -/
abbrev tab0 : S11.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S768x2048 .bf16 := spec0_0.stage ((cfgA pf hr).slots t (0 : Fin 4))
abbrev sw0 (t : Fin (cfgA pf hr).N) : (st0 pf hr t).IsWhole := hstage0_0 (((cfgA pf hr).slots t (0 : Fin 4)).cast nbuf0_0)
abbrev st1 (t : Fin (cfgA pf hr).N) : Memref sig .tc .vmem S1x2048x512 .f32 := spec0_1.stage ((cfgA pf hr).slots t (1 : Fin 4))
abbrev sw1 (t : Fin (cfgA pf hr).N) : (st1 pf hr t).IsWhole := hstage0_1 (((cfgA pf hr).slots t (1 : Fin 4)).cast nbuf0_1)
abbrev st2 (t : Fin (cfgA pf hr).N) : Memref sig .tc .vmem S1x2048x512 .f32 := spec0_2.stage ((cfgA pf hr).slots t (2 : Fin 4))
abbrev sw2 (t : Fin (cfgA pf hr).N) : (st2 pf hr t).IsWhole := hstage0_2 (((cfgA pf hr).slots t (2 : Fin 4)).cast nbuf0_2)
abbrev st3 (t : Fin (cfgA pf hr).N) : Memref sig .tc .vmem S768x512 .bf16 := spec0_3.stage ((cfgA pf hr).slots t (3 : Fin 4))
abbrev sw3 (t : Fin (cfgA pf hr).N) : (st3 pf hr t).IsWhole := hstage0_3 (((cfgA pf hr).slots t (3 : Fin 4)).cast nbuf0_3)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of gate weights a point copies. -/
abbrev copyG (c : Dev nD) (t : Fin (cfgA pf hr).N) : FVec F S2048x512 .bf16 := k0_pay1 (iblk pf hr m c (1 : Fin 4) t)
/-- The block of up weights a point copies. -/
abbrev copyU (c : Dev nD) (t : Fin (cfgA pf hr).N) : FVec F S2048x512 .bf16 := k0_pay2 (iblk pf hr m c (2 : Fin 4) t)

/-- What a point stores. -/
def outBlk (c : Dev nD) (t : Fin (cfgA pf hr).N) : FVec F S768x512 .bf16 :=
  if Used pf hr t then k0_pay3 (iblk pf hr m c (0 : Fin 4) t) (copyG pf hr m c t) (copyU pf hr m c t) else k0_pay4

/-- Between the points: after a point in use the two copies are of that point's weights. -/
def Phi (c : Dev nD) (n : ℕ) : sProp 𝕄 :=
  iprop((∃ a, ⌜∀ s : Fin (cfgA pf hr).N, n = s.val + 1 → Used pf hr s → accG.view.read (Elt F) a = copyG pf hr m c s⌝
        ∗ (accG.view.loc (c : Thread nD τ) ↦{fullShare} a))
    ∗ (∃ a, ⌜∀ s : Fin (cfgA pf hr).N, n = s.val + 1 → Used pf hr s → accU.view.read (Elt F) a = copyU pf hr m c s⌝
        ∗ (accU.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 4) t
    | ⟨1, _⟩ => iblk pf hr m c (1 : Fin 4) t
    | ⟨2, _⟩ => iblk pf hr m c (2 : Fin 4) t
    | ⟨3, _⟩ => outBlk pf hr m c t
  Φ t := Phi pf hr m c t.val
  q _ := fullShare
  owed _ := 0

theorem after_0 (c : Dev nD) (t : Fin (cfgA pf hr).N) : (dats pf hr m 0 c).after (0 : Fin 4) t = iblk pf hr m c (0 : Fin 4) t := rfl
theorem after_1 (c : Dev nD) (t : Fin (cfgA pf hr).N) : (dats pf hr m 0 c).after (1 : Fin 4) t = iblk pf hr m c (1 : Fin 4) t := rfl
theorem after_2 (c : Dev nD) (t : Fin (cfgA pf hr).N) : (dats pf hr m 0 c).after (2 : Fin 4) t = iblk pf hr m c (2 : Fin 4) t := rfl
theorem after_3 (c : Dev nD) (t : Fin (cfgA pf hr).N) : (dats pf hr m 0 c).after (3 : Fin 4) t = outBlk pf hr m c t := rfl

theorem before_0 (c : Dev nD) (t : Fin (cfgA pf hr).N) (d) : (dats pf hr m 0 c).before (0 : Fin 4) t d = iblk pf hr m c (0 : Fin 4) t :=
  ((dats pf hr m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 4) t d = iblk pf hr m c (1 : Fin 4) t :=
  ((dats pf hr m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf hr).N) (d) : (dats pf hr m 0 c).before (2 : Fin 4) t d = iblk pf hr m c (2 : Fin 4) t :=
  ((dats pf hr m 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The coordinates of a point and of the one before it -/

theorem crd_col (t : Fin (cfgA pf hr).N) : (crd pf hr t 0).val = t.val / 11 % 11 :=
  Pipeline.Grid.coords_val (G := grid0) t 0 (by decide) (by decide)
theorem crd_row (t : Fin (cfgA pf hr).N) : (crd pf hr t 1).val = t.val % 11 := by
  have h := Pipeline.Grid.coords_val (G := grid0) t 1 (S := 1) (B := 11) (by decide) (by decide)
  rw [Nat.div_one] at h; exact h

/-! ## The blocks read, by their coordinates -/

theorem iblk_0 (c : Dev nD) (t : Fin (cfgA pf hr).N) (y : S768x2048.Idx) (z : S8448x2048.Idx)
    (h0 : (z 0).val = min (crd pf hr t 1).val (usedOf pf - 1) * 768 + (y 0).val) (h1 : (z 1).val = (y 1).val) :
    (iblk pf hr m c (0 : Fin 4) t : S768x2048.Idx → Elt F .bf16) y = m ((c : Thread nD τ).loc main_arg0) z := by
  have e : ((cfgA pf hr).win (0 : Fin 4)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 4)) t y a
  refine hv.trans ?_
  rw [e]
  fin_cases a
  · exact h0.symm
  · exact (Nat.zero_add _).trans h1.symm

theorem iblk_1 (c : Dev nD) (t : Fin (cfgA pf hr).N) (y : S1x2048x512.Idx) (z : S2x2048x5632.Idx)
    (h0 : (z 0).val = layerOf pf (here (crd pf hr t)) * 1 + (y 0).val) (h1 : (z 1).val = (y 1).val)
    (h2 : (z 2).val = (crd pf hr t 0).val * 512 + (y 2).val) :
    (iblk pf hr m c (1 : Fin 4) t : S1x2048x512.Idx → Elt F .f32) y = m ((c : Thread nD τ).loc main_arg1) z := by
  have e : ((cfgA pf hr).win (1 : Fin 4)).index t = ![layerOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 4)) t y a
  refine hv.trans ?_
  rw [e]
  fin_cases a
  · exact h0.symm
  · exact (Nat.zero_add _).trans h1.symm
  · exact h2.symm

theorem iblk_2 (c : Dev nD) (t : Fin (cfgA pf hr).N) (y : S1x2048x512.Idx) (z : S2x2048x5632.Idx)
    (h0 : (z 0).val = layerOf pf (here (crd pf hr t)) * 1 + (y 0).val) (h1 : (z 1).val = (y 1).val)
    (h2 : (z 2).val = (crd pf hr t 0).val * 512 + (y 2).val) :
    (iblk pf hr m c (2 : Fin 4) t : S1x2048x512.Idx → Elt F .f32) y = m ((c : Thread nD τ).loc main_arg2) z := by
  have e : ((cfgA pf hr).win (2 : Fin 4)).index t = ![layerOf pf (here (crd pf hr t)), 0, (crd pf hr t 0).val] := transform_2_eq pf (crd pf hr t)
  refine congrArg (m ((c : Thread nD τ).loc main_arg2)) (funext fun a => Fin.ext ?_)
  have hv := Pipeline.Window.rect_emb_val ((cfgA pf hr).win (2 : Fin 4)) t y a
  refine hv.trans ?_
  rw [e]
  fin_cases a
  · exact h0.symm
  · exact (Nat.zero_add _).trans h1.symm
  · exact h2.symm

/-- A place in the weights for an element of a point's block. -/
def place (t : Fin (cfgA pf hr).N) (y : S1x2048x512.Idx) : S2x2048x5632.Idx :=
  ix3 (⟨layerOf pf (here (crd pf hr t)), hr.layer _⟩ : Fin 2) (y 1)
    (⟨(crd pf hr t 0).val * 512 + (y 2).val, by
      have h := col_lt (crd pf hr t)
      have h2 : (y 2).val < 512 := (y 2).isLt
      omega⟩ : Fin 5632)

theorem place_congr (s t : Fin (cfgA pf hr).N) (y : S1x2048x512.Idx)
    (he : (tab0 pf (ix1 (here (crd pf hr s))) : BitVec 32) = tab0 pf (ix1 (here (crd pf hr t))))
    (hc : (crd pf hr s 0).val = (crd pf hr t 0).val) : place pf hr s y = place pf hr t y := by
  have hn : layerOf pf (here (crd pf hr s)) = layerOf pf (here (crd pf hr t)) := congrArg (fun w : BitVec 32 => w.toNat) he
  unfold place
  refine funext fun a => Fin.ext ?_
  fin_cases a
  · exact hn
  · rfl
  · show (crd pf hr s 0).val * 512 + _ = (crd pf hr t 0).val * 512 + _
    rw [hc]

theorem iblk_1_place (c : Dev nD) (t : Fin (cfgA pf hr).N) (y : S1x2048x512.Idx) :
    (iblk pf hr m c (1 : Fin 4) t : S1x2048x512.Idx → Elt F .f32) y = m ((c : Thread nD τ).loc main_arg1) (place pf hr t y) :=
  iblk_1 pf hr m c t y _ (by
    have h : (y 0).val < 1 := (y 0).isLt
    show layerOf pf _ = _
    omega) rfl rfl
theorem iblk_2_place (c : Dev nD) (t : Fin (cfgA pf hr).N) (y : S1x2048x512.Idx) :
    (iblk pf hr m c (2 : Fin 4) t : S1x2048x512.Idx → Elt F .f32) y = m ((c : Thread nD τ).loc main_arg2) (place pf hr t y) :=
  iblk_2 pf hr m c t y _ (by
    have h : (y 0).val < 1 := (y 0).isLt
    show layerOf pf _ = _
    omega) rfl rfl

/-- A point whose weights are the point before's: that point is in use too, and copies the same blocks. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyG pf hr m c s = copyG pf hr m c t ∧ copyU pf hr m c s = copyU pf hr m c t := by
  obtain ⟨hz, he⟩ := not_or.mp fun h => hc ((changed_iff (crd pf hr t) (tab0 pf)).mpr h)
  rw [not_not] at he
  have hN : (cfgA pf hr).N = 121 := N_0
  have ht := t.isLt
  have hrow := crd_row pf hr t
  have hcol := crd_col pf hr t
  have hz' : t.val % 11 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 11 % 11 = _; omega
  have e1 : (crd pf hr ⟨t.val - 1, hs⟩ 1).val = (crd pf hr t 1).val - 1 := by
    rw [srow, hrow]; show (t.val - 1) % 11 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)
  · refine congrArg k0_pay2 (funext fun y => ?_)
    exact (iblk_2_place pf hr m c _ y).trans ((congrArg _ (place_congr pf hr _ t y ee e0)).trans (iblk_2_place pf hr m c t y).symm)

end Cert.Kernel4Ideal.FfnUp

end
-- ==== Proof.FfnUp.Step.lean ====
module

public import proofs.«01_k».proof.Proof.FfnUp.Region

@[expose] public section

set_option maxRecDepth 16384

noncomputable section

namespace Cert.Kernel4Ideal.FfnUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (3 : Fin 4) ((cfgA pf hr).grid.coords t) = false := idle_3 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t) (st3 pf hr t) (sw3 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 4) t)
        ∗ owns (c : Thread nD τ) (st1 pf hr t) fullShare (iblk pf hr m c (1 : Fin 4) t)
        ∗ owns (c : Thread nD τ) (st2 pf hr t) fullShare (iblk pf hr m c (2 : Fin 4) t)
        ∗ (∃ d, owns (c : Thread nD τ) (st3 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 4) t)
        ∗ owns (c : Thread nD τ) (st1 pf hr t) fullShare (iblk pf hr m c (1 : Fin 4) t)
        ∗ owns (c : Thread nD τ) (st2 pf hr t) fullShare (iblk pf hr m c (2 : Fin 4) t)
        ∗ owns (c : Thread nD τ) (st3 pf hr t) fullShare (outBlk pf hr m c t)) := by
  have hw : (wordN (tab1 pf) : BitVec 32).toNat ≤ 11 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HG⟩, ⟨%a1, %ha1, HU⟩, HE, HN⟩, H4, H5, H6, H7⟩
  by_cases hu : Used pf hr t
  · have hn : ¬ k0_cond3 (crd pf hr t) (wordN (tab1 pf)) = 1#1 := fun h => h3.mp h hu
    have ho : outBlk pf hr m c t = k0_pay3 (iblk pf hr m c (0 : Fin 4) t) (copyG pf hr m c t) (copyU pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t) (st3 pf hr t) (sw3 pf hr t)
        (tab0 pf) (tab1 pf) (iblk pf hr m c (0 : Fin 4) t) (iblk pf hr m c (1 : Fin 4) t) (iblk pf hr m c (2 : Fin 4) t) a0 a1 (h1.mpr hu) hc hn _)
      isplitl [H4 H5 H6 HE HN]
      · isplitl [H4]; · iapply rep_of_owns; iexact H4
        isplitl [H5]; · iapply rep_of_owns; iexact H5
        isplitl [H6]; · iapply rep_of_owns; iexact H6
        isplitl [HE]; · iexact HE
        iexact HN
      isplitl [H7]; · iexact H7
      isplitl [HG]; · iexact HG
      isplitl [HU]; · iexact HU
      iintro ⟨⟨H4, H5, H6, HE, HN⟩, H7, ⟨%f0, %e0, HG⟩, ⟨%f1, %e1, HU⟩⟩
      isplitl [HG HU HE HN]
      · isplitl [HG]
        · iexists f0; isplitr; swap
          · iexact HG
          · ipureintro; intro s hs _
            obtain rfl : s = t := Fin.ext (Nat.succ.inj hs.symm)
            exact e0
        isplitl [HU]
        · iexists f1; isplitr; swap
          · iexact HU
          · ipureintro; intro s hs _
            obtain rfl : s = t := Fin.ext (Nat.succ.inj hs.symm)
            exact e1
        isplitl [HE]; · iexact HE
        iexact HN
      isplitl [H4]; · iapply owns_of_rep; iexact H4
      isplitl [H5]; · iapply owns_of_rep; iexact H5
      isplitl [H6]; · iapply owns_of_rep; iexact H6
      iexact H7
    · obtain ⟨p, hp, hpu, eG, eU⟩ := same_weights pf hr m c t hu hc
      have k0 := (ha0 p hp hpu).trans eG
      have k1 := (ha1 p hp hpu).trans eU
      rw [← k0, ← k1]
      iapply (run_same c (crd pf hr t) (st0 pf hr t) (sw0 pf hr t) (st1 pf hr t) (sw1 pf hr t) (st2 pf hr t) (sw2 pf hr t) (st3 pf hr t) (sw3 pf hr t)
        (tab0 pf) (tab1 pf) (iblk pf hr m c (0 : Fin 4) t) (iblk pf hr m c (1 : Fin 4) t) (iblk pf hr m c (2 : Fin 4) t) a0 a1 (h1.mpr hu) hc hn _)
      isplitl [H4 H5 H6 HE HN]
      · isplitl [H4]; · iapply rep_of_owns; iexact H4
        isplitl [H5]; · iapply rep_of_owns; iexact H5
        isplitl [H6]; · iapply rep_of_owns; iexact H6
        isplitl [HE]; · iexact HE
        iexact HN
      isplitl [H7]; · iexact H7
      isplitl [HG]; · iexact HG
      isplitl [HU]; · iexact HU
      iintro ⟨⟨H4, H5, H6, HE, HN⟩, H7, HG, HU⟩
      isplitl [HG HU HE HN]
      · isplitl [HG]
        · iexists a0; isplitr; swap
          · iexact HG
          · ipureintro; intro s hs _
            obtain rfl : s = t := Fin.ext (Nat.succ.inj hs.symm)
            exact k0
        isplitl [HU]
        · iexists a1; isplitr; swap
          · iexact HU
          · ipureintro; intro s hs _
            obtain rfl : s = t := Fin.ext (Nat.succ.inj hs.symm)
            exact k1
        isplitl [HE]; · iexact HE
        iexact HN
      isplitl [H4]; · iapply owns_of_rep; iexact H4
      isplitl [H5]; · iapply owns_of_rep; iexact H5
      isplitl [H6]; · iapply owns_of_rep; iexact H6
      iexact H7
  · have ho : outBlk pf hr m c t = k0_pay4 := if_neg hu
    rw [ho]
    iapply (run_unused c (crd pf hr t) (st0 pf hr t) (sw0 pf hr t) (st1 pf hr t) (sw1 pf hr t) (st2 pf hr t) (sw2 pf hr t) (st3 pf hr t) (sw3 pf hr t)
      (tab0 pf) (tab1 pf) (iblk pf hr m c (0 : Fin 4) t) (iblk pf hr m c (1 : Fin 4) t) (iblk pf hr m c (2 : Fin 4) t) a0 a1 (fun h => hu (h1.mp h)) (h3.mpr hu) _)
    isplitl [H4 H5 H6 HE HN]
    · isplitl [H4]; · iapply rep_of_owns; iexact H4
      isplitl [H5]; · iapply rep_of_owns; iexact H5
      isplitl [H6]; · iapply rep_of_owns; iexact H6
      isplitl [HE]; · iexact HE
      iexact HN
    isplitl [H7]; · iexact H7
    isplitl [HG]; · iexact HG
    isplitl [HU]; · iexact HU
    iintro ⟨⟨H4, H5, H6, HE, HN⟩, H7, HG, HU⟩
    isplitl [HG HU HE HN]
    · isplitl [HG]
      · iexists a0; isplitr; swap
        · iexact HG
        · ipureintro; intro s hs hsu
          obtain rfl : s = t := Fin.ext (Nat.succ.inj hs.symm)
          exact absurd hsu hu
      isplitl [HU]
      · iexists a1; isplitr; swap
        · iexact HU
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    isplitl [H6]; · iapply owns_of_rep; iexact H6
    iexact H7

end Cert.Kernel4Ideal.FfnUp

end
-- ==== Proof.FfnUp.Launch.lean ====
module

public import proofs.«01_k».proof.Proof.FfnUp.Step

@[expose] public section

set_option maxRecDepth 16384

noncomputable section

namespace Cert.Kernel4Ideal.FfnUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, before_2, after_0, after_1, after_2, after_3]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H6, H7⟩
    isplitl [HP]; · iexact HP
    isplitl [Ho]; · iexact Ho
    isplitl [H4]; · iexact H4
    isplitl [H5]; · iexact H5
    isplitl [H6]; · iexact H6
    iexact H7
  · iintro ⟨HP, Ho, ⟨%d0, H4⟩, ⟨%d1, H5⟩, ⟨%d2, H6⟩, ⟨%d3, H7⟩⟩
    isplitl [Ho]; · iexact Ho
    isplitl [HP]; · iexact HP
    isplitl [H4]; · iexact H4
    isplitl [H5]; · iexact H5
    isplitl [H6]; · iexact H6
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v0) ↦{q 0} v 0) ∗ (((c : Thread nD τ).loc main_v1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HG⟩, ⟨%a1, HU⟩⟩
  isplitl [HG]
  · iexists a0; isplitr; swap
    · iexact HG
    · ipureintro; intro s hs; exact absurd hs.symm (Nat.succ_ne_zero _)
  isplitl [HU]
  · iexists a1; isplitr; swap
    · iexact HU
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HG⟩, ⟨%a1, -, HU⟩, -, -⟩
  isplitr; · iempintro
  isplitl [HG]
  · iexists a0; iexact HG
  iexists a1; iexact HU

/-! ## The operations before the region -/

/-- The contents the region finds: the two tables made from the layer's number, all else as launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem reach : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- A reference the operations do not write is as launched. -/
theorem V_of_ne (c : Dev nD) (b : Ref sig .tc) (h0 : b ≠ main_v0) (h1 : b ≠ main_c) (h2 : b ≠ main_v1) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2⟩))

theorem array_found (c : Dev nD) (w : Fin (cfgA pf hr).W) : (dats pf hr m 0 c).A w = V m c (Pipeline.arrRef spec0 w) := by
  match w with
  | ⟨0, _⟩ => exact (V_of_ne m c main_arg0 (by decide) (by decide) (by decide)).symm
  | ⟨1, _⟩ => exact (V_of_ne m c main_arg1 (by decide) (by decide) (by decide)).symm
  | ⟨2, _⟩ => exact (V_of_ne m c main_arg2 (by decide) (by decide) (by decide)).symm
  | ⟨3, _⟩ => exact (V_of_ne m c main_v2 (by decide) (by decide) (by decide)).symm

/-- The tables are those the region finds, on every core. -/
def Holds : Prop := ∀ (c : Dev nD) (j : Fin 2), V m c (pre0.ref j) = pf j

/-- Where every run ends: each array as computed, and the layer's number as it was. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)
    ∧ r.2.mem ((c : Thread nD τ).loc main_arg3) = m ((c : Thread nD τ).loc main_arg3)

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := V m)
    (hmain := reach m)
    (hsplit := fun c => Pipeline.arrays_split (pcs pf hr) (dats pf hr m) 0 (launch0 (F := F)).win.arr_inj c (launch0 (F := F)).arr_whole
      (share_full pf hr m c) _ _ (array_found pf hr m c))
    (hpf := hp)
    (X := fun _ => iprop(emp)) (Y := fun _ => iprop(emp)) (Z := fun c => Pipeline.unscopedRestP pre0 spec0 c (V m c))
    (hX := fun c => by iintro H; isplitr; · iempintro
                       iexact H)
    (hin := phi_first pf hr m)
    (hout := phi_last pf hr m)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, ((h c).2.2 main_arg3 (by decide)).trans (V_of_ne m c main_arg3 (by decide) (by decide) (by decide))⟩, hz⟩)

include hr in
/-- The arguments end as they were and every counter at zero. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 4)).trans ((dats pf hr m 0 c).arrAt_in (0 : Fin 4) rfl _),
    ((h.1 c).1 (1 : Fin 4)).trans ((dats pf hr m 0 c).arrAt_in (1 : Fin 4) rfl _),
    ((h.1 c).1 (2 : Fin 4)).trans ((dats pf hr m 0 c).arrAt_in (2 : Fin 4) rfl _), (h.1 c).2⟩, h.2⟩) (run_main pf hr m ρ hp)

end Cert.Kernel4Ideal.FfnUp

end
-- ==== Proof.FfnUp.Frames.lean ====
module

public import proofs.«01_k».proof.Proof.FfnUp.Launch
public import proofs.«01_k».proof.Proof.Gen.Kernel4
public import proofs.«01_k».proof.Proof.Gen.Pre_in_range4
public import proofs.«01_k».proof.Defs

@[expose] public section

noncomputable section

namespace Cert.Kernel4Ideal.FfnUp

open Cert.Kernel4Ideal Cert.Kernel4Ideal.Gen
open Idealize.ShloMosaic
open Idealize.ShloMosaic.TcCoe
open Idealize.SL.Sem

variable {F : FTy → Type} [FloatOps F]

/-! ## The tables' ranges, from the precondition -/

/-- A layer's number at least zero and below two, as a word. -/
theorem layer_range (w : BitVec 32) (h : IntOp.andi (IntOp.cmpi .sge w 0#32) (IntOp.cmpi .slt w 2#32) = 1#1) : w.toNat < 2 := by
  have split : ∀ a b : BitVec 1, IntOp.andi a b = 1#1 → a = 1#1 ∧ b = 1#1 := by decide
  have dec : ∀ p : Prop, ∀ [Decidable p], BitVec.ofBool (decide p) = 1#1 → p := fun p _ hp => by
    by_cases q : p
    · exact q
    · simp [q] at hp
  obtain ⟨h1, h2⟩ := split _ _ h
  have k1 := dec _ h1
  have k2 := dec _ h2
  have z0 : (0#32 : BitVec 32).toInt = 0 := by decide
  have z2 : (2#32 : BitVec 32).toInt = 2 := by decide
  rw [z0] at k1; rw [z2] at k2
  rw [BitVec.toInt_eq_toNat_cond] at k1 k2
  have := w.isLt
  split_ifs at * <;> omega

/-- The tables the first core's region finds. -/
def tables (m : (ℓ : Loc nD τ sig) → Buf (Elt F) ℓ) : pre0.Contents (Elt F) := fun j => V m (0 : Dev nD) (pre0.ref j)

theorem holds_tables (m : (ℓ : Loc nD τ sig) → Buf (Elt F) ℓ) : Holds (tables m) m := fun c j => by
  have e : c = (0 : Dev nD) := Subsingleton.elim _ _
  subst e; rfl

/-- The table of layers: the layer's number at every block. -/
theorem table_layer (m : (ℓ : Loc nD τ sig) → Buf (Elt F) ℓ) :
    (tables m 0 : IVec S11 32) = broadcastInDim S11 ![] bcast_S_S11 (m (((0 : Dev nD).tc : Thread nD τ).loc main_arg3)) := rfl

/-- The count of blocks in use: all of them. -/
theorem table_used (m : (ℓ : Loc nD τ sig) → Buf (Elt F) ℓ) : (tables m 1 : IVec S1 32) = fun _ => 11#32 := rfl

/-- A scalar's one index. -/
abbrev pt : S_.Idx := fun a => a.elim0

theorem scalar_idx (x y : S_.Idx) : x = y := funext fun a => a.elim0

/-- The layer of every block. -/
theorem layer_at (m : (ℓ : Loc nD τ sig) → Buf (Elt F) ℓ) (b : Fin 11) :
    (tables m 0 (ix1 b) : BitVec 32) = (m (((0 : Dev nD).tc : Thread nD τ).loc main_arg3) : IVec S_ 32) pt :=
  (congrFun (table_layer m) (ix1 b)).trans (congrArg _ (scalar_idx _ _))

theorem used_at (m : (ℓ : Loc nD τ sig) → Buf (Elt F) ℓ) : (tables m 1 (ix1 (0 : Fin 1)) : BitVec 32).toNat = 11 :=
  congrArg BitVec.toNat (congrFun (table_used m) (ix1 (0 : Fin 1)))

/-- The precondition gives the ranges. -/
theorem ranges_of_pre (m : (ℓ : Loc nD τ sig) → Buf (Elt F) ℓ) (a0 : FVec F Cert.Pre_in_range4.S8448x2048 .bf16) (a1 a2 : FVec F Cert.Pre_in_range4.S2x2048x5632 .f32)
    (h : Cert.Pre_in_range4.fn (F := F) a0 a1 a2 (m (((0 : Dev nD).tc : Thread nD τ).loc main_arg3)) = fun _ => 1#1) :
    Ranges (tables m) :=
  ⟨fun b => (congrArg BitVec.toNat (layer_at m b)).trans_lt (layer_range _ (congrFun h pt)), (used_at m).symm ▸ by decide, (used_at m).le⟩

/-- The idealized program's frame. -/
theorem frame_ideal : Cert.quiescent_Kernel4Ideal := fun m ρ hp =>
  run_frame (tables m) (ranges_of_pre m _ _ _ (hp 0)) m ρ (holds_tables m)

end Cert.Kernel4Ideal.FfnUp

end
-- ==== Proof.FfnUp.FrameBits.lean ====
module

public import proofs.«01_k».proof.Proof.FfnUp.Frames
public import proofs.«01_k».proof.Proof.Gen.Kernel4
public import proofs.«01_k».proof.Proof.Gen.Pre_in_range4
public import proofs.«01_k».proof.Defs

@[expose] public section

noncomputable section

namespace Cert.Kernel4Ideal.FfnUp

open Cert.Kernel4Ideal Cert.Kernel4Ideal.Gen
open Idealize.ShloMosaic
open Idealize.ShloMosaic.TcCoe
open Idealize.SL.Sem

set_option maxHeartbeats 400000
/-- The two programs' bodies are one text. -/
theorem body_eq : @Cert.Kernel4.cc0_ffn_up Bits _ _ = @Cert.Kernel4Ideal.cc0_ffn_up Bits _ _ := by
  funext i a2 h2 a3 h3 a4 h4 a5 h5 a6 h6 a7 h7 a8 h8 a9 h9
  unfold Cert.Kernel4.cc0_ffn_up Cert.Kernel4Ideal.cc0_ffn_up
  rfl

/-- And so their body tables. -/
theorem table_eq : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) =>
    have e := body_eq
    simp only [funext_iff] at e
    exact e _ _ _ _ _ _ _ _ _ _ _ _ _ _ _ _ _

theorem defs_eq : Cert.Kernel4.defs (F := Bits) = Cert.Kernel4Ideal.defs (F := Bits) := congrArg (Pipeline.defs Cert.Kernel4Ideal.pcfgs) table_eq

/-- The program's frame, from the same run. -/
theorem frame_kernel : Cert.quiescent_Kernel4 := fun m ρ hp => by
  have hr : Ranges (F := Bits) (tables (F := Bits) m) := ranges_of_pre (F := Bits) m _ _ _ (hp 0)
  rw [defs_eq]
  exact run_frame (F := Bits) (tables (F := Bits) m) hr m ρ (holds_tables (F := Bits) m)

end Cert.Kernel4Ideal.FfnUp

end
-- ==== Proof.FfnUp.Value.lean ====
/- What the gated half of the dense layers computes, and that the pipeline leaves it. -/
module

public import proofs.«01_k».proof.Proof.FfnUp.Launch
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel4Ideal.FfnUp

open Cert.Kernel4Ideal Cert.Kernel4Ideal.Gen
open Idealize.ShloMosaic
open Idealize.ShloMosaic.TcCoe
open Idealize.SL.Sem

/-! ## The mathematics -/

/-- The block of 768 rows a row lies in. -/
def blockOf (r : Fin 8448) : Fin 11 := ⟨r.val / 768, by omega⟩

/-- A block's layer. -/
def layerAt (be : IVec S11 32) (b : Fin 11) : Fin 2 := ⟨min (be (ix1 b)).toNat 1, by omega⟩

/-- A row against a column of its layer's weights. -/
def proj (x : FVec Ideal S8448x2048 .bf16) (w : FVec Ideal S2x2048x5632 .f32) (be : IVec S11 32) (r : Fin 8448) (n : Fin 5632) : EReal :=
  ∑ k : Fin 2048, x (ix2 r k) * w (ix3 (layerAt be (blockOf r)) k n)

/-- The gate. -/
def gated (g u : EReal) : EReal := g * Ideal.logistic g * u

/-- The gated product of the two projections in the blocks in use, zero in the others. -/
def result (x : FVec Ideal S8448x2048 .bf16) (wg wu : FVec Ideal S2x2048x5632 .f32) (be : IVec S11 32) (nu : IVec S1 32) : FVec Ideal S8448x5632 .bf16 :=
  fun z => if (blockOf (z 0)).val < (nu (ix1 (0 : Fin 1))).toNat then gated (proj x wg be (z 0) (z 1)) (proj x wu be (z 0) (z 1)) else (0 : EReal)

/-! ## The body's payloads, read at an index -/

theorem pay1_apply (v : Vec Ideal S1x2048x512 .f32) (k : Fin 2048) (n : Fin 512) : k0_pay1 v (ix2 k n) = v (ix3 0 k n) := by
  unfold k0_pay1
  pointwise

theorem pay2_apply (v : Vec Ideal S1x2048x512 .f32) (k : Fin 2048) (n : Fin 512) : k0_pay2 v (ix2 k n) = v (ix3 0 k n) := by
  unfold k0_pay2
  pointwise

theorem pay3_apply (x : Vec Ideal S768x2048 .bf16) (g u : Vec Ideal S2048x512 .bf16) (r : Fin 768) (n : Fin 512) :
    k0_pay3 x g u (ix2 r n) = gated (∑ k : Fin 2048, x (ix2 r k) * g (ix2 k n)) (∑ k : Fin 2048, x (ix2 r k) * u (ix2 k n)) := by
  unfold k0_pay3 gated
  pointwise

theorem pay4_apply (r : Fin 768) (n : Fin 512) : (k0_pay4 (F := Ideal)) (ix2 r n) = (0 : EReal) := by
  unfold k0_pay4
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S8448x2048 .bf16 := m ((c : Thread nD τ).loc main_arg0)
abbrev gatesOf (c : Dev nD) : FVec Ideal S2x2048x5632 .f32 := m ((c : Thread nD τ).loc main_arg1)
abbrev upsOf (c : Dev nD) : FVec Ideal S2x2048x5632 .f32 := m ((c : Thread nD τ).loc main_arg2)

theorem out_eq (c : Dev nD) (t : Fin (cfgA pf hr).N) (r : Fin 768) (n : Fin 512) (z : S8448x5632.Idx)
    (h0 : (z 0).val = (crd pf hr t 1).val * 768 + r.val) (h1 : (z 1).val = (crd pf hr t 0).val * 512 + n.val) :
    outBlk pf hr m c t (ix2 r n) = result (rowsOf m c) (gatesOf m c) (upsOf m c) (tab0 pf) (tab1 pf) z := by
  have hb : (blockOf (z 0)).val = (crd pf hr t 1).val := by show (z 0).val / 768 = _; omega
  have hh : blockOf (z 0) = here (crd pf hr t) := Fin.ext hb
  have he : (layerAt (tab0 pf) (blockOf (z 0))).val = layerOf pf (here (crd pf hr t)) := by
    rw [hh]
    exact Nat.min_eq_left (Nat.le_of_lt_succ (hr.layer _))
  unfold outBlk result
  by_cases hu : Used pf hr t
  · rw [if_pos hu, if_pos (by rw [hb]; exact hu), pay3_apply]
    have hx : ∀ k : Fin 2048, (iblk pf hr m c (0 : Fin 4) t : S768x2048.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 2048, copyG pf hr m c t (ix2 k n) = gatesOf m c (ix3 (layerAt (tab0 pf) (blockOf (z 0))) k (z 1)) := fun k =>
      (pay1_apply _ k n).trans (iblk_1 pf hr m c t (ix3 0 k n) (ix3 _ k (z 1)) (by show (layerAt _ _).val = _ * 1 + 0; rw [he]; omega) rfl h1)
    have hw : ∀ k : Fin 2048, copyU pf hr m c t (ix2 k n) = upsOf m c (ix3 (layerAt (tab0 pf) (blockOf (z 0))) k (z 1)) := fun k =>
      (pay2_apply _ k n).trans (iblk_2 pf hr m c t (ix3 0 k n) (ix3 _ k (z 1)) (by show (layerAt _ _).val = _ * 1 + 0; rw [he]; omega) rfl h1)
    unfold proj
    refine congrArg₂ gated (Finset.sum_congr rfl fun k _ => ?_) (Finset.sum_congr rfl fun k _ => ?_)
    · exact congrArg₂ (fun a b : EReal => a * b) (hx k) (hg k)
    · exact congrArg₂ (fun a b : EReal => a * b) (hx k) (hw k)
  · rw [if_neg hu, if_neg (by rw [hb]; exact hu), pay4_apply]

/-! ## The array -/

theorem covers_out : ((cfgA pf hr).win (3 : Fin 4)).Covers :=
  Pipeline.Window.covers_of_indexMap_surj _ rfl
    (fun a => by
      match a with
      | ⟨0, _⟩ => show 0 < 768; norm_num
      | ⟨1, _⟩ => show 0 < 512; norm_num)
    fun β => by
    have e0 : ((cfgA pf hr).win (3 : Fin 4)).nblk (0 : Fin 2) = 11 := by show (8448 + 768 - 1) / 768 = 11; norm_num
    have e1 : ((cfgA pf hr).win (3 : Fin 4)).nblk (1 : Fin 2) = 11 := by show (5632 + 512 - 1) / 512 = 11; norm_num
    have b0 : (β (0 : Fin 2)).val < 11 := e0 ▸ (β (0 : Fin 2)).isLt
    have b1 : (β (1 : Fin 2)).val < 11 := e1 ▸ (β (1 : Fin 2)).isLt
    let i : grid0.Coords := fun a => match a with | ⟨0, _⟩ => ⟨(β (1 : Fin 2)).val, b1⟩ | ⟨1, _⟩ => ⟨(β (0 : Fin 2)).val, b0⟩
    have e : ((cfgA pf hr).win (3 : Fin 4)).indexMap i = ![(i 1).val, (i 0).val] := transform_3_eq i
    refine ⟨i, fun a => (congrFun e a).trans ?_⟩
    match a with
    | ⟨0, _⟩ => rfl
    | ⟨1, _⟩ => rfl

theorem array_eq (c : Dev nD) :
    (dats pf hr m 0 c).arrAt (3 : Fin 4) (cfgA pf hr).N = result (rowsOf m c) (gatesOf m c) (upsOf m c) (tab0 pf) (tab1 pf) := by
  refine (dats pf hr m 0 c).arrAt_eq_of_covers (3 : Fin 4) _ (covers_out pf hr) fun t hf y => ?_
  have e : ((cfgA pf hr).win (3 : Fin 4)).index t = ![(crd pf hr t 1).val, (crd pf hr t 0).val] := transform_3_eq (crd pf hr t)
  have hv := Pipeline.Window.rect_emb_val ((cfgA pf hr).win (3 : Fin 4)) t y
  rw [e] at hv
  have hy : (y : S768x512.Idx) = ix2 (y 0) (y 1) := eq_ix2 _
  rw [after_3]
  refine Eq.trans ?_ (out_eq pf hr m c t (y 0) (y 1) _ (hv 0) (hv 1))
  exact congrArg (outBlk pf hr m c t) hy

end Cert.Kernel4Ideal.FfnUp

end
-- ==== Proof.FfnUp.RefValue.lean ====
/- The reference of the gated half of the dense layers, read at an index. -/
module

public import proofs.«01_k».proof.Proof.FfnUp.Value
public import proofs.«01_k».proof.Proof.FfnUp.Frames
public import proofs.«01_k».proof.Proof.Up.RefValue
public import proofs.«01_k».proof.Proof.Gen.Reference4Ideal.Read

@[expose] public section

set_option maxRecDepth 16384

noncomputable section

namespace Cert.Reference4Ideal.Blocks

open Cert.Reference4Ideal Cert.Reference4Ideal.Gen Cert.Reference4Ideal.Read
open Idealize.ShloMosaic
open Cert.Kernel4Ideal.FfnUp (blockOf layerAt proj gated result scalar_idx pt)
open Cert.Reference2Ideal.Blocks (one_eq)

/-- Which layer's weights a layer's number chooses. -/
theorem select_layer {α : Type} (w : BitVec 32) (h : w.toNat < 2) (x y : α) :
    Scalar.select (IntOp.cmpi .eq w 0#32) x y = if w.toNat = 0 then x else y := by
  by_cases h0 : w.toNat = 0
  · rw [if_pos h0, show w = 0#32 from BitVec.eq_of_toNat_eq h0]; rfl
  · rw [if_neg h0, show w = 1#32 from BitVec.eq_of_toNat_eq (by show w.toNat = 1; omega)]; rfl

/-- The weights the gate's product reads. -/
theorem weights_gate (w : FVec Ideal S2x2048x5632 .f32) (l : IVec S_ 32) (be : IVec Cert.Kernel4Ideal.S11 32) (hl : (l pt).toNat < 2) (hbe : ∀ b : Fin 11, be (ix1 b) = l pt)
    (b : Fin 11) (k : Fin 2048) (n : Fin 5632) : val_main_v6 (F := Ideal) w l (ix2 k n) = w (ix3 (layerAt be b) k n) := by
  have hk : k.val < 2048 := k.isLt
  have hn : n.val < 5632 := n.isLt
  have e : val_main_v6 (F := Ideal) w l (ix2 k n)
      = Scalar.select (IntOp.cmpi .eq (l pt) 0#32) (val_main_v3 (F := Ideal) w (ix2 k n)) (val_main_v5 (F := Ideal) w (ix2 k n)) :=
    congrArg (fun j => Scalar.select (IntOp.cmpi .eq (l j) 0#32) (val_main_v3 (F := Ideal) w (ix2 k n)) (val_main_v5 (F := Ideal) w (ix2 k n)))
      (scalar_idx _ _)
  rw [e, select_layer _ hl, val_main_v3_apply, val_main_v2_apply, val_main_v5_apply, val_main_v4_apply]
  have hb := hbe b
  by_cases h : (l pt).toNat = 0
  · rw [if_pos h]
    refine congrArg w (funext fun a => Fin.ext ?_)
    match a with
    | ⟨0, _⟩ => show 0 = min (be (ix1 b)).toNat 1; rw [hb]; omega
    | ⟨1, _⟩ => show (k.val * 5632 + n.val) / 5632 % 2048 = k.val; omega
    | ⟨2, _⟩ => show (k.val * 5632 + n.val) % 5632 = n.val; omega
  · rw [if_neg h]
    refine congrArg w (funext fun a => Fin.ext ?_)
    match a with
    | ⟨0, _⟩ => show 1 + 0 = min (be (ix1 b)).toNat 1; rw [hb]; omega
    | ⟨1, _⟩ => show (k.val * 5632 + n.val) / 5632 % 2048 = k.val; omega
    | ⟨2, _⟩ => show (k.val * 5632 + n.val) % 5632 = n.val; omega

/-- And those the other product reads. -/
theorem weights_up (w : FVec Ideal S2x2048x5632 .f32) (l : IVec S_ 32) (be : IVec Cert.Kernel4Ideal.S11 32) (hl : (l pt).toNat < 2) (hbe : ∀ b : Fin 11, be (ix1 b) = l pt)
    (b : Fin 11) (k : Fin 2048) (n : Fin 5632) : val_main_v13 (F := Ideal) w l (ix2 k n) = w (ix3 (layerAt be b) k n) := by
  have hk : k.val < 2048 := k.isLt
  have hn : n.val < 5632 := n.isLt
  have e : val_main_v13 (F := Ideal) w l (ix2 k n)
      = Scalar.select (IntOp.cmpi .eq (l pt) 0#32) (val_main_v10 (F := Ideal) w (ix2 k n)) (val_main_v12 (F := Ideal) w (ix2 k n)) :=
    congrArg (fun j => Scalar.select (IntOp.cmpi .eq (l j) 0#32) (val_main_v10 (F := Ideal) w (ix2 k n)) (val_main_v12 (F := Ideal) w (ix2 k n)))
      (scalar_idx _ _)
  rw [e, select_layer _ hl, val_main_v10_apply, val_main_v9_apply, val_main_v12_apply, val_main_v11_apply]
  have hb := hbe b
  by_cases h : (l pt).toNat = 0
  · rw [if_pos h]
    refine congrArg w (funext fun a => Fin.ext ?_)
    match a with
    | ⟨0, _⟩ => show 0 = min (be (ix1 b)).toNat 1; rw [hb]; omega
    | ⟨1, _⟩ => show (k.val * 5632 + n.val) / 5632 % 2048 = k.val; omega
    | ⟨2, _⟩ => show (k.val * 5632 + n.val) % 5632 = n.val; omega
  · rw [if_neg h]
    refine congrArg w (funext fun a => Fin.ext ?_)
    match a with
    | ⟨0, _⟩ => show 1 + 0 = min (be (ix1 b)).toNat 1; rw [hb]; omega
    | ⟨1, _⟩ => show (k.val * 5632 + n.val) / 5632 % 2048 = k.val; omega
    | ⟨2, _⟩ => show (k.val * 5632 + n.val) % 5632 = n.val; omega

/-- The gate's product, read at a row and a column. -/
theorem product_gate (x : FVec Ideal S8448x2048 .bf16) (w : FVec Ideal S2x2048x5632 .f32) (l : IVec S_ 32) (be : IVec Cert.Kernel4Ideal.S11 32) (hl : (l pt).toNat < 2)
    (hbe : ∀ b : Fin 11, be (ix1 b) = l pt) (z : S8448x5632.Idx) : val_main_v7 (F := Ideal) x w l z = proj x w be (z 0) (z 1) := by
  rw [val_main_v7_apply]
  unfold proj
  refine Finset.sum_congr rfl fun k _ => congrArg₂ (fun a b : EReal => a * b) ?_ ?_
  · rw [val_main_v0_apply]
    refine congrArg x (funext fun a => ?_)
    match a with
    | ⟨0, _⟩ => rfl
    | ⟨1, _⟩ => rfl
  · have e : ridx_main_v7 z k = ix2 k (z 1) := funext fun a => by
      match a with
      | ⟨0, _⟩ => rfl
      | ⟨1, _⟩ => rfl
    rw [e]
    exact weights_gate w l be hl hbe _ k (z 1)

/-- The other product, read there. -/
theorem product_up (x : FVec Ideal S8448x2048 .bf16) (w : FVec Ideal S2x2048x5632 .f32) (l : IVec S_ 32) (be : IVec Cert.Kernel4Ideal.S11 32) (hl : (l pt).toNat < 2)
    (hbe : ∀ b : Fin 11, be (ix1 b) = l pt) (z : S8448x5632.Idx) : val_main_v14 (F := Ideal) x w l z = proj x w be (z 0) (z 1) := by
  rw [val_main_v14_apply]
  unfold proj
  refine Finset.sum_congr rfl fun k _ => congrArg₂ (fun a b : EReal => a * b) ?_ ?_
  · rw [val_main_v0_apply]
    refine congrArg x (funext fun a => ?_)
    match a with
    | ⟨0, _⟩ => rfl
    | ⟨1, _⟩ => rfl
  · have e : ridx_main_v14 z k = ix2 k (z 1) := funext fun a => by
      match a with
      | ⟨0, _⟩ => rfl
      | ⟨1, _⟩ => rfl
    rw [e]
    exact weights_up w l be hl hbe _ k (z 1)

/-- The reference's result is the gated product, every block in use. -/
theorem result_eq (x : FVec Ideal S8448x2048 .bf16) (wg wu : FVec Ideal S2x2048x5632 .f32) (l : IVec S_ 32) (be : IVec Cert.Kernel4Ideal.S11 32) (nu : IVec Cert.Kernel4Ideal.S1 32)
    (hl : (l pt).toNat < 2) (hbe : ∀ b : Fin 11, be (ix1 b) = l pt) (hn : 11 ≤ (nu (ix1 (0 : Fin 1))).toNat) :
    val_main_v17 (F := Ideal) x wg wu l = result x wg wu be nu := by
  funext z
  rw [val_main_v17_apply, val_main_v16_apply, val_main_v15_apply, val_main_call2_v5_apply, val_main_call2_v4_apply, val_main_call2_cst_0_apply,
    val_main_call2_v3_apply, val_main_call2_v2_apply, val_main_call2_cst_apply, val_main_call2_v1_apply, val_main_call2_v0_apply,
    product_gate x wg l be hl hbe z, product_up x wu l be hl hbe z]
  unfold result
  rw [if_pos (Nat.lt_of_lt_of_le (blockOf (z 0)).isLt hn)]
  show proj x wg be (z 0) (z 1) * Ideal.div (Ideal.ofBits FTy.f32 0x3F800000#32) (Ideal.ofBits FTy.f32 0x3F800000#32 + Ideal.exp (-proj x wg be (z 0) (z 1))) * proj x wu be (z 0) (z 1) = _
  rw [one_eq]
  rfl

end Cert.Reference4Ideal.Blocks

end
-- ==== Proof.FfnUp.Equal.lean ====
module

public import proofs.«01_k».proof.Proof.FfnUp.Frames
public import proofs.«01_k».proof.Proof.FfnUp.RefValue
public import proofs.«01_k».proof.Proof.Gen.Reference4Ideal.Run
public import Idealize.ShloMosaic.Lib.Quiescent
public import proofs.«01_k».proof.Defs

@[expose] public section

noncomputable section

namespace Cert.Kernel4Ideal.FfnUp

open Cert.Kernel4Ideal Cert.Kernel4Ideal.Gen
open Idealize.ShloMosaic
open Idealize.ShloMosaic.TcCoe
open Idealize.SL.Sem

/-- The gated product of a memory's arguments. -/
def value (m : (ℓ : Loc nD τ sig) → Buf (Elt Ideal) ℓ) (c : Dev nD) : FVec Ideal S8448x5632 .bf16 :=
  result (m ((c.tc : Thread nD τ).loc main_arg0)) (m ((c.tc : Thread nD τ).loc main_arg1)) (m ((c.tc : Thread nD τ).loc main_arg2)) (tables m 0) (tables m 1)

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 (3 : Fin 4)).trans (array_eq (tables m) hr m c),
    ((h.1 c).1 (0 : Fin 4)).trans ((dats (tables m) hr m 0 c).arrAt_in (0 : Fin 4) rfl _),
    ((h.1 c).1 (1 : Fin 4)).trans ((dats (tables m) hr m 0 c).arrAt_in (1 : Fin 4) rfl _),
    ((h.1 c).1 (2 : Fin 4)).trans ((dats (tables m) hr m 0 c).arrAt_in (2 : Fin 4) rfl _),
    (h.1 c).2⟩)
    (run_main (tables m) hr m ρ (holds_tables m))

/-- The reference's frame. -/
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The kernel and its reference end with equal results. -/
theorem equal_results : Cert.algebraic_Kernel4Ideal_Reference4Ideal := fun m ρ m' ρ' hp hm => by
  have hr := ranges_of_pre m _ _ _ (hp 0)
  refine ⟨value m, run_value m ρ hr, (θ_run Cert.Reference4Ideal.defs _ _).mono (fun _ h c => ⟨(h c).1.trans ?_, (h c).2⟩)
    (Cert.Reference4Ideal.Value.run m' ρ')⟩
  refine (Cert.Reference4Ideal.Read.val_main_v17_eq _ _ _ _).trans ?_
  have e : c = (0 : Dev nD) := Subsingleton.elim _ _
  subst e
  have h0 := hm 0
  rw [h0.1, h0.2.1, h0.2.2.1, h0.2.2.2]
  have hbe := layer_at m
  exact Cert.Reference4Ideal.Blocks.result_eq _ _ _ _ _ _ ((congrArg BitVec.toNat (hbe 0)).symm.trans_lt (hr.1 0)) hbe (used_at m).ge

end Cert.Kernel4Ideal.FfnUp

end
-- ==== Proof.FfnDown.Run.lean ====
module

public import proofs.«01_k».proof.Proof.Gen.Kernel5Ideal.Skeleton
public import proofs.«01_k».proof.Proof.Gen.Kernel5Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel5Ideal.FfnDown

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' layers, whole. -/
abbrev tabE : Memref sig .tc .smem S11 .i32 := Memref.whole main_v0
/-- The number of blocks in use, whole. -/
abbrev tabN : Memref sig .tc .smem S1 .i32 := Memref.whole main_v1
/-- The copy of the weights' block. -/
abbrev accW : Memref sig .tc .vmem S5632x512 .bf16 := Memref.whole cc0_scratch0
/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The layer of the block before, as the body reads it. -/
abbrev wordP (i : grid0.Coords) (T0 : S11.Idx → Elt F .i32) : Elt F .i32 :=
  View.readAt (Elt F) tabE.view (Rect.unit (s := S11) (k0_off2 i) S1.size (k0_off2_inb i)).toLoadRect T0 (Shape.Idx.first (numel1_S1.symm ▸ Nat.one_pos))
/-- The layer of the block, as the body reads it. -/
abbrev wordE (i : grid0.Coords) (T0 : S11.Idx → Elt F .i32) : Elt F .i32 :=
  View.readAt (Elt F) tabE.view (Rect.unit (s := S11) (k0_off3 i) S1.size (k0_off3_inb i)).toLoadRect T0 (Shape.Idx.first (numel1_S1.symm ▸ Nat.one_pos))
/-- Whether the weights have changed, as the body decides it. -/
abbrev changed (i : grid0.Coords) (T0 : S11.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S768x5632 .bf16) (h4 : a4.IsWhole) (a5 : Memref sig .tc .vmem S1x5632x512 .f32) (h5 : a5.IsWhole)
  (a7 : Memref sig .tc .vmem S768x512 .f32) (h7 : a7.IsWhole)
  (T0 : S11.Idx → Elt F .i32) (T1 : S1.Idx → Elt F .i32)
  (x : S768x5632.Idx → Elt F .bf16) (w : S1x5632x512.Idx → Elt F .f32)

/-- The body at one point of the grid. -/
abbrev body : Prog (TpuEff nD τ sig (Elt F) Λ₀ .tc) PUnit :=
  cc0_ffn_down i tabE (Memref.isWhole_whole _) tabN (Memref.isWhole_whole _) a4 h4 a5 h5 a7 h7 accW (Memref.isWhole_whole _)

/-- What the body holds besides its output and its copy. -/
abbrev held : sProp 𝕄 :=
  iprop((a4.view.loc (c : Thread nD τ) ↦[a4.view.set]{fullShare} a4.view.rep x)
    ∗ (a5.view.loc (c : Thread nD τ) ↦[a5.view.set]{fullShare} a5.view.rep w)
    ∗ (tabE.view.loc (c : Thread nD τ) ↦{fullShare.right} T0)
    ∗ (tabN.view.loc (c : Thread nD τ) ↦{fullShare.right} T1))

set_option maxHeartbeats 4000000 in
/-- A block in use whose weights are new: the copy is made, then the product is stored. -/
theorem run_new (b0 : accW.view.ty.Contents (Elt F)) (hu : k0_cond1 i (wordN T1) = 1#1) (hc : changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (k0_pay1 w))
            ∗ (∃ f, ⌜accW.view.read (Elt F) f = k0_pay1 w⌝ ∗ (accW.view.loc (c : Thread nD τ) ↦{fullShare} f))) -∗ K ⟨⟩))
      ⊢ wp frame (wpE (defs₀ (F := F)) Variants.none c none) Set.univ (body i a4 h4 a5 h5 a7 h7) K := by
  unfold owns body
  rw [cc0_ffn_down_eq_skeleton]; unfold cc0_ffn_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      have e5 := View.readAt_rep_full a5.view w inb_S1x5632x512_S1x5632x512_0_0_0
      have eW : run_new.sl.v19 a5 w = k0_pay1 w :=
        (View.readCov_full accW.view _ _ _ _).trans (congrArg k0_pay1 e5)
      rw [View.readAt_rep_full, eW]
  iexists _; isplitr; swap
  · iexact HW
  · ipureintro
    exact (View.read_writes_full _ _ _ _ _).trans (congrArg k0_pay1 (View.readAt_rep_full _ _ _))

set_option maxHeartbeats 4000000 in
/-- A block in use whose weights are those of the block before: the product is stored. -/
theorem run_same (b0 : accW.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (accW.view.read (Elt F) b0))
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_ffn_down_eq_skeleton]; unfold cc0_ffn_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      rw [View.readAt_rep_full, View.readAt_full]
  iexact HW

set_option maxHeartbeats 4000000 in
/-- A block not in use: zeros are stored. -/
theorem run_unused (b0 : accW.view.ty.Contents (Elt F)) (hu : ¬ k0_cond1 i (wordN T1) = 1#1)
    (hn : k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay3)
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_ffn_down_eq_skeleton]; unfold cc0_ffn_down_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      exact View.read_writes_full _ _ _ _ _
  iexact HW

end Cert.Kernel5Ideal.FfnDown

end
-- ==== Proof.FfnDown.Words.lean ====
module

public import proofs.«01_k».proof.Proof.FfnDown.Run
public import proofs.«01_k».proof.Proof.FfnUp.Words
public import Idealize.ShloMosaic.Lib.WordCmp
public import Idealize.ShloMosaic.Lib.Pointwise.Index

@[expose] public section

set_option maxRecDepth 16384

noncomputable section

namespace Cert.Kernel5Ideal.FfnDown

open Cert.Kernel5Ideal Cert.Kernel5Ideal.Gen
open Cert.Kernel4Ideal.FfnUp (bit_ne_zero slt_iff toNat_coord toNat_word)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

theorem coord_lt (i : grid0.Coords) : (i 1).val < 11 := (i 1).isLt
theorem col_lt (i : grid0.Coords) : (i 0).val < 4 := (i 0).isLt

/-- The body's first branch is taken just at the blocks in use. -/
theorem cond1_iff (i : grid0.Coords) (w : BitVec 32) (hw : w.toNat ≤ 11) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord hi]; omega) (by omega), toNat_coord hi]

/-- The body's last branch is taken just at the others. -/
theorem cond3_iff (i : grid0.Coords) (w : BitVec 32) (hw : w.toNat ≤ 11) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord hi]; omega) (by omega), toNat_coord hi]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 11 := i 1
/-- The place of the block before, the first block's its own. -/
def before (i : grid0.Coords) : Fin 11 := ⟨(i 1).val - 1, by have := coord_lt i; omega⟩

theorem off3_eq (i : grid0.Coords) : k0_off3 i 0 = (i 1).val := by
  show (BitVec.ofNat 32 (i 1).val).toNat = _
  exact toNat_coord (coord_lt i)

theorem off2_eq (i : grid0.Coords) : k0_off2 i 0 = (i 1).val - 1 := by
  have key : ∀ n : Fin 11, (Scalar.maxsi (Scalar.subi (BitVec.ofNat 32 n.val) 1#32) 0#32).toNat = n.val - 1 := by decide
  exact key (i 1)

theorem wordE_eq (i : grid0.Coords) (T0 : S11.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S11.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the layer is another than the block before's. -/
theorem changed_iff (i : grid0.Coords) (T0 : S11.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 11, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  layer : ∀ b : Fin 11, (pf 0 (ix1 b) : BitVec 32).toNat < 2
  pos : 1 ≤ (pf 1 (ix1 (0 : Fin 1)) : BitVec 32).toNat
  le : (pf 1 (ix1 (0 : Fin 1)) : BitVec 32).toNat ≤ 11

/-- The layer of a block. -/
abbrev layerOf (pf : pre0.Contents (Elt F)) (b : Fin 11) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 12, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 11) (n : Fin 12), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S11) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord (coord_lt i)]; rfl

theorem transform_1_eq (pf : pre0.Contents (Elt F)) (i : grid0.Coords) :
    cc0_transform_1 k0_off1_inb numel1_S1 pf i = ![layerOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (i : grid0.Coords) : cc0_transform_2 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord (coord_lt i)]

/-- In range, every block the pipeline moves lies in its array. -/
theorem ok_of_ranges (pf : pre0.Contents (Elt F)) (hr : Ranges pf) : ok0 pf := by
  refine ⟨fun i => ⟨?_, .inr (Affine.block_words_dvd (s := S8448x5632) (p := EltTy.packing .bf16) (by decide) (by decide))⟩,
    fun i => ⟨?_, .inl rfl⟩⟩
  · rw [transform_0_eq pf hr]
    have hi := coord_lt i
    intro a; fin_cases a
    · show (min (i 1).val (usedOf pf - 1) + 1) * 768 ≤ 8448
      omega
    · show (0 + 1) * 5632 ≤ 5632
      omega
  · rw [transform_1_eq]
    have he := hr.layer (here i)
    have hc := col_lt i
    intro a; fin_cases a
    · show (layerOf pf (here i) + 1) * 1 ≤ 2
      unfold layerOf; omega
    · show (0 + 1) * 5632 ≤ 5632
      omega
    · show ((i 0).val + 1) * 512 ≤ 2048
      omega

/-- In range, the output's block is stored at every point. -/
theorem idle_2 (pf : pre0.Contents (Elt F)) (hr : Ranges pf) (i : grid0.Coords) : idle0 pf 2 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel5Ideal.FfnDown

end
-- ==== Proof.FfnDown.Region.lean ====
module

public import proofs.«01_k».proof.Proof.FfnDown.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel5Ideal.FfnDown

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of layers, at its own type. -/
abbrev tab0 : S11.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S768x5632 .bf16 := spec0_0.stage ((cfgA pf hr).slots t (0 : Fin 3))
abbrev sw0 (t : Fin (cfgA pf hr).N) : (st0 pf hr t).IsWhole := hstage0_0 (((cfgA pf hr).slots t (0 : Fin 3)).cast nbuf0_0)
abbrev st1 (t : Fin (cfgA pf hr).N) : Memref sig .tc .vmem S1x5632x512 .f32 := spec0_1.stage ((cfgA pf hr).slots t (1 : Fin 3))
abbrev sw1 (t : Fin (cfgA pf hr).N) : (st1 pf hr t).IsWhole := hstage0_1 (((cfgA pf hr).slots t (1 : Fin 3)).cast nbuf0_1)
abbrev st2 (t : Fin (cfgA pf hr).N) : Memref sig .tc .vmem S768x512 .f32 := spec0_2.stage ((cfgA pf hr).slots t (2 : Fin 3))
abbrev sw2 (t : Fin (cfgA pf hr).N) : (st2 pf hr t).IsWhole := hstage0_2 (((cfgA pf hr).slots t (2 : Fin 3)).cast nbuf0_2)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of weights a point copies. -/
abbrev copyW (c : Dev nD) (t : Fin (cfgA pf hr).N) : FVec F S5632x512 .bf16 := k0_pay1 (iblk pf hr m c (1 : Fin 3) t)
/-- What a point stores. -/
def outBlk (c : Dev nD) (t : Fin (cfgA pf hr).N) : FVec F S768x512 .f32 :=
  if Used pf hr t then k0_pay2 (iblk pf hr m c (0 : Fin 3) t) (copyW pf hr m c t) else k0_pay3

/-- Between the points: after a point in use the copy is of that point's weights. -/
def Phi (c : Dev nD) (n : ℕ) : sProp 𝕄 :=
  iprop((∃ a, ⌜∀ s : Fin (cfgA pf hr).N, n = s.val + 1 → Used pf hr s → accW.view.read (Elt F) a = copyW pf hr m c s⌝
        ∗ (accW.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 3) t
    | ⟨1, _⟩ => iblk pf hr m c (1 : Fin 3) t
    | ⟨2, _⟩ => outBlk pf hr m c t
  Φ t := Phi pf hr m c t.val
  q _ := fullShare
  owed _ := 0

theorem after_0 (c : Dev nD) (t : Fin (cfgA pf hr).N) : (dats pf hr m 0 c).after (0 : Fin 3) t = iblk pf hr m c (0 : Fin 3) t := rfl
theorem after_1 (c : Dev nD) (t : Fin (cfgA pf hr).N) : (dats pf hr m 0 c).after (1 : Fin 3) t = iblk pf hr m c (1 : Fin 3) t := rfl
theorem after_2 (c : Dev nD) (t : Fin (cfgA pf hr).N) : (dats pf hr m 0 c).after (2 : Fin 3) t = outBlk pf hr m c t := rfl

theorem before_0 (c : Dev nD) (t : Fin (cfgA pf hr).N) (d) : (dats pf hr m 0 c).before (0 : Fin 3) t d = iblk pf hr m c (0 : Fin 3) t :=
  ((dats pf hr m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 3) t d = iblk pf hr m c (1 : Fin 3) t :=
  ((dats pf hr m 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The coordinates of a point and of the one before it -/

theorem crd_col (t : Fin (cfgA pf hr).N) : (crd pf hr t 0).val = t.val / 11 % 4 :=
  Pipeline.Grid.coords_val (G := grid0) t 0 (by decide) (by decide)
theorem crd_row (t : Fin (cfgA pf hr).N) : (crd pf hr t 1).val = t.val % 11 := by
  have h := Pipeline.Grid.coords_val (G := grid0) t 1 (S := 1) (B := 11) (by decide) (by decide)
  rw [Nat.div_one] at h; exact h

/-! ## The blocks read, by their coordinates -/

theorem iblk_0 (c : Dev nD) (t : Fin (cfgA pf hr).N) (y : S768x5632.Idx) (z : S8448x5632.Idx)
    (h0 : (z 0).val = min (crd pf hr t 1).val (usedOf pf - 1) * 768 + (y 0).val) (h1 : (z 1).val = (y 1).val) :
    (iblk pf hr m c (0 : Fin 3) t : S768x5632.Idx → Elt F .bf16) y = m ((c : Thread nD τ).loc main_arg0) z := by
  have e : ((cfgA pf hr).win (0 : Fin 3)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 3)) t y a
  refine hv.trans ?_
  rw [e]
  fin_cases a
  · exact h0.symm
  · exact (Nat.zero_add _).trans h1.symm

theorem iblk_1 (c : Dev nD) (t : Fin (cfgA pf hr).N) (y : S1x5632x512.Idx) (z : S2x5632x2048.Idx)
    (h0 : (z 0).val = layerOf pf (here (crd pf hr t)) * 1 + (y 0).val) (h1 : (z 1).val = (y 1).val)
    (h2 : (z 2).val = (crd pf hr t 0).val * 512 + (y 2).val) :
    (iblk pf hr m c (1 : Fin 3) t : S1x5632x512.Idx → Elt F .f32) y = m ((c : Thread nD τ).loc main_arg1) z := by
  have e : ((cfgA pf hr).win (1 : Fin 3)).index t = ![layerOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 3)) t y a
  refine hv.trans ?_
  rw [e]
  fin_cases a
  · exact h0.symm
  · exact (Nat.zero_add _).trans h1.symm
  · exact h2.symm

/-- A place in the weights for an element of a point's block. -/
def place (t : Fin (cfgA pf hr).N) (y : S1x5632x512.Idx) : S2x5632x2048.Idx :=
  ix3 (⟨layerOf pf (here (crd pf hr t)), hr.layer _⟩ : Fin 2) (y 1)
    (⟨(crd pf hr t 0).val * 512 + (y 2).val, by
      have h := col_lt (crd pf hr t)
      have h2 : (y 2).val < 512 := (y 2).isLt
      omega⟩ : Fin 2048)

theorem place_congr (s t : Fin (cfgA pf hr).N) (y : S1x5632x512.Idx)
    (he : (tab0 pf (ix1 (here (crd pf hr s))) : BitVec 32) = tab0 pf (ix1 (here (crd pf hr t))))
    (hc : (crd pf hr s 0).val = (crd pf hr t 0).val) : place pf hr s y = place pf hr t y := by
  have hn : layerOf pf (here (crd pf hr s)) = layerOf pf (here (crd pf hr t)) := congrArg (fun w : BitVec 32 => w.toNat) he
  unfold place
  refine funext fun a => Fin.ext ?_
  fin_cases a
  · exact hn
  · rfl
  · show (crd pf hr s 0).val * 512 + _ = (crd pf hr t 0).val * 512 + _
    rw [hc]

theorem iblk_1_place (c : Dev nD) (t : Fin (cfgA pf hr).N) (y : S1x5632x512.Idx) :
    (iblk pf hr m c (1 : Fin 3) t : S1x5632x512.Idx → Elt F .f32) y = m ((c : Thread nD τ).loc main_arg1) (place pf hr t y) :=
  iblk_1 pf hr m c t y _ (by
    have h : (y 0).val < 1 := (y 0).isLt
    show layerOf pf _ = _
    omega) rfl rfl
/-- A point whose weights are the point before's: that point is in use too, and copies the same block. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyW pf hr m c s = copyW pf hr m c t := by
  obtain ⟨hz, he⟩ := not_or.mp fun h => hc ((changed_iff (crd pf hr t) (tab0 pf)).mpr h)
  rw [not_not] at he
  have hN : (cfgA pf hr).N = 44 := N_0
  have ht := t.isLt
  have hrow := crd_row pf hr t
  have hcol := crd_col pf hr t
  have hz' : t.val % 11 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 11 % 4 = _; omega
  have e1 : (crd pf hr ⟨t.val - 1, hs⟩ 1).val = (crd pf hr t 1).val - 1 := by
    rw [srow, hrow]; show (t.val - 1) % 11 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)

end Cert.Kernel5Ideal.FfnDown

end
-- ==== Proof.FfnDown.Step.lean ====
module

public import proofs.«01_k».proof.Proof.FfnDown.Region

@[expose] public section

set_option maxRecDepth 16384

noncomputable section

namespace Cert.Kernel5Ideal.FfnDown

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (2 : Fin 3) ((cfgA pf hr).grid.coords t) = false := idle_2 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 3) t)
        ∗ owns (c : Thread nD τ) (st1 pf hr t) fullShare (iblk pf hr m c (1 : Fin 3) t)
        ∗ (∃ d, owns (c : Thread nD τ) (st2 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 3) t)
        ∗ owns (c : Thread nD τ) (st1 pf hr t) fullShare (iblk pf hr m c (1 : Fin 3) t)
        ∗ owns (c : Thread nD τ) (st2 pf hr t) fullShare (outBlk pf hr m c t)) := by
  have hw : (wordN (tab1 pf) : BitVec 32).toNat ≤ 11 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HW⟩, HE, HN⟩, H4, H5, H7⟩
  by_cases hu : Used pf hr t
  · have hn : ¬ k0_cond3 (crd pf hr t) (wordN (tab1 pf)) = 1#1 := fun h => h3.mp h hu
    have ho : outBlk pf hr m c t = k0_pay2 (iblk pf hr m c (0 : Fin 3) t) (copyW pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, ⟨%f0, %e0, HW⟩⟩
      isplitl [HW HE HN]
      · isplitl [HW]
        · iexists f0; isplitr; swap
          · iexact HW
          · ipureintro; intro s hs _
            obtain rfl : s = t := Fin.ext (Nat.succ.inj hs.symm)
            exact e0
        isplitl [HE]; · iexact HE
        iexact HN
      isplitl [H4]; · iapply owns_of_rep; iexact H4
      isplitl [H5]; · iapply owns_of_rep; iexact H5
      iexact H7
    · obtain ⟨p, hp, hpu, eW⟩ := same_weights pf hr m c t hu hc
      have k0 := (ha0 p hp hpu).trans eW
      rw [← k0]
      iapply (run_same c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, HW⟩
      isplitl [HW HE HN]
      · isplitl [HW]
        · iexists a0; isplitr; swap
          · iexact HW
          · ipureintro; intro s hs _
            obtain rfl : s = t := Fin.ext (Nat.succ.inj hs.symm)
            exact k0
        isplitl [HE]; · iexact HE
        iexact HN
      isplitl [H4]; · iapply owns_of_rep; iexact H4
      isplitl [H5]; · iapply owns_of_rep; iexact H5
      iexact H7
  · have ho : outBlk pf hr m c t = k0_pay3 := if_neg hu
    rw [ho]
    iapply (run_unused c (crd pf hr t) (st0 pf hr t) (sw0 pf hr t) (st1 pf hr t) (sw1 pf hr t) (st2 pf hr t) (sw2 pf hr t)
      (tab0 pf) (tab1 pf) (iblk pf hr m c (0 : Fin 3) t) (iblk pf hr m c (1 : Fin 3) t) a0 (fun h => hu (h1.mp h)) (h3.mpr hu) _)
    isplitl [H4 H5 HE HN]
    · isplitl [H4]; · iapply rep_of_owns; iexact H4
      isplitl [H5]; · iapply rep_of_owns; iexact H5
      isplitl [HE]; · iexact HE
      iexact HN
    isplitl [H7]; · iexact H7
    isplitl [HW]; · iexact HW
    iintro ⟨⟨H4, H5, HE, HN⟩, H7, HW⟩
    isplitl [HW HE HN]
    · isplitl [HW]
      · iexists a0; isplitr; swap
        · iexact HW
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    iexact H7

end Cert.Kernel5Ideal.FfnDown

end
-- ==== Proof.FfnDown.Launch.lean ====
module

public import proofs.«01_k».proof.Proof.FfnDown.Step

@[expose] public section

set_option maxRecDepth 16384

noncomputable section

namespace Cert.Kernel5Ideal.FfnDown

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, after_0, after_1, after_2]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H7⟩
    isplitl [HP]; · iexact HP
    isplitl [Ho]; · iexact Ho
    isplitl [H4]; · iexact H4
    isplitl [H5]; · iexact H5
    iexact H7
  · iintro ⟨HP, Ho, ⟨%d0, H4⟩, ⟨%d1, H5⟩, ⟨%d2, H7⟩⟩
    isplitl [Ho]; · iexact Ho
    isplitl [HP]; · iexact HP
    isplitl [H4]; · iexact H4
    isplitl [H5]; · iexact H5
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v0) ↦{q 0} v 0) ∗ (((c : Thread nD τ).loc main_v1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HW⟩⟩
  isplitl [HW]
  · iexists a0; isplitr; swap
    · iexact HW
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HW⟩, -, -⟩
  isplitr; · iempintro
  iexists a0; iexact HW

/-! ## The operations before the region -/

/-- The contents the region finds: the two tables made from the layer's number, all else as launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem reach : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- A reference the operations do not write is as launched. -/
theorem V_of_ne (c : Dev nD) (b : Ref sig .tc) (h0 : b ≠ main_v0) (h1 : b ≠ main_c) (h2 : b ≠ main_v1) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2⟩))

theorem array_found (c : Dev nD) (w : Fin (cfgA pf hr).W) : (dats pf hr m 0 c).A w = V m c (Pipeline.arrRef spec0 w) := by
  match w with
  | ⟨0, _⟩ => exact (V_of_ne m c main_arg0 (by decide) (by decide) (by decide)).symm
  | ⟨1, _⟩ => exact (V_of_ne m c main_arg1 (by decide) (by decide) (by decide)).symm
  | ⟨2, _⟩ => exact (V_of_ne m c main_v2 (by decide) (by decide) (by decide)).symm

/-- The tables are those the region finds, on every core. -/
def Holds : Prop := ∀ (c : Dev nD) (j : Fin 2), V m c (pre0.ref j) = pf j

/-- Where every run ends: each array as computed, and the layer's number as it was. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)
    ∧ r.2.mem ((c : Thread nD τ).loc main_arg2) = m ((c : Thread nD τ).loc main_arg2)

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := V m)
    (hmain := reach m)
    (hsplit := fun c => Pipeline.arrays_split (pcs pf hr) (dats pf hr m) 0 (launch0 (F := F)).win.arr_inj c (launch0 (F := F)).arr_whole
      (share_full pf hr m c) _ _ (array_found pf hr m c))
    (hpf := hp)
    (X := fun _ => iprop(emp)) (Y := fun _ => iprop(emp)) (Z := fun c => Pipeline.unscopedRestP pre0 spec0 c (V m c))
    (hX := fun c => by iintro H; isplitr; · iempintro
                       iexact H)
    (hin := phi_first pf hr m)
    (hout := phi_last pf hr m)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, ((h c).2.2 main_arg2 (by decide)).trans (V_of_ne m c main_arg2 (by decide) (by decide) (by decide))⟩, hz⟩)

include hr in
/-- The arguments end as they were and every counter at zero. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 3)).trans ((dats pf hr m 0 c).arrAt_in (0 : Fin 3) rfl _),
    ((h.1 c).1 (1 : Fin 3)).trans ((dats pf hr m 0 c).arrAt_in (1 : Fin 3) rfl _),
    (h.1 c).2⟩, h.2⟩) (run_main pf hr m ρ hp)

end Cert.Kernel5Ideal.FfnDown

end
-- ==== Proof.FfnDown.Frames.lean ====
module

public import proofs.«01_k».proof.Proof.FfnDown.Launch
public import proofs.«01_k».proof.Proof.FfnUp.Frames
public import proofs.«01_k».proof.Proof.Gen.Kernel5
public import proofs.«01_k».proof.Proof.Gen.Pre_in_range5
public import proofs.«01_k».proof.Defs

@[expose] public section

noncomputable section

namespace Cert.Kernel5Ideal.FfnDown

open Cert.Kernel5Ideal Cert.Kernel5Ideal.Gen
open Cert.Kernel4Ideal.FfnUp (layer_range scalar_idx pt)
open Idealize.ShloMosaic
open Idealize.ShloMosaic.TcCoe
open Idealize.SL.Sem

variable {F : FTy → Type} [FloatOps F]

/-! ## The tables' ranges, from the precondition -/

/-- The tables the first core's region finds. -/
def tables (m : (ℓ : Loc nD τ sig) → Buf (Elt F) ℓ) : pre0.Contents (Elt F) := fun j => V m (0 : Dev nD) (pre0.ref j)

theorem holds_tables (m : (ℓ : Loc nD τ sig) → Buf (Elt F) ℓ) : Holds (tables m) m := fun c j => by
  have e : c = (0 : Dev nD) := Subsingleton.elim _ _
  subst e; rfl

/-- The table of layers: the layer's number at every block. -/
theorem table_layer (m : (ℓ : Loc nD τ sig) → Buf (Elt F) ℓ) :
    (tables m 0 : IVec S11 32) = broadcastInDim S11 ![] bcast_S_S11 (m (((0 : Dev nD).tc : Thread nD τ).loc main_arg2)) := rfl

/-- The count of blocks in use: all of them. -/
theorem table_used (m : (ℓ : Loc nD τ sig) → Buf (Elt F) ℓ) : (tables m 1 : IVec S1 32) = fun _ => 11#32 := rfl

/-- The layer of every block. -/
theorem layer_at (m : (ℓ : Loc nD τ sig) → Buf (Elt F) ℓ) (b : Fin 11) :
    (tables m 0 (ix1 b) : BitVec 32) = (m (((0 : Dev nD).tc : Thread nD τ).loc main_arg2) : IVec S_ 32) pt :=
  (congrFun (table_layer m) (ix1 b)).trans (congrArg _ (scalar_idx _ _))

theorem used_at (m : (ℓ : Loc nD τ sig) → Buf (Elt F) ℓ) : (tables m 1 (ix1 (0 : Fin 1)) : BitVec 32).toNat = 11 :=
  congrArg BitVec.toNat (congrFun (table_used m) (ix1 (0 : Fin 1)))

/-- The precondition gives the ranges. -/
theorem ranges_of_pre (m : (ℓ : Loc nD τ sig) → Buf (Elt F) ℓ) (a0 : FVec F Cert.Pre_in_range5.S8448x5632 .bf16) (a1 : FVec F Cert.Pre_in_range5.S2x5632x2048 .f32)
    (h : Cert.Pre_in_range5.fn (F := F) a0 a1 (m (((0 : Dev nD).tc : Thread nD τ).loc main_arg2)) = fun _ => 1#1) :
    Ranges (tables m) :=
  ⟨fun b => (congrArg BitVec.toNat (layer_at m b)).trans_lt (layer_range _ (congrFun h pt)), (used_at m).symm ▸ by decide, (used_at m).le⟩

/-- The idealized program's frame. -/
theorem frame_ideal : Cert.quiescent_Kernel5Ideal := fun m ρ hp =>
  run_frame (tables m) (ranges_of_pre m _ _ (hp 0)) m ρ (holds_tables m)

end Cert.Kernel5Ideal.FfnDown

end
-- ==== Proof.FfnDown.FrameBits.lean ====
module

public import proofs.«01_k».proof.Proof.FfnDown.Frames
public import proofs.«01_k».proof.Proof.Gen.Kernel5
public import proofs.«01_k».proof.Proof.Gen.Pre_in_range5
public import proofs.«01_k».proof.Defs

@[expose] public section

noncomputable section

namespace Cert.Kernel5Ideal.FfnDown

open Cert.Kernel5Ideal Cert.Kernel5Ideal.Gen
open Idealize.ShloMosaic
open Idealize.ShloMosaic.TcCoe
open Idealize.SL.Sem

set_option maxHeartbeats 400000
/-- The two programs' bodies are one text. -/
theorem body_eq : @Cert.Kernel5.cc0_ffn_down Bits _ _ = @Cert.Kernel5Ideal.cc0_ffn_down Bits _ _ := by
  funext i a2 h2 a3 h3 a4 h4 a5 h5 a6 h6 a7 h7
  unfold Cert.Kernel5.cc0_ffn_down Cert.Kernel5Ideal.cc0_ffn_down
  rfl

/-- And so their body tables. -/
theorem table_eq : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | 0, (t, s) =>
    have e := body_eq
    simp only [funext_iff] at e
    exact e _ _ _ _ _ _ _ _ _ _ _ _ _

theorem defs_eq : Cert.Kernel5.defs (F := Bits) = Cert.Kernel5Ideal.defs (F := Bits) := congrArg (Pipeline.defs Cert.Kernel5Ideal.pcfgs) table_eq

/-- The program's frame, from the same run. -/
theorem frame_kernel : Cert.quiescent_Kernel5 := fun m ρ hp => by
  have hr : Ranges (F := Bits) (tables (F := Bits) m) := ranges_of_pre (F := Bits) m _ _ (hp 0)
  rw [defs_eq]
  exact run_frame (F := Bits) (tables (F := Bits) m) hr m ρ (holds_tables (F := Bits) m)

end Cert.Kernel5Ideal.FfnDown

end
-- ==== Proof.FfnDown.Value.lean ====
/- What the other half of the dense layers computes, and that the pipeline leaves it. -/
module

public import proofs.«01_k».proof.Proof.FfnDown.Launch
public import proofs.«01_k».proof.Proof.FfnUp.Value
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel5Ideal.FfnDown

open Cert.Kernel5Ideal Cert.Kernel5Ideal.Gen
open Cert.Kernel4Ideal.FfnUp (blockOf layerAt)
open Idealize.ShloMosaic
open Idealize.ShloMosaic.TcCoe
open Idealize.SL.Sem

/-! ## The mathematics -/

/-- A row against a column of its layer's weights. -/
def proj (x : FVec Ideal S8448x5632 .bf16) (w : FVec Ideal S2x5632x2048 .f32) (be : IVec S11 32) (r : Fin 8448) (n : Fin 2048) : EReal :=
  ∑ k : Fin 5632, x (ix2 r k) * w (ix3 (layerAt be (blockOf r)) k n)

/-- The product in the blocks in use, zero in the others. -/
def result (x : FVec Ideal S8448x5632 .bf16) (w : FVec Ideal S2x5632x2048 .f32) (be : IVec S11 32) (nu : IVec S1 32) : FVec Ideal S8448x2048 .f32 :=
  fun z => if (blockOf (z 0)).val < (nu (ix1 (0 : Fin 1))).toNat then proj x w be (z 0) (z 1) else (0 : EReal)

/-! ## The body's payloads, read at an index -/

theorem pay1_apply (v : Vec Ideal S1x5632x512 .f32) (k : Fin 5632) (n : Fin 512) : k0_pay1 v (ix2 k n) = v (ix3 0 k n) := by
  unfold k0_pay1
  pointwise

theorem pay2_apply (x : Vec Ideal S768x5632 .bf16) (w : Vec Ideal S5632x512 .bf16) (r : Fin 768) (n : Fin 512) :
    k0_pay2 x w (ix2 r n) = ∑ k : Fin 5632, x (ix2 r k) * w (ix2 k n) := by
  unfold k0_pay2
  pointwise

theorem pay3_apply (r : Fin 768) (n : Fin 512) : (k0_pay3 (F := Ideal)) (ix2 r n) = (0 : EReal) := by
  unfold k0_pay3
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S8448x5632 .bf16 := m ((c : Thread nD τ).loc main_arg0)
abbrev weightsOf (c : Dev nD) : FVec Ideal S2x5632x2048 .f32 := m ((c : Thread nD τ).loc main_arg1)

theorem out_eq (c : Dev nD) (t : Fin (cfgA pf hr).N) (r : Fin 768) (n : Fin 512) (z : S8448x2048.Idx)
    (h0 : (z 0).val = (crd pf hr t 1).val * 768 + r.val) (h1 : (z 1).val = (crd pf hr t 0).val * 512 + n.val) :
    outBlk pf hr m c t (ix2 r n) = result (rowsOf m c) (weightsOf m c) (tab0 pf) (tab1 pf) z := by
  have hb : (blockOf (z 0)).val = (crd pf hr t 1).val := by show (z 0).val / 768 = _; omega
  have hh : blockOf (z 0) = here (crd pf hr t) := Fin.ext hb
  have he : (layerAt (tab0 pf) (blockOf (z 0))).val = layerOf pf (here (crd pf hr t)) := by
    rw [hh]
    exact Nat.min_eq_left (Nat.le_of_lt_succ (hr.layer _))
  unfold outBlk result
  by_cases hu : Used pf hr t
  · rw [if_pos hu, if_pos (by rw [hb]; exact hu), pay2_apply]
    have hx : ∀ k : Fin 5632, (iblk pf hr m c (0 : Fin 3) t : S768x5632.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 5632, copyW pf hr m c t (ix2 k n) = weightsOf m c (ix3 (layerAt (tab0 pf) (blockOf (z 0))) k (z 1)) := fun k =>
      (pay1_apply _ k n).trans (iblk_1 pf hr m c t (ix3 0 k n) (ix3 _ k (z 1)) (by show (layerAt _ _).val = _ * 1 + 0; rw [he]; omega) rfl h1)
    unfold proj
    exact Finset.sum_congr rfl fun k _ => congrArg₂ (fun a b : EReal => a * b) (hx k) (hg k)
  · rw [if_neg hu, if_neg (by rw [hb]; exact hu), pay3_apply]

/-! ## The array -/

theorem covers_out : ((cfgA pf hr).win (2 : Fin 3)).Covers :=
  Pipeline.Window.covers_of_indexMap_surj _ rfl
    (fun a => by
      match a with
      | ⟨0, _⟩ => show 0 < 768; norm_num
      | ⟨1, _⟩ => show 0 < 512; norm_num)
    fun β => by
    have e0 : ((cfgA pf hr).win (2 : Fin 3)).nblk (0 : Fin 2) = 11 := by show (8448 + 768 - 1) / 768 = 11; norm_num
    have e1 : ((cfgA pf hr).win (2 : Fin 3)).nblk (1 : Fin 2) = 4 := by show (2048 + 512 - 1) / 512 = 4; norm_num
    have b0 : (β (0 : Fin 2)).val < 11 := e0 ▸ (β (0 : Fin 2)).isLt
    have b1 : (β (1 : Fin 2)).val < 4 := e1 ▸ (β (1 : Fin 2)).isLt
    let i : grid0.Coords := fun a => match a with | ⟨0, _⟩ => ⟨(β (1 : Fin 2)).val, b1⟩ | ⟨1, _⟩ => ⟨(β (0 : Fin 2)).val, b0⟩
    have e : ((cfgA pf hr).win (2 : Fin 3)).indexMap i = ![(i 1).val, (i 0).val] := transform_2_eq i
    refine ⟨i, fun a => (congrFun e a).trans ?_⟩
    match a with
    | ⟨0, _⟩ => rfl
    | ⟨1, _⟩ => rfl

theorem array_eq (c : Dev nD) :
    (dats pf hr m 0 c).arrAt (2 : Fin 3) (cfgA pf hr).N = result (rowsOf m c) (weightsOf m c) (tab0 pf) (tab1 pf) := by
  refine (dats pf hr m 0 c).arrAt_eq_of_covers (2 : Fin 3) _ (covers_out pf hr) fun t hf y => ?_
  have e : ((cfgA pf hr).win (2 : Fin 3)).index t = ![(crd pf hr t 1).val, (crd pf hr t 0).val] := transform_2_eq (crd pf hr t)
  have hv := Pipeline.Window.rect_emb_val ((cfgA pf hr).win (2 : Fin 3)) t y
  rw [e] at hv
  have hy : (y : S768x512.Idx) = ix2 (y 0) (y 1) := eq_ix2 _
  rw [after_2]
  refine Eq.trans ?_ (out_eq pf hr m c t (y 0) (y 1) _ (hv 0) (hv 1))
  exact congrArg (outBlk pf hr m c t) hy

end Cert.Kernel5Ideal.FfnDown

end
-- ==== Proof.FfnDown.RefValue.lean ====
/- The reference of the second half of the dense layers, read at an index. -/
module

public import proofs.«01_k».proof.Proof.FfnDown.Value
public import proofs.«01_k».proof.Proof.FfnUp.RefValue
public import proofs.«01_k».proof.Proof.Gen.Reference5Ideal.Read

@[expose] public section

set_option maxRecDepth 16384

noncomputable section

namespace Cert.Reference5Ideal.Blocks

open Cert.Reference5Ideal Cert.Reference5Ideal.Gen Cert.Reference5Ideal.Read
open Idealize.ShloMosaic
open Cert.Kernel4Ideal.FfnUp (blockOf layerAt scalar_idx pt)
open Cert.Kernel5Ideal.FfnDown (proj result)
open Cert.Reference4Ideal.Blocks (select_layer)

/-- The weights the product reads. -/
theorem weights_at (w : FVec Ideal S2x5632x2048 .f32) (l : IVec S_ 32) (be : IVec Cert.Kernel4Ideal.S11 32) (hl : (l pt).toNat < 2) (hbe : ∀ b : Fin 11, be (ix1 b) = l pt)
    (b : Fin 11) (k : Fin 5632) (n : Fin 2048) : val_main_v6 (F := Ideal) w l (ix2 k n) = w (ix3 (layerAt be b) k n) := by
  have hk : k.val < 5632 := k.isLt
  have hn : n.val < 2048 := n.isLt
  have e : val_main_v6 (F := Ideal) w l (ix2 k n)
      = Scalar.select (IntOp.cmpi .eq (l pt) 0#32) (val_main_v3 (F := Ideal) w (ix2 k n)) (val_main_v5 (F := Ideal) w (ix2 k n)) :=
    congrArg (fun j => Scalar.select (IntOp.cmpi .eq (l j) 0#32) (val_main_v3 (F := Ideal) w (ix2 k n)) (val_main_v5 (F := Ideal) w (ix2 k n)))
      (scalar_idx _ _)
  rw [e, select_layer _ hl, val_main_v3_apply, val_main_v2_apply, val_main_v5_apply, val_main_v4_apply]
  have hb := hbe b
  by_cases h : (l pt).toNat = 0
  · rw [if_pos h]
    refine congrArg w (funext fun a => Fin.ext ?_)
    match a with
    | ⟨0, _⟩ => show 0 = min (be (ix1 b)).toNat 1; rw [hb]; omega
    | ⟨1, _⟩ => show (k.val * 2048 + n.val) / 2048 % 5632 = k.val; omega
    | ⟨2, _⟩ => show (k.val * 2048 + n.val) % 2048 = n.val; omega
  · rw [if_neg h]
    refine congrArg w (funext fun a => Fin.ext ?_)
    match a with
    | ⟨0, _⟩ => show 1 + 0 = min (be (ix1 b)).toNat 1; rw [hb]; omega
    | ⟨1, _⟩ => show (k.val * 2048 + n.val) / 2048 % 5632 = k.val; omega
    | ⟨2, _⟩ => show (k.val * 2048 + n.val) % 2048 = n.val; omega

/-- The product, read at a row and a column. -/
theorem product_at (x : FVec Ideal S8448x5632 .bf16) (w : FVec Ideal S2x5632x2048 .f32) (l : IVec S_ 32) (be : IVec Cert.Kernel4Ideal.S11 32) (hl : (l pt).toNat < 2)
    (hbe : ∀ b : Fin 11, be (ix1 b) = l pt) (z : S8448x2048.Idx) : val_main_v7 (F := Ideal) x w l z = proj x w be (z 0) (z 1) := by
  rw [val_main_v7_apply]
  unfold proj
  refine Finset.sum_congr rfl fun k _ => congrArg₂ (fun a b : EReal => a * b) ?_ ?_
  · rw [val_main_v0_apply]
    refine congrArg x (funext fun a => ?_)
    match a with
    | ⟨0, _⟩ => rfl
    | ⟨1, _⟩ => rfl
  · have e : ridx_main_v7 z k = ix2 k (z 1) := funext fun a => by
      match a with
      | ⟨0, _⟩ => rfl
      | ⟨1, _⟩ => rfl
    rw [e]
    exact weights_at w l be hl hbe _ k (z 1)

/-- The reference's result is the product, every block in use. -/
theorem result_eq (x : FVec Ideal S8448x5632 .bf16) (w : FVec Ideal S2x5632x2048 .f32) (l : IVec S_ 32) (be : IVec Cert.Kernel4Ideal.S11 32) (nu : IVec Cert.Kernel4Ideal.S1 32)
    (hl : (l pt).toNat < 2) (hbe : ∀ b : Fin 11, be (ix1 b) = l pt) (hn : 11 ≤ (nu (ix1 (0 : Fin 1))).toNat) :
    val_main_v7 (F := Ideal) x w l = result x w be nu := by
  funext z
  rw [product_at x w l be hl hbe z]
  unfold result
  rw [if_pos (Nat.lt_of_lt_of_le (blockOf (z 0)).isLt hn)]

end Cert.Reference5Ideal.Blocks

end
-- ==== Proof.FfnDown.Equal.lean ====
module

public import proofs.«01_k».proof.Proof.FfnDown.Frames
public import proofs.«01_k».proof.Proof.FfnDown.RefValue
public import proofs.«01_k».proof.Proof.Gen.Reference5Ideal.Run
public import Idealize.ShloMosaic.Lib.Quiescent
public import proofs.«01_k».proof.Defs

@[expose] public section

noncomputable section

namespace Cert.Kernel5Ideal.FfnDown

open Cert.Kernel5Ideal Cert.Kernel5Ideal.Gen
open Idealize.ShloMosaic
open Idealize.ShloMosaic.TcCoe
open Idealize.SL.Sem

/-- The product of a memory's arguments. -/
def value (m : (ℓ : Loc nD τ sig) → Buf (Elt Ideal) ℓ) (c : Dev nD) : FVec Ideal S8448x2048 .f32 :=
  result (m ((c.tc : Thread nD τ).loc main_arg0)) (m ((c.tc : Thread nD τ).loc main_arg1)) (tables m 0) (tables m 1)

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 (2 : Fin 3)).trans (array_eq (tables m) hr m c),
    ((h.1 c).1 (0 : Fin 3)).trans ((dats (tables m) hr m 0 c).arrAt_in (0 : Fin 3) rfl _),
    ((h.1 c).1 (1 : Fin 3)).trans ((dats (tables m) hr m 0 c).arrAt_in (1 : Fin 3) rfl _),
    (h.1 c).2⟩)
    (run_main (tables m) hr m ρ (holds_tables m))

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The kernel and its reference end with equal results. -/
theorem equal_results : Cert.algebraic_Kernel5Ideal_Reference5Ideal := fun m ρ m' ρ' hp hm => by
  have hr := ranges_of_pre m _ _ (hp 0)
  refine ⟨value m, run_value m ρ hr, (θ_run Cert.Reference5Ideal.defs _ _).mono (fun _ h c => ⟨(h c).1.trans ?_, (h c).2⟩)
    (Cert.Reference5Ideal.Value.run m' ρ')⟩
  refine (Cert.Reference5Ideal.Read.val_main_v7_eq _ _ _).trans ?_
  have e : c = (0 : Dev nD) := Subsingleton.elim _ _
  subst e
  have h0 := hm 0
  rw [h0.1, h0.2.1, h0.2.2]
  have hbe := layer_at m
  exact Cert.Reference5Ideal.Blocks.result_eq _ _ _ _ _ ((congrArg BitVec.toNat (hbe 0)).symm.trans_lt (hr.1 0)) hbe (used_at m).ge

end Cert.Kernel5Ideal.FfnDown

end
-- ==== Proof.ConvIn.Run.lean ====
module

public import proofs.«01_k».proof.Proof.Gen.Kernel6Ideal.Skeleton
public import proofs.«01_k».proof.Proof.Gen.Kernel6Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel6Ideal.ConvIn

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' layers, whole. -/
abbrev tabE : Memref sig .tc .smem S6 .i32 := Memref.whole main_v0
/-- The number of blocks in use, whole. -/
abbrev tabN : Memref sig .tc .smem S1 .i32 := Memref.whole main_v1
/-- The copy of the weights' block. -/
abbrev accW : Memref sig .tc .vmem S2048x1024 .bf16 := Memref.whole cc0_scratch0
/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The layer of the block before, as the body reads it. -/
abbrev wordP (i : grid0.Coords) (T0 : S6.Idx → Elt F .i32) : Elt F .i32 :=
  View.readAt (Elt F) tabE.view (Rect.unit (s := S6) (k0_off2 i) S1.size (k0_off2_inb i)).toLoadRect T0 (Shape.Idx.first (numel1_S1.symm ▸ Nat.one_pos))
/-- The layer of the block, as the body reads it. -/
abbrev wordE (i : grid0.Coords) (T0 : S6.Idx → Elt F .i32) : Elt F .i32 :=
  View.readAt (Elt F) tabE.view (Rect.unit (s := S6) (k0_off3 i) S1.size (k0_off3_inb i)).toLoadRect T0 (Shape.Idx.first (numel1_S1.symm ▸ Nat.one_pos))
/-- Whether the weights have changed, as the body decides it. -/
abbrev changed (i : grid0.Coords) (T0 : S6.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S1408x2048 .bf16) (h4 : a4.IsWhole) (a5 : Memref sig .tc .vmem S1x2048x1024 .f32) (h5 : a5.IsWhole)
  (a7 : Memref sig .tc .vmem S1408x1024 .f32) (h7 : a7.IsWhole)
  (T0 : S6.Idx → Elt F .i32) (T1 : S1.Idx → Elt F .i32)
  (x : S1408x2048.Idx → Elt F .bf16) (w : S1x2048x1024.Idx → Elt F .f32)

/-- The body at one point of the grid. -/
abbrev body : Prog (TpuEff nD τ sig (Elt F) Λ₀ .tc) PUnit :=
  cc0_a_in i tabE (Memref.isWhole_whole _) tabN (Memref.isWhole_whole _) a4 h4 a5 h5 a7 h7 accW (Memref.isWhole_whole _)

/-- What the body holds besides its output and its copy. -/
abbrev held : sProp 𝕄 :=
  iprop((a4.view.loc (c : Thread nD τ) ↦[a4.view.set]{fullShare} a4.view.rep x)
    ∗ (a5.view.loc (c : Thread nD τ) ↦[a5.view.set]{fullShare} a5.view.rep w)
    ∗ (tabE.view.loc (c : Thread nD τ) ↦{fullShare.right} T0)
    ∗ (tabN.view.loc (c : Thread nD τ) ↦{fullShare.right} T1))

set_option maxHeartbeats 4000000 in
/-- A block in use whose weights are new: the copy is made, then the product is stored. -/
theorem run_new (b0 : accW.view.ty.Contents (Elt F)) (hu : k0_cond1 i (wordN T1) = 1#1) (hc : changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (k0_pay1 w))
            ∗ (∃ f, ⌜accW.view.read (Elt F) f = k0_pay1 w⌝ ∗ (accW.view.loc (c : Thread nD τ) ↦{fullShare} f))) -∗ K ⟨⟩))
      ⊢ wp frame (wpE (defs₀ (F := F)) Variants.none c none) Set.univ (body i a4 h4 a5 h5 a7 h7) K := by
  unfold owns body
  rw [cc0_a_in_eq_skeleton]; unfold cc0_a_in_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      have e5 := View.readAt_rep_full a5.view w inb_S1x2048x1024_S1x2048x1024_0_0_0
      have eW : run_new.sl.v19 a5 w = k0_pay1 w :=
        (View.readCov_full accW.view _ _ _ _).trans (congrArg k0_pay1 e5)
      rw [View.readAt_rep_full, eW]
  iexists _; isplitr; swap
  · iexact HW
  · ipureintro
    exact (View.read_writes_full _ _ _ _ _).trans (congrArg k0_pay1 (View.readAt_rep_full _ _ _))

set_option maxHeartbeats 4000000 in
/-- A block in use whose weights are those of the block before: the product is stored. -/
theorem run_same (b0 : accW.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (accW.view.read (Elt F) b0))
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_a_in_eq_skeleton]; unfold cc0_a_in_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      rw [View.readAt_rep_full, View.readAt_full]
  iexact HW

set_option maxHeartbeats 4000000 in
/-- A block not in use: zeros are stored. -/
theorem run_unused (b0 : accW.view.ty.Contents (Elt F)) (hu : ¬ k0_cond1 i (wordN T1) = 1#1)
    (hn : k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay3)
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_a_in_eq_skeleton]; unfold cc0_a_in_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      exact View.read_writes_full _ _ _ _ _
  iexact HW

end Cert.Kernel6Ideal.ConvIn

end
-- ==== Proof.ConvIn.Words.lean ====
module

public import proofs.«01_k».proof.Proof.ConvIn.Run
public import proofs.«01_k».proof.Proof.FfnUp.Words
public import Idealize.ShloMosaic.Lib.WordCmp
public import Idealize.ShloMosaic.Lib.Pointwise.Index

@[expose] public section

set_option maxRecDepth 16384

noncomputable section

namespace Cert.Kernel6Ideal.ConvIn

open Cert.Kernel6Ideal Cert.Kernel6Ideal.Gen
open Cert.Kernel4Ideal.FfnUp (bit_ne_zero slt_iff toNat_coord toNat_word)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

theorem coord_lt (i : grid0.Coords) : (i 1).val < 6 := (i 1).isLt
theorem col_lt (i : grid0.Coords) : (i 0).val < 6 := (i 0).isLt

/-- The body's first branch is taken just at the blocks in use. -/
theorem cond1_iff (i : grid0.Coords) (w : BitVec 32) (hw : w.toNat ≤ 6) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord (hi.trans (by decide))]; omega) (by omega), toNat_coord (hi.trans (by decide))]

/-- The body's last branch is taken just at the others. -/
theorem cond3_iff (i : grid0.Coords) (w : BitVec 32) (hw : w.toNat ≤ 6) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord (hi.trans (by decide))]; omega) (by omega), toNat_coord (hi.trans (by decide))]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 6 := i 1
/-- The place of the block before, the first block's its own. -/
def before (i : grid0.Coords) : Fin 6 := ⟨(i 1).val - 1, by have := coord_lt i; omega⟩

theorem off3_eq (i : grid0.Coords) : k0_off3 i 0 = (i 1).val := by
  show (BitVec.ofNat 32 (i 1).val).toNat = _
  exact toNat_coord ((coord_lt i).trans (by decide))

theorem off2_eq (i : grid0.Coords) : k0_off2 i 0 = (i 1).val - 1 := by
  have key : ∀ n : Fin 6, (Scalar.maxsi (Scalar.subi (BitVec.ofNat 32 n.val) 1#32) 0#32).toNat = n.val - 1 := by decide
  exact key (i 1)

theorem wordE_eq (i : grid0.Coords) (T0 : S6.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S6.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the layer is another than the block before's. -/
theorem changed_iff (i : grid0.Coords) (T0 : S6.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 6, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  layer : ∀ b : Fin 6, (pf 0 (ix1 b) : BitVec 32).toNat < 1
  pos : 1 ≤ (pf 1 (ix1 (0 : Fin 1)) : BitVec 32).toNat
  le : (pf 1 (ix1 (0 : Fin 1)) : BitVec 32).toNat ≤ 6

/-- The layer of a block. -/
abbrev layerOf (pf : pre0.Contents (Elt F)) (b : Fin 6) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 7, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 6) (n : Fin 7), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S6) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord ((coord_lt i).trans (by decide))]; rfl

theorem transform_1_eq (pf : pre0.Contents (Elt F)) (i : grid0.Coords) :
    cc0_transform_1 k0_off1_inb numel1_S1 pf i = ![layerOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (i : grid0.Coords) : cc0_transform_2 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord ((coord_lt i).trans (by decide))]

/-- In range, every block the pipeline moves lies in its array. -/
theorem ok_of_ranges (pf : pre0.Contents (Elt F)) (hr : Ranges pf) : ok0 pf := by
  refine ⟨fun i => ⟨?_, .inr (Affine.block_words_dvd (s := S8448x2048) (p := EltTy.packing .bf16) (by decide) (by decide))⟩,
    fun i => ⟨?_, .inl rfl⟩⟩
  · rw [transform_0_eq pf hr]
    have hi := coord_lt i
    intro a; fin_cases a
    · show (min (i 1).val (usedOf pf - 1) + 1) * 1408 ≤ 8448
      omega
    · show (0 + 1) * 2048 ≤ 2048
      omega
  · rw [transform_1_eq]
    have he := hr.layer (here i)
    have hc := col_lt i
    intro a; fin_cases a
    · show (layerOf pf (here i) + 1) * 1 ≤ 1
      unfold layerOf; omega
    · show (0 + 1) * 2048 ≤ 2048
      omega
    · show ((i 0).val + 1) * 1024 ≤ 6144
      omega

/-- In range, the output's block is stored at every point. -/
theorem idle_2 (pf : pre0.Contents (Elt F)) (hr : Ranges pf) (i : grid0.Coords) : idle0 pf 2 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel6Ideal.ConvIn

end
-- ==== Proof.ConvIn.Region.lean ====
module

public import proofs.«01_k».proof.Proof.ConvIn.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel6Ideal.ConvIn

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of layers, at its own type. -/
abbrev tab0 : S6.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S1408x2048 .bf16 := spec0_0.stage ((cfgA pf hr).slots t (0 : Fin 3))
abbrev sw0 (t : Fin (cfgA pf hr).N) : (st0 pf hr t).IsWhole := hstage0_0 (((cfgA pf hr).slots t (0 : Fin 3)).cast nbuf0_0)
abbrev st1 (t : Fin (cfgA pf hr).N) : Memref sig .tc .vmem S1x2048x1024 .f32 := spec0_1.stage ((cfgA pf hr).slots t (1 : Fin 3))
abbrev sw1 (t : Fin (cfgA pf hr).N) : (st1 pf hr t).IsWhole := hstage0_1 (((cfgA pf hr).slots t (1 : Fin 3)).cast nbuf0_1)
abbrev st2 (t : Fin (cfgA pf hr).N) : Memref sig .tc .vmem S1408x1024 .f32 := spec0_2.stage ((cfgA pf hr).slots t (2 : Fin 3))
abbrev sw2 (t : Fin (cfgA pf hr).N) : (st2 pf hr t).IsWhole := hstage0_2 (((cfgA pf hr).slots t (2 : Fin 3)).cast nbuf0_2)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of weights a point copies. -/
abbrev copyW (c : Dev nD) (t : Fin (cfgA pf hr).N) : FVec F S2048x1024 .bf16 := k0_pay1 (iblk pf hr m c (1 : Fin 3) t)
/-- What a point stores. -/
def outBlk (c : Dev nD) (t : Fin (cfgA pf hr).N) : FVec F S1408x1024 .f32 :=
  if Used pf hr t then k0_pay2 (iblk pf hr m c (0 : Fin 3) t) (copyW pf hr m c t) else k0_pay3

/-- Between the points: after a point in use the copy is of that point's weights. -/
def Phi (c : Dev nD) (n : ℕ) : sProp 𝕄 :=
  iprop((∃ a, ⌜∀ s : Fin (cfgA pf hr).N, n = s.val + 1 → Used pf hr s → accW.view.read (Elt F) a = copyW pf hr m c s⌝
        ∗ (accW.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 3) t
    | ⟨1, _⟩ => iblk pf hr m c (1 : Fin 3) t
    | ⟨2, _⟩ => outBlk pf hr m c t
  Φ t := Phi pf hr m c t.val
  q _ := fullShare
  owed _ := 0

theorem after_0 (c : Dev nD) (t : Fin (cfgA pf hr).N) : (dats pf hr m 0 c).after (0 : Fin 3) t = iblk pf hr m c (0 : Fin 3) t := rfl
theorem after_1 (c : Dev nD) (t : Fin (cfgA pf hr).N) : (dats pf hr m 0 c).after (1 : Fin 3) t = iblk pf hr m c (1 : Fin 3) t := rfl
theorem after_2 (c : Dev nD) (t : Fin (cfgA pf hr).N) : (dats pf hr m 0 c).after (2 : Fin 3) t = outBlk pf hr m c t := rfl

theorem before_0 (c : Dev nD) (t : Fin (cfgA pf hr).N) (d) : (dats pf hr m 0 c).before (0 : Fin 3) t d = iblk pf hr m c (0 : Fin 3) t :=
  ((dats pf hr m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 3) t d = iblk pf hr m c (1 : Fin 3) t :=
  ((dats pf hr m 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The coordinates of a point and of the one before it -/

theorem crd_col (t : Fin (cfgA pf hr).N) : (crd pf hr t 0).val = t.val / 6 % 6 :=
  Pipeline.Grid.coords_val (G := grid0) t 0 (by decide) (by decide)
theorem crd_row (t : Fin (cfgA pf hr).N) : (crd pf hr t 1).val = t.val % 6 := by
  have h := Pipeline.Grid.coords_val (G := grid0) t 1 (S := 1) (B := 6) (by decide) (by decide)
  rw [Nat.div_one] at h; exact h

/-! ## The blocks read, by their coordinates -/

theorem iblk_0 (c : Dev nD) (t : Fin (cfgA pf hr).N) (y : S1408x2048.Idx) (z : S8448x2048.Idx)
    (h0 : (z 0).val = min (crd pf hr t 1).val (usedOf pf - 1) * 1408 + (y 0).val) (h1 : (z 1).val = (y 1).val) :
    (iblk pf hr m c (0 : Fin 3) t : S1408x2048.Idx → Elt F .bf16) y = m ((c : Thread nD τ).loc main_arg0) z := by
  have e : ((cfgA pf hr).win (0 : Fin 3)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 3)) t y a
  refine hv.trans ?_
  rw [e]
  fin_cases a
  · exact h0.symm
  · exact (Nat.zero_add _).trans h1.symm

theorem iblk_1 (c : Dev nD) (t : Fin (cfgA pf hr).N) (y : S1x2048x1024.Idx) (z : S1x2048x6144.Idx)
    (h0 : (z 0).val = layerOf pf (here (crd pf hr t)) * 1 + (y 0).val) (h1 : (z 1).val = (y 1).val)
    (h2 : (z 2).val = (crd pf hr t 0).val * 1024 + (y 2).val) :
    (iblk pf hr m c (1 : Fin 3) t : S1x2048x1024.Idx → Elt F .f32) y = m ((c : Thread nD τ).loc main_arg1) z := by
  have e : ((cfgA pf hr).win (1 : Fin 3)).index t = ![layerOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 3)) t y a
  refine hv.trans ?_
  rw [e]
  fin_cases a
  · exact h0.symm
  · exact (Nat.zero_add _).trans h1.symm
  · exact h2.symm

/-- A place in the weights for an element of a point's block. -/
def place (t : Fin (cfgA pf hr).N) (y : S1x2048x1024.Idx) : S1x2048x6144.Idx :=
  ix3 (⟨layerOf pf (here (crd pf hr t)), hr.layer _⟩ : Fin 1) (y 1)
    (⟨(crd pf hr t 0).val * 1024 + (y 2).val, by
      have h := col_lt (crd pf hr t)
      have h2 : (y 2).val < 1024 := (y 2).isLt
      omega⟩ : Fin 6144)

theorem place_congr (s t : Fin (cfgA pf hr).N) (y : S1x2048x1024.Idx)
    (he : (tab0 pf (ix1 (here (crd pf hr s))) : BitVec 32) = tab0 pf (ix1 (here (crd pf hr t))))
    (hc : (crd pf hr s 0).val = (crd pf hr t 0).val) : place pf hr s y = place pf hr t y := by
  have hn : layerOf pf (here (crd pf hr s)) = layerOf pf (here (crd pf hr t)) := congrArg (fun w : BitVec 32 => w.toNat) he
  unfold place
  refine funext fun a => Fin.ext ?_
  fin_cases a
  · exact hn
  · rfl
  · show (crd pf hr s 0).val * 1024 + _ = (crd pf hr t 0).val * 1024 + _
    rw [hc]

theorem iblk_1_place (c : Dev nD) (t : Fin (cfgA pf hr).N) (y : S1x2048x1024.Idx) :
    (iblk pf hr m c (1 : Fin 3) t : S1x2048x1024.Idx → Elt F .f32) y = m ((c : Thread nD τ).loc main_arg1) (place pf hr t y) :=
  iblk_1 pf hr m c t y _ (by
    have h : (y 0).val < 1 := (y 0).isLt
    show layerOf pf _ = _
    omega) rfl rfl
/-- A point whose weights are the point before's: that point is in use too, and copies the same block. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyW pf hr m c s = copyW pf hr m c t := by
  obtain ⟨hz, he⟩ := not_or.mp fun h => hc ((changed_iff (crd pf hr t) (tab0 pf)).mpr h)
  rw [not_not] at he
  have hN : (cfgA pf hr).N = 36 := N_0
  have ht := t.isLt
  have hrow := crd_row pf hr t
  have hcol := crd_col pf hr t
  have hz' : t.val % 6 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 6 % 6 = _; omega
  have e1 : (crd pf hr ⟨t.val - 1, hs⟩ 1).val = (crd pf hr t 1).val - 1 := by
    rw [srow, hrow]; show (t.val - 1) % 6 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)

end Cert.Kernel6Ideal.ConvIn

end
-- ==== Proof.ConvIn.Step.lean ====
module

public import proofs.«01_k».proof.Proof.ConvIn.Region

@[expose] public section

set_option maxRecDepth 16384

noncomputable section

namespace Cert.Kernel6Ideal.ConvIn

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (2 : Fin 3) ((cfgA pf hr).grid.coords t) = false := idle_2 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 3) t)
        ∗ owns (c : Thread nD τ) (st1 pf hr t) fullShare (iblk pf hr m c (1 : Fin 3) t)
        ∗ (∃ d, owns (c : Thread nD τ) (st2 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 3) t)
        ∗ owns (c : Thread nD τ) (st1 pf hr t) fullShare (iblk pf hr m c (1 : Fin 3) t)
        ∗ owns (c : Thread nD τ) (st2 pf hr t) fullShare (outBlk pf hr m c t)) := by
  have hw : (wordN (tab1 pf) : BitVec 32).toNat ≤ 6 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HW⟩, HE, HN⟩, H4, H5, H7⟩
  by_cases hu : Used pf hr t
  · have hn : ¬ k0_cond3 (crd pf hr t) (wordN (tab1 pf)) = 1#1 := fun h => h3.mp h hu
    have ho : outBlk pf hr m c t = k0_pay2 (iblk pf hr m c (0 : Fin 3) t) (copyW pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, ⟨%f0, %e0, HW⟩⟩
      isplitl [HW HE HN]
      · isplitl [HW]
        · iexists f0; isplitr; swap
          · iexact HW
          · ipureintro; intro s hs _
            obtain rfl : s = t := Fin.ext (Nat.succ.inj hs.symm)
            exact e0
        isplitl [HE]; · iexact HE
        iexact HN
      isplitl [H4]; · iapply owns_of_rep; iexact H4
      isplitl [H5]; · iapply owns_of_rep; iexact H5
      iexact H7
    · obtain ⟨p, hp, hpu, eW⟩ := same_weights pf hr m c t hu hc
      have k0 := (ha0 p hp hpu).trans eW
      rw [← k0]
      iapply (run_same c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, HW⟩
      isplitl [HW HE HN]
      · isplitl [HW]
        · iexists a0; isplitr; swap
          · iexact HW
          · ipureintro; intro s hs _
            obtain rfl : s = t := Fin.ext (Nat.succ.inj hs.symm)
            exact k0
        isplitl [HE]; · iexact HE
        iexact HN
      isplitl [H4]; · iapply owns_of_rep; iexact H4
      isplitl [H5]; · iapply owns_of_rep; iexact H5
      iexact H7
  · have ho : outBlk pf hr m c t = k0_pay3 := if_neg hu
    rw [ho]
    iapply (run_unused c (crd pf hr t) (st0 pf hr t) (sw0 pf hr t) (st1 pf hr t) (sw1 pf hr t) (st2 pf hr t) (sw2 pf hr t)
      (tab0 pf) (tab1 pf) (iblk pf hr m c (0 : Fin 3) t) (iblk pf hr m c (1 : Fin 3) t) a0 (fun h => hu (h1.mp h)) (h3.mpr hu) _)
    isplitl [H4 H5 HE HN]
    · isplitl [H4]; · iapply rep_of_owns; iexact H4
      isplitl [H5]; · iapply rep_of_owns; iexact H5
      isplitl [HE]; · iexact HE
      iexact HN
    isplitl [H7]; · iexact H7
    isplitl [HW]; · iexact HW
    iintro ⟨⟨H4, H5, HE, HN⟩, H7, HW⟩
    isplitl [HW HE HN]
    · isplitl [HW]
      · iexists a0; isplitr; swap
        · iexact HW
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    iexact H7

end Cert.Kernel6Ideal.ConvIn

end
-- ==== Proof.ConvIn.Launch.lean ====
module

public import proofs.«01_k».proof.Proof.ConvIn.Step

@[expose] public section

set_option maxRecDepth 16384

noncomputable section

namespace Cert.Kernel6Ideal.ConvIn

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, after_0, after_1, after_2]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H7⟩
    isplitl [HP]; · iexact HP
    isplitl [Ho]; · iexact Ho
    isplitl [H4]; · iexact H4
    isplitl [H5]; · iexact H5
    iexact H7
  · iintro ⟨HP, Ho, ⟨%d0, H4⟩, ⟨%d1, H5⟩, ⟨%d2, H7⟩⟩
    isplitl [Ho]; · iexact Ho
    isplitl [HP]; · iexact HP
    isplitl [H4]; · iexact H4
    isplitl [H5]; · iexact H5
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v0) ↦{q 0} v 0) ∗ (((c : Thread nD τ).loc main_v1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HW⟩⟩
  isplitl [HW]
  · iexists a0; isplitr; swap
    · iexact HW
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HW⟩, -, -⟩
  isplitr; · iempintro
  iexists a0; iexact HW

/-! ## The operations before the region -/

/-- The contents the region finds: the two tables zero and the number of blocks, all else as launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem reach : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- A reference the operations do not write is as launched. -/
theorem V_of_ne (c : Dev nD) (b : Ref sig .tc) (h0 : b ≠ main_c) (h1 : b ≠ main_v0) (h2 : b ≠ main_c_0) (h3 : b ≠ main_v1) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

theorem array_found (c : Dev nD) (w : Fin (cfgA pf hr).W) : (dats pf hr m 0 c).A w = V m c (Pipeline.arrRef spec0 w) := by
  match w with
  | ⟨0, _⟩ => exact (V_of_ne m c main_arg0 (by decide) (by decide) (by decide) (by decide)).symm
  | ⟨1, _⟩ => exact (V_of_ne m c main_arg1 (by decide) (by decide) (by decide) (by decide)).symm
  | ⟨2, _⟩ => exact (V_of_ne m c main_v2 (by decide) (by decide) (by decide) (by decide)).symm

/-- The tables are those the region finds, on every core. -/
def Holds : Prop := ∀ (c : Dev nD) (j : Fin 2), V m c (pre0.ref j) = pf j

/-- Where every run ends: each array as computed. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := V m)
    (hmain := reach m)
    (hsplit := fun c => Pipeline.arrays_split (pcs pf hr) (dats pf hr m) 0 (launch0 (F := F)).win.arr_inj c (launch0 (F := F)).arr_whole
      (share_full pf hr m c) _ _ (array_found pf hr m c))
    (hpf := hp)
    (X := fun _ => iprop(emp)) (Y := fun _ => iprop(emp)) (Z := fun c => Pipeline.unscopedRestP pre0 spec0 c (V m c))
    (hX := fun c => by iintro H; isplitr; · iempintro
                       iexact H)
    (hin := phi_first pf hr m)
    (hout := phi_last pf hr m)
    (QY := fun _ _ => True)
    (hY := fun c s' => by
      iintro ⟨-, -, HSI⟩; imodintro
      isplitr; · ipureintro; trivial
      iexact HSI)
    (hQ := fun _ h hz => ⟨fun c => (h c).1, hz⟩)

include hr in
/-- The arguments end as they were and every counter at zero. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans ((dats pf hr m 0 c).arrAt_in (0 : Fin 3) rfl _),
    (h.1 c (1 : Fin 3)).trans ((dats pf hr m 0 c).arrAt_in (1 : Fin 3) rfl _)⟩, h.2⟩) (run_main pf hr m ρ hp)

end Cert.Kernel6Ideal.ConvIn

end
-- ==== Proof.ConvIn.Frames.lean ====
module

public import proofs.«01_k».proof.Proof.ConvIn.Launch
public import proofs.«01_k».proof.Proof.Gen.Kernel6
public import proofs.«01_k».proof.Defs

@[expose] public section

noncomputable section

namespace Cert.Kernel6Ideal.ConvIn

open Cert.Kernel6Ideal Cert.Kernel6Ideal.Gen
open Idealize.ShloMosaic
open Idealize.ShloMosaic.TcCoe
open Idealize.SL.Sem

variable {F : FTy → Type} [FloatOps F]

/-! ## The tables, which are constants -/

/-- The tables the first core's region finds. -/
def tables (m : (ℓ : Loc nD τ sig) → Buf (Elt F) ℓ) : pre0.Contents (Elt F) := fun j => V m (0 : Dev nD) (pre0.ref j)

theorem holds_tables (m : (ℓ : Loc nD τ sig) → Buf (Elt F) ℓ) : Holds (tables m) m := fun c j => by
  have e : c = (0 : Dev nD) := Subsingleton.elim _ _
  subst e; rfl

/-- The weights of every block are the first. -/
theorem table_zero (m : (ℓ : Loc nD τ sig) → Buf (Elt F) ℓ) : (tables m 0 : IVec S6 32) = fun _ => 0#32 := rfl

/-- The count of blocks in use: all of them. -/
theorem table_used (m : (ℓ : Loc nD τ sig) → Buf (Elt F) ℓ) : (tables m 1 : IVec S1 32) = fun _ => 6#32 := rfl

theorem used_at (m : (ℓ : Loc nD τ sig) → Buf (Elt F) ℓ) : (tables m 1 (ix1 (0 : Fin 1)) : BitVec 32).toNat = 6 :=
  congrArg BitVec.toNat (congrFun (table_used m) (ix1 (0 : Fin 1)))

/-- The tables are always in range. -/
theorem ranges_all (m : (ℓ : Loc nD τ sig) → Buf (Elt F) ℓ) : Ranges (tables m) :=
  ⟨fun b => (congrArg BitVec.toNat (congrFun (table_zero m) (ix1 b))).trans_lt (by decide), (used_at m).symm ▸ by decide, (used_at m).le⟩

/-- The idealized program's frame. -/
theorem frame_ideal : Cert.quiescent_Kernel6Ideal := fun m ρ _ => run_frame (tables m) (ranges_all m) m ρ (holds_tables m)

end Cert.Kernel6Ideal.ConvIn

end
-- ==== Proof.ConvIn.FrameBits.lean ====
module

public import proofs.«01_k».proof.Proof.ConvIn.Frames
public import proofs.«01_k».proof.Proof.Gen.Kernel6
public import proofs.«01_k».proof.Defs

@[expose] public section

noncomputable section

namespace Cert.Kernel6Ideal.ConvIn

open Cert.Kernel6Ideal Cert.Kernel6Ideal.Gen
open Idealize.ShloMosaic
open Idealize.ShloMosaic.TcCoe
open Idealize.SL.Sem

set_option maxHeartbeats 400000
/-- The two programs' bodies are one text. -/
theorem body_eq : @Cert.Kernel6.cc0_a_in Bits _ _ = @Cert.Kernel6Ideal.cc0_a_in Bits _ _ := by
  funext i a2 h2 a3 h3 a4 h4 a5 h5 a6 h6 a7 h7
  unfold Cert.Kernel6.cc0_a_in Cert.Kernel6Ideal.cc0_a_in
  rfl

/-- And so their body tables. -/
theorem table_eq : Cert.Kernel6.defs₀ (F := Bits) = Cert.Kernel6Ideal.defs₀ (F := Bits) := by
  unfold Cert.Kernel6.defs₀ Cert.Kernel6Ideal.defs₀
  refine congrArg Defs.onTc (funext fun l => funext fun x => ?_)
  match l, x with
  | 0, (t, s) =>
    have e := body_eq
    simp only [funext_iff] at e
    exact e _ _ _ _ _ _ _ _ _ _ _ _ _

theorem defs_eq : Cert.Kernel6.defs (F := Bits) = Cert.Kernel6Ideal.defs (F := Bits) := congrArg (Pipeline.defs Cert.Kernel6Ideal.pcfgs) table_eq

/-- The program's frame, from the same run. -/
theorem frame_kernel : Cert.quiescent_Kernel6 := fun m ρ _ => by
  have hr : Ranges (F := Bits) (tables (F := Bits) m) := ranges_all m
  rw [defs_eq]
  exact run_frame (F := Bits) (tables (F := Bits) m) hr m ρ (holds_tables (F := Bits) m)

end Cert.Kernel6Ideal.ConvIn

end
-- ==== Proof.ConvIn.Value.lean ====
/- What the short convolution's projection to its inputs computes, and that the pipeline leaves it. -/
module

public import proofs.«01_k».proof.Proof.ConvIn.Launch
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel6Ideal.ConvIn

open Cert.Kernel6Ideal Cert.Kernel6Ideal.Gen
open Idealize.ShloMosaic
open Idealize.ShloMosaic.TcCoe
open Idealize.SL.Sem

/-! ## The mathematics -/

/-- The block of 1408 rows a row lies in. -/
def blockOf (r : Fin 8448) : Fin 6 := ⟨r.val / 1408, by omega⟩

/-- A block's place among the weights, of which there is one. -/
def layerAt (be : IVec S6 32) (b : Fin 6) : Fin 1 := ⟨min (be (ix1 b)).toNat 0, by omega⟩

/-- A row against a column of its layer's weights. -/
def proj (x : FVec Ideal S8448x2048 .bf16) (w : FVec Ideal S1x2048x6144 .f32) (be : IVec S6 32) (r : Fin 8448) (n : Fin 6144) : EReal :=
  ∑ k : Fin 2048, x (ix2 r k) * w (ix3 (layerAt be (blockOf r)) k n)

/-- The product in the blocks in use, zero in the others. -/
def result (x : FVec Ideal S8448x2048 .bf16) (w : FVec Ideal S1x2048x6144 .f32) (be : IVec S6 32) (nu : IVec S1 32) : FVec Ideal S8448x6144 .f32 :=
  fun z => if (blockOf (z 0)).val < (nu (ix1 (0 : Fin 1))).toNat then proj x w be (z 0) (z 1) else (0 : EReal)

/-! ## The body's payloads, read at an index -/

theorem pay1_apply (v : Vec Ideal S1x2048x1024 .f32) (k : Fin 2048) (n : Fin 1024) : k0_pay1 v (ix2 k n) = v (ix3 0 k n) := by
  unfold k0_pay1
  pointwise

theorem pay2_apply (x : Vec Ideal S1408x2048 .bf16) (w : Vec Ideal S2048x1024 .bf16) (r : Fin 1408) (n : Fin 1024) :
    k0_pay2 x w (ix2 r n) = ∑ k : Fin 2048, x (ix2 r k) * w (ix2 k n) := by
  unfold k0_pay2
  pointwise

theorem pay3_apply (r : Fin 1408) (n : Fin 1024) : (k0_pay3 (F := Ideal)) (ix2 r n) = (0 : EReal) := by
  unfold k0_pay3
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S8448x2048 .bf16 := m ((c : Thread nD τ).loc main_arg0)
abbrev weightsOf (c : Dev nD) : FVec Ideal S1x2048x6144 .f32 := m ((c : Thread nD τ).loc main_arg1)

theorem out_eq (c : Dev nD) (t : Fin (cfgA pf hr).N) (r : Fin 1408) (n : Fin 1024) (z : S8448x6144.Idx)
    (h0 : (z 0).val = (crd pf hr t 1).val * 1408 + r.val) (h1 : (z 1).val = (crd pf hr t 0).val * 1024 + n.val) :
    outBlk pf hr m c t (ix2 r n) = result (rowsOf m c) (weightsOf m c) (tab0 pf) (tab1 pf) z := by
  have hb : (blockOf (z 0)).val = (crd pf hr t 1).val := by show (z 0).val / 1408 = _; omega
  have hh : blockOf (z 0) = here (crd pf hr t) := Fin.ext hb
  have he : (layerAt (tab0 pf) (blockOf (z 0))).val = layerOf pf (here (crd pf hr t)) := by
    rw [hh]
    exact Nat.min_eq_left (Nat.le_of_lt_succ (hr.layer _))
  unfold outBlk result
  by_cases hu : Used pf hr t
  · rw [if_pos hu, if_pos (by rw [hb]; exact hu), pay2_apply]
    have hx : ∀ k : Fin 2048, (iblk pf hr m c (0 : Fin 3) t : S1408x2048.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 2048, copyW pf hr m c t (ix2 k n) = weightsOf m c (ix3 (layerAt (tab0 pf) (blockOf (z 0))) k (z 1)) := fun k =>
      (pay1_apply _ k n).trans (iblk_1 pf hr m c t (ix3 0 k n) (ix3 _ k (z 1)) (by show (layerAt _ _).val = _ * 1 + 0; rw [he]; omega) rfl h1)
    unfold proj
    exact Finset.sum_congr rfl fun k _ => congrArg₂ (fun a b : EReal => a * b) (hx k) (hg k)
  · rw [if_neg hu, if_neg (by rw [hb]; exact hu), pay3_apply]

/-! ## The array -/

theorem covers_out : ((cfgA pf hr).win (2 : Fin 3)).Covers :=
  Pipeline.Window.covers_of_indexMap_surj _ rfl
    (fun a => by
      match a with
      | ⟨0, _⟩ => show 0 < 1408; norm_num
      | ⟨1, _⟩ => show 0 < 1024; norm_num)
    fun β => by
    have e0 : ((cfgA pf hr).win (2 : Fin 3)).nblk (0 : Fin 2) = 6 := by show (8448 + 1408 - 1) / 1408 = 6; norm_num
    have e1 : ((cfgA pf hr).win (2 : Fin 3)).nblk (1 : Fin 2) = 6 := by show (6144 + 1024 - 1) / 1024 = 6; norm_num
    have b0 : (β (0 : Fin 2)).val < 6 := e0 ▸ (β (0 : Fin 2)).isLt
    have b1 : (β (1 : Fin 2)).val < 6 := e1 ▸ (β (1 : Fin 2)).isLt
    let i : grid0.Coords := fun a => match a with | ⟨0, _⟩ => ⟨(β (1 : Fin 2)).val, b1⟩ | ⟨1, _⟩ => ⟨(β (0 : Fin 2)).val, b0⟩
    have e : ((cfgA pf hr).win (2 : Fin 3)).indexMap i = ![(i 1).val, (i 0).val] := transform_2_eq i
    refine ⟨i, fun a => (congrFun e a).trans ?_⟩
    match a with
    | ⟨0, _⟩ => rfl
    | ⟨1, _⟩ => rfl

theorem array_eq (c : Dev nD) :
    (dats pf hr m 0 c).arrAt (2 : Fin 3) (cfgA pf hr).N = result (rowsOf m c) (weightsOf m c) (tab0 pf) (tab1 pf) := by
  refine (dats pf hr m 0 c).arrAt_eq_of_covers (2 : Fin 3) _ (covers_out pf hr) fun t hf y => ?_
  have e : ((cfgA pf hr).win (2 : Fin 3)).index t = ![(crd pf hr t 1).val, (crd pf hr t 0).val] := transform_2_eq (crd pf hr t)
  have hv := Pipeline.Window.rect_emb_val ((cfgA pf hr).win (2 : Fin 3)) t y
  rw [e] at hv
  have hy : (y : S1408x1024.Idx) = ix2 (y 0) (y 1) := eq_ix2 _
  rw [after_2]
  refine Eq.trans ?_ (out_eq pf hr m c t (y 0) (y 1) _ (hv 0) (hv 1))
  exact congrArg (outBlk pf hr m c t) hy

end Cert.Kernel6Ideal.ConvIn

end
-- ==== Proof.ConvIn.RefValue.lean ====
/- The reference of the short convolution's projection, read at an index. -/
module

public import proofs.«01_k».proof.Proof.ConvIn.Value
public import proofs.«01_k».proof.Proof.Gen.Reference6Ideal.Read

@[expose] public section

set_option maxRecDepth 16384

noncomputable section

namespace Cert.Reference6Ideal.Blocks

open Cert.Reference6Ideal Cert.Reference6Ideal.Gen Cert.Reference6Ideal.Read
open Idealize.ShloMosaic
open Cert.Kernel6Ideal.ConvIn (blockOf proj result)

/-- The product, read at a row and a column. -/
theorem product_at (x : FVec Ideal S8448x2048 .bf16) (w : FVec Ideal S1x2048x6144 .f32) (be : IVec Cert.Kernel6Ideal.S6 32) (z : S8448x6144.Idx) :
    val_main_v2 (F := Ideal) x w z = proj x w be (z 0) (z 1) := by
  rw [val_main_v2_apply]
  unfold proj
  refine Finset.sum_congr rfl fun k _ => congrArg₂ (fun a b : EReal => a * b) ?_ ?_
  · rw [val_main_v0_apply]
    refine congrArg x (funext fun a => ?_)
    match a with
    | ⟨0, _⟩ => rfl
    | ⟨1, _⟩ => rfl
  · have hk : k.val < 2048 := k.isLt
    have hn : (z 1).val < 6144 := (z 1).isLt
    rw [val_main_v1_apply]
    refine congrArg w (funext fun a => Fin.ext ?_)
    match a with
    | ⟨0, _⟩ => show 0 = min (be (ix1 (blockOf (z 0)))).toNat 0; omega
    | ⟨1, _⟩ => show (k.val * 6144 + (z 1).val) / 6144 % 2048 = k.val; omega
    | ⟨2, _⟩ => show (k.val * 6144 + (z 1).val) % 6144 = (z 1).val; omega

/-- The reference's result is the product, every block in use. -/
theorem result_eq (x : FVec Ideal S8448x2048 .bf16) (w : FVec Ideal S1x2048x6144 .f32) (be : IVec Cert.Kernel6Ideal.S6 32)
    (nu : IVec Cert.Kernel6Ideal.S1 32) (hn : 6 ≤ (nu (ix1 (0 : Fin 1))).toNat) : val_main_v2 (F := Ideal) x w = result x w be nu := by
  funext z
  rw [product_at x w be z]
  unfold result
  rw [if_pos (Nat.lt_of_lt_of_le (blockOf (z 0)).isLt hn)]

end Cert.Reference6Ideal.Blocks

end
-- ==== Proof.ConvIn.Equal.lean ====
module

public import proofs.«01_k».proof.Proof.ConvIn.Frames
public import proofs.«01_k».proof.Proof.ConvIn.RefValue
public import proofs.«01_k».proof.Proof.Gen.Reference6Ideal.Run
public import Idealize.ShloMosaic.Lib.Quiescent
public import proofs.«01_k».proof.Defs

@[expose] public section

noncomputable section

namespace Cert.Kernel6Ideal.ConvIn

open Cert.Kernel6Ideal Cert.Kernel6Ideal.Gen
open Idealize.ShloMosaic
open Idealize.ShloMosaic.TcCoe
open Idealize.SL.Sem

/-- The product of a memory's arguments. -/
def value (m : (ℓ : Loc nD τ sig) → Buf (Elt Ideal) ℓ) (c : Dev nD) : FVec Ideal S8448x6144 .f32 :=
  result (m ((c.tc : Thread nD τ).loc main_arg0)) (m ((c.tc : Thread nD τ).loc main_arg1)) (tables m 0) (tables m 1)

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (array_eq (tables m) hr m c),
    (h.1 c (0 : Fin 3)).trans ((dats (tables m) hr m 0 c).arrAt_in (0 : Fin 3) rfl _),
    (h.1 c (1 : Fin 3)).trans ((dats (tables m) hr m 0 c).arrAt_in (1 : Fin 3) rfl _)⟩)
    (run_main (tables m) hr m ρ (holds_tables m))

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The kernel and its reference end with equal results. -/
theorem equal_results : Cert.algebraic_Kernel6Ideal_Reference6Ideal := fun m ρ m' ρ' _ hm => by
  have hr := ranges_all m
  refine ⟨value m, run_value m ρ hr, (θ_run Cert.Reference6Ideal.defs _ _).mono (fun _ h c => ⟨(h c).1.trans ?_, (h c).2⟩)
    (Cert.Reference6Ideal.Value.run m' ρ')⟩
  refine (Cert.Reference6Ideal.Read.val_main_v2_eq _ _).trans ?_
  have e : c = (0 : Dev nD) := Subsingleton.elim _ _
  subst e
  have h0 := hm 0
  rw [h0.1, h0.2]
  exact Cert.Reference6Ideal.Blocks.result_eq _ _ _ _ (used_at m).ge

end Cert.Kernel6Ideal.ConvIn

end
-- ==== Proof.SwaIn.Run.lean ====
module

public import proofs.«01_k».proof.Proof.Gen.Kernel7Ideal.Skeleton
public import proofs.«01_k».proof.Proof.Gen.Kernel7Ideal.Launch
public import Idealize.ShloMosaic.Lib.Exec
public import Idealize.ShloMosaic.Lib.Affine
public import Idealize.ShloMosaic.Lib.Tactic
public import Idealize.ShloMosaic.Lib.Pipeline.ValueKit
public import Idealize.ShloMosaic.Lib.VecWindow
public import Idealize.ShloMosaic.Lib.Pipeline.TableIdle
public import Idealize.ShloMosaic.Adequacy
public import Idealize.ShloMosaic.Init

@[expose] public section

set_option maxRecDepth 16384

noncomputable section

namespace Cert.Kernel7Ideal.SwaIn

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' layers, whole. -/
abbrev tabE : Memref sig .tc .smem S6 .i32 := Memref.whole main_v0
/-- The number of blocks in use, whole. -/
abbrev tabN : Memref sig .tc .smem S1 .i32 := Memref.whole main_v1
/-- The copy of the weights' block. -/
abbrev accW : Memref sig .tc .vmem S2048x1024 .bf16 := Memref.whole cc0_scratch0
/-- The number of blocks in use as the body reads it. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The layer of the block before, as the body reads it. -/
abbrev wordP (i : grid0.Coords) (T0 : S6.Idx → Elt F .i32) : Elt F .i32 :=
  View.readAt (Elt F) tabE.view (Rect.unit (s := S6) (k0_off2 i) S1.size (k0_off2_inb i)).toLoadRect T0 (Shape.Idx.first (numel1_S1.symm ▸ Nat.one_pos))
/-- The layer of the block, as the body reads it. -/
abbrev wordE (i : grid0.Coords) (T0 : S6.Idx → Elt F .i32) : Elt F .i32 :=
  View.readAt (Elt F) tabE.view (Rect.unit (s := S6) (k0_off3 i) S1.size (k0_off3_inb i)).toLoadRect T0 (Shape.Idx.first (numel1_S1.symm ▸ Nat.one_pos))
/-- Whether the weights have changed, as the body decides it. -/
abbrev changed (i : grid0.Coords) (T0 : S6.Idx → Elt F .i32) : BitVec 1 :=
  Scalar.cmpi .ne (Scalar.extui (Scalar.ori (Scalar.cmpi .eq (BitVec.ofNat 32 (i 1).val) 0#32) (Scalar.cmpi .ne (wordE i T0) (wordP i T0)))) 0#32

variable (c : Dev nD) (i : grid0.Coords)
  (a4 : Memref sig .tc .vmem S1408x2048 .bf16) (h4 : a4.IsWhole) (a5 : Memref sig .tc .vmem S1x2048x1024 .f32) (h5 : a5.IsWhole)
  (a7 : Memref sig .tc .vmem S1408x1024 .f32) (h7 : a7.IsWhole)
  (T0 : S6.Idx → Elt F .i32) (T1 : S1.Idx → Elt F .i32)
  (x : S1408x2048.Idx → Elt F .bf16) (w : S1x2048x1024.Idx → Elt F .f32)

/-- The body at one point of the grid. -/
abbrev body : Prog (TpuEff nD τ sig (Elt F) Λ₀ .tc) PUnit :=
  cc0_c_qkv i tabE (Memref.isWhole_whole _) tabN (Memref.isWhole_whole _) a4 h4 a5 h5 a7 h7 accW (Memref.isWhole_whole _)

/-- What the body holds besides its output and its copy. -/
abbrev held : sProp 𝕄 :=
  iprop((a4.view.loc (c : Thread nD τ) ↦[a4.view.set]{fullShare} a4.view.rep x)
    ∗ (a5.view.loc (c : Thread nD τ) ↦[a5.view.set]{fullShare} a5.view.rep w)
    ∗ (tabE.view.loc (c : Thread nD τ) ↦{fullShare.right} T0)
    ∗ (tabN.view.loc (c : Thread nD τ) ↦{fullShare.right} T1))

set_option maxHeartbeats 4000000 in
/-- A block in use whose weights are new: the copy is made, then the product is stored. -/
theorem run_new (b0 : accW.view.ty.Contents (Elt F)) (hu : k0_cond1 i (wordN T1) = 1#1) (hc : changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (k0_pay1 w))
            ∗ (∃ f, ⌜accW.view.read (Elt F) f = k0_pay1 w⌝ ∗ (accW.view.loc (c : Thread nD τ) ↦{fullShare} f))) -∗ K ⟨⟩))
      ⊢ wp frame (wpE (defs₀ (F := F)) Variants.none c none) Set.univ (body i a4 h4 a5 h5 a7 h7) K := by
  unfold owns body
  rw [cc0_c_qkv_eq_skeleton]; unfold cc0_c_qkv_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = Scalar.cmpi .ne _ _ = _; exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      have e5 := View.readAt_rep_full a5.view w inb_S1x2048x1024_S1x2048x1024_0_0_0
      have eW : run_new.sl.v19 a5 w = k0_pay1 w :=
        (View.readCov_full accW.view _ _ _ _).trans (congrArg k0_pay1 e5)
      rw [View.readAt_rep_full, eW]
  iexists _; isplitr; swap
  · iexact HW
  · ipureintro
    exact (View.read_writes_full _ _ _ _ _).trans (congrArg k0_pay1 (View.readAt_rep_full _ _ _))

set_option maxHeartbeats 4000000 in
/-- A block in use whose weights are those of the block before: the product is stored. -/
theorem run_same (b0 : accW.view.ty.Contents (Elt F)) (hu : k0_cond1 i (wordN T1) = 1#1) (hc : ¬ changed i T0 = 1#1)
    (hn : ¬ k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay2 x (accW.view.read (Elt F) b0))
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_c_qkv_eq_skeleton]; unfold cc0_c_qkv_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = k0_cond1 _ _ = _; exact hu) | (guard_target = ¬(Scalar.cmpi .ne _ _ = _); exact hc) | (guard_target = ¬(k0_cond3 _ _ = _); exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      refine (View.read_writes_full _ _ _ _ _).trans ?_
      rw [View.readAt_rep_full, View.readAt_full]
  iexact HW

set_option maxHeartbeats 4000000 in
/-- A block not in use: zeros are stored. -/
theorem run_unused (b0 : accW.view.ty.Contents (Elt F)) (hu : ¬ k0_cond1 i (wordN T1) = 1#1)
    (hn : k0_cond3 i (wordN T1) = 1#1)
    (K : PUnit → sProp 𝕄) :
    iprop(held c a4 a5 T0 T1 x w ∗ (∃ d, owns (c : Thread nD τ) a7 fullShare d)
        ∗ (accW.view.loc (c : Thread nD τ) ↦{fullShare} b0)
        ∗ (iprop(held c a4 a5 T0 T1 x w ∗ owns (c : Thread nD τ) a7 fullShare (k0_pay3)
            ∗ (accW.view.loc (c : Thread nD τ) ↦{fullShare} b0)) -∗ K ⟨⟩))
      ⊢ wp frame (wpE (defs₀ (F := F)) Variants.none c none) Set.univ (body i a4 h4 a5 h5 a7 h7) K := by
  unfold owns body
  rw [cc0_c_qkv_eq_skeleton]; unfold cc0_c_qkv_skel
  iintro ⟨⟨H4, H5, HE, HN⟩, ⟨%d7, %f7, -, H7⟩, HW, Hk⟩
  have hW : accW.IsWhole := Memref.isWhole_whole _
  have hE : tabE.IsWhole := Memref.isWhole_whole _
  have hN : tabN.IsWhole := Memref.isWhole_whole _
  sl_exec! (disch := first  | (guard_target = ¬(k0_cond1 _ _ = _); exact hu) | (guard_target = k0_cond3 _ _ = _; exact hn))
  sl_step
  iapply Hk
  isplitl [H4 H5 HE HN]
  · isplitl [H4]; · iexact H4
    isplitl [H5]; · iexact H5
    isplitl [HE]; · iexact HE
    iexact HN
  isplitl [H7]
  · iexists _; isplitr; swap
    · iexact H7
    · ipureintro
      exact View.read_writes_full _ _ _ _ _
  iexact HW

end Cert.Kernel7Ideal.SwaIn

end
-- ==== Proof.SwaIn.Words.lean ====
module

public import proofs.«01_k».proof.Proof.SwaIn.Run
public import proofs.«01_k».proof.Proof.FfnUp.Words
public import Idealize.ShloMosaic.Lib.WordCmp
public import Idealize.ShloMosaic.Lib.Pointwise.Index

@[expose] public section

set_option maxRecDepth 16384

noncomputable section

namespace Cert.Kernel7Ideal.SwaIn

open Cert.Kernel7Ideal Cert.Kernel7Ideal.Gen
open Cert.Kernel4Ideal.FfnUp (bit_ne_zero slt_iff toNat_coord toNat_word)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Words and what is decided of them -/

theorem coord_lt (i : grid0.Coords) : (i 1).val < 6 := (i 1).isLt
theorem col_lt (i : grid0.Coords) : (i 0).val < 2 := (i 0).isLt

/-- The body's first branch is taken just at the blocks in use. -/
theorem cond1_iff (i : grid0.Coords) (w : BitVec 32) (hw : w.toNat ≤ 6) : k0_cond1 i w = 1#1 ↔ (i 1).val < w.toNat := by
  have hi := coord_lt i
  show Scalar.cmpi .ne (Scalar.extui (Scalar.cmpi .slt (BitVec.ofNat 32 (i 1).val) w)) 0#32 = 1#1 ↔ _
  rw [bit_ne_zero, slt_iff (by rw [toNat_coord (hi.trans (by decide))]; omega) (by omega), toNat_coord (hi.trans (by decide))]

/-- The body's last branch is taken just at the others. -/
theorem cond3_iff (i : grid0.Coords) (w : BitVec 32) (hw : w.toNat ≤ 6) : k0_cond3 i w = 1#1 ↔ ¬ (i 1).val < w.toNat := by
  have hi := coord_lt i
  have key : ∀ a : BitVec 1, Scalar.cmpi .ne (Scalar.extui (Scalar.xori a 1#1)) 0#32 = 1#1 ↔ ¬ a = 1#1 := by decide
  show Scalar.cmpi .ne (Scalar.extui (Scalar.xori (Scalar.cmpi .slt (BitVec.ofNat 32 (i 1).val) w) 1#1)) 0#32 = 1#1 ↔ _
  rw [key, slt_iff (by rw [toNat_coord (hi.trans (by decide))]; omega) (by omega), toNat_coord (hi.trans (by decide))]

theorem wordN_eq (T1 : S1.Idx → Elt F .i32) : wordN T1 = T1 (ix1 (0 : Fin 1)) := by
  show T1 _ = T1 _
  exact congrArg T1 (funext fun a => Fin.ext (by fin_cases a; rfl))

/-- The block's own place in the table. -/
abbrev here (i : grid0.Coords) : Fin 6 := i 1
/-- The place of the block before, the first block's its own. -/
def before (i : grid0.Coords) : Fin 6 := ⟨(i 1).val - 1, by have := coord_lt i; omega⟩

theorem off3_eq (i : grid0.Coords) : k0_off3 i 0 = (i 1).val := by
  show (BitVec.ofNat 32 (i 1).val).toNat = _
  exact toNat_coord ((coord_lt i).trans (by decide))

theorem off2_eq (i : grid0.Coords) : k0_off2 i 0 = (i 1).val - 1 := by
  have key : ∀ n : Fin 6, (Scalar.maxsi (Scalar.subi (BitVec.ofNat 32 n.val) 1#32) 0#32).toNat = n.val - 1 := by decide
  exact key (i 1)

theorem wordE_eq (i : grid0.Coords) (T0 : S6.Idx → Elt F .i32) : wordE i T0 = T0 (ix1 (here i)) := by
  show T0 _ = T0 _
  refine congrArg T0 (funext fun a => Fin.ext ?_)
  fin_cases a
  show k0_off3 i 0 + 1 * 0 = (i 1).val
  rw [off3_eq]; rfl

theorem wordP_eq (i : grid0.Coords) (T0 : S6.Idx → Elt F .i32) : wordP i T0 = T0 (ix1 (before i)) := by
  show T0 _ = T0 _
  refine congrArg T0 (funext fun a => Fin.ext ?_)
  fin_cases a
  show k0_off2 i 0 + 1 * 0 = (i 1).val - 1
  rw [off2_eq]; rfl

/-- The weights have changed at the first block and where the layer is another than the block before's. -/
theorem changed_iff (i : grid0.Coords) (T0 : S6.Idx → Elt F .i32) :
    changed i T0 = 1#1 ↔ (i 1).val = 0 ∨ (T0 (ix1 (here i)) : BitVec 32) ≠ T0 (ix1 (before i)) := by
  have hi := coord_lt i
  unfold changed
  rw [bit_ne_zero, wordE_eq, wordP_eq]
  generalize (T0 (ix1 (here i)) : BitVec 32) = p
  generalize (T0 (ix1 (before i)) : BitVec 32) = q
  have key : ∀ a b : BitVec 1, Scalar.ori a b = 1#1 ↔ a = 1#1 ∨ b = 1#1 := by decide
  have hz : (Scalar.cmpi .eq (BitVec.ofNat 32 (i 1).val) 0#32 = 1#1) ↔ (i 1).val = 0 := by
    have : ∀ n : Fin 6, (Scalar.cmpi .eq (BitVec.ofNat 32 n.val) 0#32 = 1#1) ↔ n.val = 0 := by decide
    exact this (i 1)
  have hne : (Scalar.cmpi .ne p q = 1#1) ↔ p ≠ q := by
    show IntOp.cmpi .ne p q = 1#1 ↔ _
    rw [WordCmp.cmpi_ne_eq]
    by_cases h : p = q <;> simp [h]
  exact (key _ _).trans (or_congr hz hne)

/-! ## The tables' ranges -/

/-- The tables in the ranges their arguments are drawn from. -/
structure Ranges (pf : pre0.Contents (Elt F)) : Prop where
  layer : ∀ b : Fin 6, (pf 0 (ix1 b) : BitVec 32).toNat < 1
  pos : 1 ≤ (pf 1 (ix1 (0 : Fin 1)) : BitVec 32).toNat
  le : (pf 1 (ix1 (0 : Fin 1)) : BitVec 32).toNat ≤ 6

/-- The layer of a block. -/
abbrev layerOf (pf : pre0.Contents (Elt F)) (b : Fin 6) : ℕ := (pf 0 (ix1 b) : BitVec 32).toNat
/-- The number of blocks in use. -/
abbrev usedOf (pf : pre0.Contents (Elt F)) : ℕ := (pf 1 (ix1 (0 : Fin 1)) : BitVec 32).toNat

theorem transform_0_eq (pf : pre0.Contents (Elt F)) (hr : Ranges pf) (i : grid0.Coords) :
    cc0_transform_0 inb_S1_S1_0 numel1_S1 pf i = ![min (i 1).val (usedOf pf - 1), 0] := by
  have hi := coord_lt i
  have h1 := hr.pos
  have h2 := hr.le
  have e : (pf.at 1 (Rect.unit (s := S1) ![0] S1.size inb_S1_S1_0) numel1_S1 : BitVec 32) = pf 1 (ix1 (0 : Fin 1)) :=
    congrArg (pf 1) (funext fun a => Fin.ext (by fin_cases a; rfl))
  show ![(Scalar.minsi (BitVec.ofNat 32 (i 1).val) (Scalar.subi (pf.at 1 (Rect.unit (s := S1) ![0] S1.size inb_S1_S1_0) numel1_S1) 1#32)).toNat, 0] = _
  rw [e]
  unfold usedOf
  generalize (pf 1 (ix1 (0 : Fin 1)) : BitVec 32) = w at h1 h2 ⊢
  obtain ⟨n, hn, rfl⟩ : ∃ n : Fin 7, 1 ≤ n.val ∧ w = BitVec.ofNat 32 n.val :=
    ⟨⟨BitVec.toNat w, by omega⟩, h1, BitVec.eq_of_toNat_eq (by rw [toNat_word (BitVec.toNat w) (by omega)])⟩
  have key : ∀ (a : Fin 6) (n : Fin 7), 1 ≤ n.val →
      (Scalar.minsi (BitVec.ofNat 32 a.val) (Scalar.subi (BitVec.ofNat 32 n.val) 1#32)).toNat = min a.val ((BitVec.ofNat 32 n.val).toNat - 1) := by
    decide +kernel
  rw [key (i 1) n hn]

theorem table_at (pf : pre0.Contents (Elt F)) (i : grid0.Coords) (h) :
    (pf.at 0 (Rect.unit (s := S6) ![(Scalar.indexCast (BitVec.ofNat 32 (i 1).val)).toNat] S1.size h) numel1_S1 : BitVec 32) = pf 0 (ix1 (here i)) := by
  refine congrArg (pf 0) (funext fun a => Fin.ext ?_)
  fin_cases a
  show (BitVec.ofNat 32 (i 1).val).toNat + 1 * 0 = (i 1).val
  rw [toNat_coord ((coord_lt i).trans (by decide))]; rfl

theorem transform_1_eq (pf : pre0.Contents (Elt F)) (i : grid0.Coords) :
    cc0_transform_1 k0_off1_inb numel1_S1 pf i = ![layerOf pf (here i), 0, (i 0).val] := by
  have e : (BitVec.ofNat 32 (i 0).val).toNat = (i 0).val := toNat_coord (by have := col_lt i; omega)
  exact (congrArg (fun w : BitVec 32 => ![w.toNat, 0, (BitVec.ofNat 32 (i 0).val).toNat]) (table_at pf i (k0_off1_inb i))).trans (by rw [e])

theorem transform_2_eq (i : grid0.Coords) : cc0_transform_2 i = ![(i 1).val, (i 0).val] := by
  have e : (BitVec.ofNat 32 (i 0).val).toNat = (i 0).val := toNat_coord (by have := col_lt i; omega)
  show ![(BitVec.ofNat 32 (i 1).val).toNat, (BitVec.ofNat 32 (i 0).val).toNat] = _
  rw [e, toNat_coord ((coord_lt i).trans (by decide))]

/-- In range, every block the pipeline moves lies in its array. -/
theorem ok_of_ranges (pf : pre0.Contents (Elt F)) (hr : Ranges pf) : ok0 pf := by
  refine ⟨fun i => ⟨?_, .inr (Affine.block_words_dvd (s := S8448x2048) (p := EltTy.packing .bf16) (by decide) (by decide))⟩,
    fun i => ⟨?_, .inl rfl⟩⟩
  · rw [transform_0_eq pf hr]
    have hi := coord_lt i
    intro a; fin_cases a
    · show (min (i 1).val (usedOf pf - 1) + 1) * 1408 ≤ 8448
      omega
    · show (0 + 1) * 2048 ≤ 2048
      omega
  · rw [transform_1_eq]
    have he := hr.layer (here i)
    have hc := col_lt i
    intro a; fin_cases a
    · show (layerOf pf (here i) + 1) * 1 ≤ 1
      unfold layerOf; omega
    · show (0 + 1) * 2048 ≤ 2048
      omega
    · show ((i 0).val + 1) * 1024 ≤ 2048
      omega

/-- In range, the output's block is stored at every point. -/
theorem idle_2 (pf : pre0.Contents (Elt F)) (hr : Ranges pf) (i : grid0.Coords) : idle0 pf 2 i = false := by
  have e : (pf.atD 1 ![0] : BitVec 32) = pf 1 (ix1 (0 : Fin 1)) := by
    show (if h : _ then _ else _) = _
    rw [dif_pos (fun a => by fin_cases a; decide)]
    exact congrArg (pf 1) (funext fun a => Fin.ext (by fin_cases a; rfl))
  show (!(k0_cond1 i (pf.atD 1 ![0]) == 1#1) && !(k0_cond3 i (pf.atD 1 ![0]) == 1#1)) = false
  rw [e]
  have h1 := cond1_iff i (pf 1 (ix1 (0 : Fin 1))) hr.le
  have h3 := cond3_iff i (pf 1 (ix1 (0 : Fin 1))) hr.le
  by_cases h : (i 1).val < (pf 1 (ix1 (0 : Fin 1)) : BitVec 32).toNat
  · rw [h1.mpr h]; rfl
  · rw [h3.mpr h, Bool.and_comm]; rfl

end Cert.Kernel7Ideal.SwaIn

end
-- ==== Proof.SwaIn.Region.lean ====
module

public import proofs.«01_k».proof.Proof.SwaIn.Words
public import Idealize.ShloMosaic.Lib.Pipeline.Quiescent
public import Idealize.ShloMosaic.Lib.Pipeline.Kit
public import Idealize.ShloMosaic.Lib.Pipeline.Covers
public import Idealize.ShloMosaic.Lib.Pipeline.FrameBody
public import Idealize.ShloMosaic.Lib.Claim
public import Idealize.ShloMosaic.Lib.Ring

@[expose] public section

set_option maxRecDepth 16384

noncomputable section

namespace Cert.Kernel7Ideal.SwaIn

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

/-- Tables in range, as contents the pipeline runs at. -/
def adm : (pcfg0 (F := F)).Adm := ⟨pf, ok_of_ranges pf hr⟩
/-- The pipeline at the tables. -/
abbrev cfgA : Pipeline.Cfg sig Λ₀ := cfg0 (F := F) (adm pf hr)
/-- The same as the program's one. -/
abbrev pcs : Fin 1 → Pipeline.Cfg sig Λ₀ := Pipeline.pin (pcfgs (F := F)) fun _ => adm pf hr

/-- The table of layers, at its own type. -/
abbrev tab0 : S6.Idx → Elt F .i32 := pf 0
/-- The count of blocks in use, at its own type. -/
abbrev tab1 : S1.Idx → Elt F .i32 := pf 1

variable (m : (ℓ : Loc nD τ sig) → Buf (Elt F) ℓ) (ρ : Dev nD → PrngReg)

/-- A point's coordinates. -/
abbrev crd (t : Fin (cfgA pf hr).N) : (cfgA pf hr).grid.Coords := (cfgA pf hr).grid.coords t

abbrev st0 (t : Fin (cfgA pf hr).N) : Memref sig .tc .vmem S1408x2048 .bf16 := spec0_0.stage ((cfgA pf hr).slots t (0 : Fin 3))
abbrev sw0 (t : Fin (cfgA pf hr).N) : (st0 pf hr t).IsWhole := hstage0_0 (((cfgA pf hr).slots t (0 : Fin 3)).cast nbuf0_0)
abbrev st1 (t : Fin (cfgA pf hr).N) : Memref sig .tc .vmem S1x2048x1024 .f32 := spec0_1.stage ((cfgA pf hr).slots t (1 : Fin 3))
abbrev sw1 (t : Fin (cfgA pf hr).N) : (st1 pf hr t).IsWhole := hstage0_1 (((cfgA pf hr).slots t (1 : Fin 3)).cast nbuf0_1)
abbrev st2 (t : Fin (cfgA pf hr).N) : Memref sig .tc .vmem S1408x1024 .f32 := spec0_2.stage ((cfgA pf hr).slots t (2 : Fin 3))
abbrev sw2 (t : Fin (cfgA pf hr).N) : (st2 pf hr t).IsWhole := hstage0_2 (((cfgA pf hr).slots t (2 : Fin 3)).cast nbuf0_2)

/-- An input's block at a point, read off its array at launch. -/
def iblk (c : Dev nD) (w : Fin (cfgA pf hr).W) (t : Fin (cfgA pf hr).N) :
    (((cfgA pf hr).win w).xblock (crd pf hr t)).Idx → Elt F ((cfgA pf hr).win w).elt :=
  (((cfgA pf hr).win w).blk t).view.read (Elt F) (m (((cfgA pf hr).win w).arr.view.loc (c : Thread nD τ)))

/-- The point's block is in use. -/
abbrev Used (t : Fin (cfgA pf hr).N) : Prop := (crd pf hr t 1).val < usedOf pf

/-- The block of weights a point copies. -/
abbrev copyW (c : Dev nD) (t : Fin (cfgA pf hr).N) : FVec F S2048x1024 .bf16 := k0_pay1 (iblk pf hr m c (1 : Fin 3) t)
/-- What a point stores. -/
def outBlk (c : Dev nD) (t : Fin (cfgA pf hr).N) : FVec F S1408x1024 .f32 :=
  if Used pf hr t then k0_pay2 (iblk pf hr m c (0 : Fin 3) t) (copyW pf hr m c t) else k0_pay3

/-- Between the points: after a point in use the copy is of that point's weights. -/
def Phi (c : Dev nD) (n : ℕ) : sProp 𝕄 :=
  iprop((∃ a, ⌜∀ s : Fin (cfgA pf hr).N, n = s.val + 1 → Used pf hr s → accW.view.read (Elt F) a = copyW pf hr m c s⌝
        ∗ (accW.view.loc (c : Thread nD τ) ↦{fullShare} a))
    ∗ (tabE.view.loc (c : Thread nD τ) ↦{fullShare.right} tab0 pf) ∗ (tabN.view.loc (c : Thread nD τ) ↦{fullShare.right} tab1 pf))

/-- The proof data of the pipeline. -/
def dats (_ : Fin 1) (c : Dev nD) : Dat τ (Elt F) Unit ℕ (UR sig nD τ) ℕ (cfgA pf hr) c where
  A w := m (((cfgA pf hr).win w).arr.view.loc (c : Thread nD τ))
  after w t := match w with
    | ⟨0, _⟩ => iblk pf hr m c (0 : Fin 3) t
    | ⟨1, _⟩ => iblk pf hr m c (1 : Fin 3) t
    | ⟨2, _⟩ => outBlk pf hr m c t
  Φ t := Phi pf hr m c t.val
  q _ := fullShare
  owed _ := 0

theorem after_0 (c : Dev nD) (t : Fin (cfgA pf hr).N) : (dats pf hr m 0 c).after (0 : Fin 3) t = iblk pf hr m c (0 : Fin 3) t := rfl
theorem after_1 (c : Dev nD) (t : Fin (cfgA pf hr).N) : (dats pf hr m 0 c).after (1 : Fin 3) t = iblk pf hr m c (1 : Fin 3) t := rfl
theorem after_2 (c : Dev nD) (t : Fin (cfgA pf hr).N) : (dats pf hr m 0 c).after (2 : Fin 3) t = outBlk pf hr m c t := rfl

theorem before_0 (c : Dev nD) (t : Fin (cfgA pf hr).N) (d) : (dats pf hr m 0 c).before (0 : Fin 3) t d = iblk pf hr m c (0 : Fin 3) t :=
  ((dats pf hr m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf hr).N) (d) : (dats pf hr m 0 c).before (1 : Fin 3) t d = iblk pf hr m c (1 : Fin 3) t :=
  ((dats pf hr m 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The coordinates of a point and of the one before it -/

theorem crd_col (t : Fin (cfgA pf hr).N) : (crd pf hr t 0).val = t.val / 6 % 2 :=
  Pipeline.Grid.coords_val (G := grid0) t 0 (by decide) (by decide)
theorem crd_row (t : Fin (cfgA pf hr).N) : (crd pf hr t 1).val = t.val % 6 := by
  have h := Pipeline.Grid.coords_val (G := grid0) t 1 (S := 1) (B := 6) (by decide) (by decide)
  rw [Nat.div_one] at h; exact h

/-! ## The blocks read, by their coordinates -/

theorem iblk_0 (c : Dev nD) (t : Fin (cfgA pf hr).N) (y : S1408x2048.Idx) (z : S8448x2048.Idx)
    (h0 : (z 0).val = min (crd pf hr t 1).val (usedOf pf - 1) * 1408 + (y 0).val) (h1 : (z 1).val = (y 1).val) :
    (iblk pf hr m c (0 : Fin 3) t : S1408x2048.Idx → Elt F .bf16) y = m ((c : Thread nD τ).loc main_arg0) z := by
  have e : ((cfgA pf hr).win (0 : Fin 3)).index t = ![min (crd pf hr t 1).val (usedOf pf - 1), 0] := transform_0_eq pf hr (crd pf hr t)
  refine congrArg (m ((c : Thread nD τ).loc main_arg0)) (funext fun a => Fin.ext ?_)
  have hv := Pipeline.Window.rect_emb_val ((cfgA pf hr).win (0 : Fin 3)) t y a
  refine hv.trans ?_
  rw [e]
  fin_cases a
  · exact h0.symm
  · exact (Nat.zero_add _).trans h1.symm

theorem iblk_1 (c : Dev nD) (t : Fin (cfgA pf hr).N) (y : S1x2048x1024.Idx) (z : S1x2048x2048.Idx)
    (h0 : (z 0).val = layerOf pf (here (crd pf hr t)) * 1 + (y 0).val) (h1 : (z 1).val = (y 1).val)
    (h2 : (z 2).val = (crd pf hr t 0).val * 1024 + (y 2).val) :
    (iblk pf hr m c (1 : Fin 3) t : S1x2048x1024.Idx → Elt F .f32) y = m ((c : Thread nD τ).loc main_arg1) z := by
  have e : ((cfgA pf hr).win (1 : Fin 3)).index t = ![layerOf pf (here (crd pf hr t)), 0, (crd pf hr t 0).val] := transform_1_eq pf (crd pf hr t)
  refine congrArg (m ((c : Thread nD τ).loc main_arg1)) (funext fun a => Fin.ext ?_)
  have hv := Pipeline.Window.rect_emb_val ((cfgA pf hr).win (1 : Fin 3)) t y a
  refine hv.trans ?_
  rw [e]
  fin_cases a
  · exact h0.symm
  · exact (Nat.zero_add _).trans h1.symm
  · exact h2.symm

/-- A place in the weights for an element of a point's block. -/
def place (t : Fin (cfgA pf hr).N) (y : S1x2048x1024.Idx) : S1x2048x2048.Idx :=
  ix3 (⟨layerOf pf (here (crd pf hr t)), hr.layer _⟩ : Fin 1) (y 1)
    (⟨(crd pf hr t 0).val * 1024 + (y 2).val, by
      have h := col_lt (crd pf hr t)
      have h2 : (y 2).val < 1024 := (y 2).isLt
      omega⟩ : Fin 2048)

theorem place_congr (s t : Fin (cfgA pf hr).N) (y : S1x2048x1024.Idx)
    (he : (tab0 pf (ix1 (here (crd pf hr s))) : BitVec 32) = tab0 pf (ix1 (here (crd pf hr t))))
    (hc : (crd pf hr s 0).val = (crd pf hr t 0).val) : place pf hr s y = place pf hr t y := by
  have hn : layerOf pf (here (crd pf hr s)) = layerOf pf (here (crd pf hr t)) := congrArg (fun w : BitVec 32 => w.toNat) he
  unfold place
  refine funext fun a => Fin.ext ?_
  fin_cases a
  · exact hn
  · rfl
  · show (crd pf hr s 0).val * 1024 + _ = (crd pf hr t 0).val * 1024 + _
    rw [hc]

theorem iblk_1_place (c : Dev nD) (t : Fin (cfgA pf hr).N) (y : S1x2048x1024.Idx) :
    (iblk pf hr m c (1 : Fin 3) t : S1x2048x1024.Idx → Elt F .f32) y = m ((c : Thread nD τ).loc main_arg1) (place pf hr t y) :=
  iblk_1 pf hr m c t y _ (by
    have h : (y 0).val < 1 := (y 0).isLt
    show layerOf pf _ = _
    omega) rfl rfl
/-- A point whose weights are the point before's: that point is in use too, and copies the same block. -/
theorem same_weights (c : Dev nD) (t : Fin (cfgA pf hr).N) (hu : Used pf hr t) (hc : ¬ changed (crd pf hr t) (tab0 pf) = 1#1) :
    ∃ s : Fin (cfgA pf hr).N, t.val = s.val + 1 ∧ Used pf hr s ∧ copyW pf hr m c s = copyW pf hr m c t := by
  obtain ⟨hz, he⟩ := not_or.mp fun h => hc ((changed_iff (crd pf hr t) (tab0 pf)).mpr h)
  rw [not_not] at he
  have hN : (cfgA pf hr).N = 12 := N_0
  have ht := t.isLt
  have hrow := crd_row pf hr t
  have hcol := crd_col pf hr t
  have hz' : t.val % 6 ≠ 0 := by rw [← hrow]; exact hz
  have hs : t.val - 1 < (cfgA pf hr).N := by omega
  have srow := crd_row pf hr ⟨t.val - 1, hs⟩
  have scol := crd_col pf hr ⟨t.val - 1, hs⟩
  have e0 : (crd pf hr ⟨t.val - 1, hs⟩ 0).val = (crd pf hr t 0).val := by
    rw [scol, hcol]; show (t.val - 1) / 6 % 2 = _; omega
  have e1 : (crd pf hr ⟨t.val - 1, hs⟩ 1).val = (crd pf hr t 1).val - 1 := by
    rw [srow, hrow]; show (t.val - 1) % 6 = _; omega
  have eb : here (crd pf hr ⟨t.val - 1, hs⟩) = before (crd pf hr t) := Fin.ext e1
  have ee : (tab0 pf (ix1 (here (crd pf hr ⟨t.val - 1, hs⟩))) : BitVec 32) = tab0 pf (ix1 (here (crd pf hr t))) := by
    rw [eb]; exact he.symm
  refine ⟨⟨t.val - 1, hs⟩, by show t.val = t.val - 1 + 1; omega, ?_, ?_⟩
  · show (crd pf hr ⟨t.val - 1, hs⟩ 1).val < _
    rw [e1]; have : (crd pf hr t 1).val < usedOf pf := hu; omega
  · refine congrArg k0_pay1 (funext fun y => ?_)
    exact (iblk_1_place pf hr m c _ y).trans ((congrArg _ (place_congr pf hr _ t y ee e0)).trans (iblk_1_place pf hr m c t y).symm)

end Cert.Kernel7Ideal.SwaIn

end
-- ==== Proof.SwaIn.Step.lean ====
module

public import proofs.«01_k».proof.Proof.SwaIn.Region

@[expose] public section

set_option maxRecDepth 16384

noncomputable section

namespace Cert.Kernel7Ideal.SwaIn

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-! ## The body at a point -/

theorem idle_out (t : Fin (cfgA pf hr).N) : (cfgA pf hr).idle (2 : Fin 3) ((cfgA pf hr).grid.coords t) = false := idle_2 pf hr _

/-- The body as the pipeline calls it. -/
abbrev bodyAt (t : Fin (cfgA pf hr).N) : Prog (TpuEff nD τ sig (Elt F) Λ₀ .tc) PUnit :=
  body (crd pf hr t) (st0 pf hr t) (sw0 pf hr t) (st1 pf hr t) (sw1 pf hr t) (st2 pf hr t) (sw2 pf hr t)

set_option maxHeartbeats 4000000 in
/-- A point's run, from and to what lies between the points. -/
theorem run_at (c : Dev nD) (t : Fin (cfgA pf hr).N) :
    iprop(Phi pf hr m c t.val
        ∗ owns (c : Thread nD τ) (st0 pf hr t) fullShare (iblk pf hr m c (0 : Fin 3) t)
        ∗ owns (c : Thread nD τ) (st1 pf hr t) fullShare (iblk pf hr m c (1 : Fin 3) t)
        ∗ (∃ d, owns (c : Thread nD τ) (st2 pf hr t) fullShare d))
      ⊢ wp frame (wpE (defs₀ (F := F)) Variants.none c none) Set.univ (bodyAt pf hr t) fun _ =>
          iprop(Phi pf hr m c (t.val + 1)
        ∗ owns (c : Thread nD τ) (st0 pf hr t) fullShare (iblk pf hr m c (0 : Fin 3) t)
        ∗ owns (c : Thread nD τ) (st1 pf hr t) fullShare (iblk pf hr m c (1 : Fin 3) t)
        ∗ owns (c : Thread nD τ) (st2 pf hr t) fullShare (outBlk pf hr m c t)) := by
  have hw : (wordN (tab1 pf) : BitVec 32).toNat ≤ 6 := (congrArg BitVec.toNat (wordN_eq (tab1 pf))).trans_le hr.le
  have hwu : (wordN (tab1 pf) : BitVec 32).toNat = usedOf pf := congrArg BitVec.toNat (wordN_eq (tab1 pf))
  have h1 := cond1_iff (crd pf hr t) (wordN (tab1 pf)) hw
  have h3 := cond3_iff (crd pf hr t) (wordN (tab1 pf)) hw
  rw [hwu] at h1 h3
  unfold Phi
  iintro ⟨⟨⟨%a0, %ha0, HW⟩, HE, HN⟩, H4, H5, H7⟩
  by_cases hu : Used pf hr t
  · have hn : ¬ k0_cond3 (crd pf hr t) (wordN (tab1 pf)) = 1#1 := fun h => h3.mp h hu
    have ho : outBlk pf hr m c t = k0_pay2 (iblk pf hr m c (0 : Fin 3) t) (copyW pf hr m c t) := if_pos hu
    rw [ho]
    by_cases hc : changed (crd pf hr t) (tab0 pf) = 1#1
    · iapply (run_new c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, ⟨%f0, %e0, HW⟩⟩
      isplitl [HW HE HN]
      · isplitl [HW]
        · iexists f0; isplitr; swap
          · iexact HW
          · ipureintro; intro s hs _
            obtain rfl : s = t := Fin.ext (Nat.succ.inj hs.symm)
            exact e0
        isplitl [HE]; · iexact HE
        iexact HN
      isplitl [H4]; · iapply owns_of_rep; iexact H4
      isplitl [H5]; · iapply owns_of_rep; iexact H5
      iexact H7
    · obtain ⟨p, hp, hpu, eW⟩ := same_weights pf hr m c t hu hc
      have k0 := (ha0 p hp hpu).trans eW
      rw [← k0]
      iapply (run_same c (crd pf hr t) (st0 pf hr t) (sw0 pf hr t) (st1 pf hr t) (sw1 pf hr t) (st2 pf hr t) (sw2 pf hr t)
        (tab0 pf) (tab1 pf) (iblk pf hr m c (0 : Fin 3) t) (iblk pf hr m c (1 : Fin 3) t) a0 (h1.mpr hu) hc hn _)
      isplitl [H4 H5 HE HN]
      · isplitl [H4]; · iapply rep_of_owns; iexact H4
        isplitl [H5]; · iapply rep_of_owns; iexact H5
        isplitl [HE]; · iexact HE
        iexact HN
      isplitl [H7]; · iexact H7
      isplitl [HW]; · iexact HW
      iintro ⟨⟨H4, H5, HE, HN⟩, H7, HW⟩
      isplitl [HW HE HN]
      · isplitl [HW]
        · iexists a0; isplitr; swap
          · iexact HW
          · ipureintro; intro s hs _
            obtain rfl : s = t := Fin.ext (Nat.succ.inj hs.symm)
            exact k0
        isplitl [HE]; · iexact HE
        iexact HN
      isplitl [H4]; · iapply owns_of_rep; iexact H4
      isplitl [H5]; · iapply owns_of_rep; iexact H5
      iexact H7
  · have ho : outBlk pf hr m c t = k0_pay3 := if_neg hu
    rw [ho]
    iapply (run_unused c (crd pf hr t) (st0 pf hr t) (sw0 pf hr t) (st1 pf hr t) (sw1 pf hr t) (st2 pf hr t) (sw2 pf hr t)
      (tab0 pf) (tab1 pf) (iblk pf hr m c (0 : Fin 3) t) (iblk pf hr m c (1 : Fin 3) t) a0 (fun h => hu (h1.mp h)) (h3.mpr hu) _)
    isplitl [H4 H5 HE HN]
    · isplitl [H4]; · iapply rep_of_owns; iexact H4
      isplitl [H5]; · iapply rep_of_owns; iexact H5
      isplitl [HE]; · iexact HE
      iexact HN
    isplitl [H7]; · iexact H7
    isplitl [HW]; · iexact HW
    iintro ⟨⟨H4, H5, HE, HN⟩, H7, HW⟩
    isplitl [HW HE HN]
    · isplitl [HW]
      · iexists a0; isplitr; swap
        · iexact HW
        · ipureintro; intro s hs hsu
          obtain rfl : s = t := Fin.ext (Nat.succ.inj hs.symm)
          exact absurd hsu hu
      isplitl [HE]; · iexact HE
      iexact HN
    isplitl [H4]; · iapply owns_of_rep; iexact H4
    isplitl [H5]; · iapply owns_of_rep; iexact H5
    iexact H7

end Cert.Kernel7Ideal.SwaIn

end
-- ==== Proof.SwaIn.Launch.lean ====
module

public import proofs.«01_k».proof.Proof.SwaIn.Step

@[expose] public section

set_option maxRecDepth 16384

noncomputable section

namespace Cert.Kernel7Ideal.SwaIn

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (pf : pre0.Contents (Elt F)) (hr : Ranges pf)

variable (m : (ℓ : Loc nD τ sig) → Buf (Elt F) ℓ) (ρ : Dev nD → PrngReg)

/-- What the library asks of the body, at every point. -/
theorem body_obligation (c : Dev nD) : BodyObligation (dats pf hr m 0 c) (defs₀ (F := F)) Variants.none () Set.univ := fun t => by
  rw [bigSep_W0, bigSep_W0]
  rewrite [idle_out pf hr t]
  simp only [before_0, before_1, after_0, after_1, after_2]
  rewrite [show (dats pf hr m 0 c).Φ t.succ = Phi pf hr m c (t.val + 1) from congrArg (Phi pf hr m c) (Fin.val_succ t),
    show (dats pf hr m 0 c).Φ t.castSucc = Phi pf hr m c t.val from congrArg (Phi pf hr m c) (Fin.val_castSucc t),
    show (dats pf hr m 0 c).owesAt () t.succ = (dats pf hr m 0 c).owesAt () t.castSucc from rfl]
  have h : iprop((dats pf hr m 0 c).owesAt () t.castSucc ∗ _) ⊢ _ := (sep_mono .rfl (run_at pf hr m c t)).trans (wp_frame_l frame (wpE (defs₀ (F := F)) Variants.none c none) Set.univ)
  refine BIBase.Entails.trans ?_ (h.trans (wp_mono frame _ _ fun _ => ?_))
  rotate_left
  · iintro ⟨Ho, HP, H4, H5, H7⟩
    isplitl [HP]; · iexact HP
    isplitl [Ho]; · iexact Ho
    isplitl [H4]; · iexact H4
    isplitl [H5]; · iexact H5
    iexact H7
  · iintro ⟨HP, Ho, ⟨%d0, H4⟩, ⟨%d1, H5⟩, ⟨%d2, H7⟩⟩
    isplitl [Ho]; · iexact Ho
    isplitl [HP]; · iexact HP
    isplitl [H4]; · iexact H4
    isplitl [H5]; · iexact H5
    iexists _; iexact H7

/-! ## The launch -/

/-- The resources of the staging cells, embedded whole. -/
abbrev EP : Emb (UR sig nD τ) 𝕄 := emb₁

/-- The launch element. -/
def u₀ : UR sig nD τ :=
  initOf (Pipeline.cells (pcs pf hr) ((launch0 (F := F)).cellOf_inj fun _ => adm pf hr))
    (Pipeline.launchToks (pcs pf hr) ((launch0 (F := F)).cellOf_inj fun _ => adm pf hr))

theorem share_full (c : Dev nD) (w : Fin (cfgA pf hr).W) : (dats pf hr m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v0) ↦{q 0} v 0) ∗ (((c : Thread nD τ).loc main_v1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm pf hr).1 ∗ Pipeline.scopedRest spec0 c) ⊢ (dats pf hr m 0 c).Φ 0 := by
  rw [tables_held, scopedRest0_eq, show (dats pf hr m 0 c).Φ 0 = Phi pf hr m c 0 from rfl]
  unfold Phi
  iintro ⟨-, ⟨HE, HN⟩, ⟨%a0, HW⟩⟩
  isplitl [HW]
  · iexists a0; isplitr; swap
    · iexact HW
    · ipureintro; intro s hs; exact absurd hs.symm (Nat.succ_ne_zero _)
  isplitl [HE]
  · iexact HE
  iexact HN

theorem phi_last (c : Dev nD) : (dats pf hr m 0 c).Φ (Fin.last (cfgA pf hr).N) ⊢ iprop(BI.emp ∗ Pipeline.scopedRest spec0 c) := by
  rw [scopedRest0_eq, show (dats pf hr m 0 c).Φ (Fin.last (cfgA pf hr).N) = Phi pf hr m c (Fin.last (cfgA pf hr).N).val from rfl]
  unfold Phi
  iintro ⟨⟨%a0, -, HW⟩, -, -⟩
  isplitr; · iempintro
  iexists a0; iexact HW

/-! ## The operations before the region -/

/-- The contents the region finds: the two tables zero and the number of blocks, all else as launched. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

theorem reach : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- A reference the operations do not write is as launched. -/
theorem V_of_ne (c : Dev nD) (b : Ref sig .tc) (h0 : b ≠ main_c) (h1 : b ≠ main_v0) (h2 : b ≠ main_c_0) (h3 : b ≠ main_v1) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

theorem array_found (c : Dev nD) (w : Fin (cfgA pf hr).W) : (dats pf hr m 0 c).A w = V m c (Pipeline.arrRef spec0 w) := by
  match w with
  | ⟨0, _⟩ => exact (V_of_ne m c main_arg0 (by decide) (by decide) (by decide) (by decide)).symm
  | ⟨1, _⟩ => exact (V_of_ne m c main_arg1 (by decide) (by decide) (by decide) (by decide)).symm
  | ⟨2, _⟩ => exact (V_of_ne m c main_v2 (by decide) (by decide) (by decide) (by decide)).symm

/-- The tables are those the region finds, on every core. -/
def Holds : Prop := ∀ (c : Dev nD) (j : Fin 2), V m c (pre0.ref j) = pf j

/-- Where every run ends: each array as computed. -/
def Post : PUnit × MemSt nD τ sig (Elt F) → Prop := fun r =>
  ∀ c : Dev nD, (∀ w : Fin (cfgA pf hr).W, r.2.mem (((cfgA pf hr).win w).arr.view.loc (c : Thread nD τ)) = (dats pf hr m 0 c).arrAt w (cfgA pf hr).N)

set_option backward.isDefEq.respectTransparency.types false in
set_option maxHeartbeats 4000000 in
/-- Every weakly fair execution from such a memory ends, with each array as computed and every counter at zero. -/
theorem run_main (hp : Holds pf m) : θ_run (defs (F := F)) (onTc (τ := τ) (main (F := F))) ⟨m, fun _ => 0, ρ⟩ (fun r => Post pf hr m r ∧ r.2.sem = fun _ => 0) :=
  Pipeline.θ_run_region_noSem_pf_quiescent pcfgs (fun _ => adm pf hr) (dats pf hr m) () ((launch0 (F := F)).cellOf_inj fun _ => adm pf hr) (0 : Fin 1)
    (launch0 (F := F)).win.to₀ (launch0 (F := F)).pre EP defs₀ Variants.none m ρ main
    (hbody := fun c => (body_obligation pf hr m c).loose) (hne := (launch0 (F := F)).block_pos)
    (harr := (launch0 (F := F)).arr_whole) (hstage := (launch0 (F := F)).stage_whole) (howed := fun _ _ => rfl)
    (u₀ := u₀ pf hr) (hu₀ := .rfl)
    (V := V m)
    (hmain := reach m)
    (hsplit := fun c => Pipeline.arrays_split (pcs pf hr) (dats pf hr m) 0 (launch0 (F := F)).win.arr_inj c (launch0 (F := F)).arr_whole
      (share_full pf hr m c) _ _ (array_found pf hr m c))
    (hpf := hp)
    (X := fun _ => iprop(emp)) (Y := fun _ => iprop(emp)) (Z := fun c => Pipeline.unscopedRestP pre0 spec0 c (V m c))
    (hX := fun c => by iintro H; isplitr; · iempintro
                       iexact H)
    (hin := phi_first pf hr m)
    (hout := phi_last pf hr m)
    (QY := fun _ _ => True)
    (hY := fun c s' => by
      iintro ⟨-, -, HSI⟩; imodintro
      isplitr; · ipureintro; trivial
      iexact HSI)
    (hQ := fun _ h hz => ⟨fun c => (h c).1, hz⟩)

include hr in
/-- The arguments end as they were and every counter at zero. -/
theorem run_frame (hp : Holds pf m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans ((dats pf hr m 0 c).arrAt_in (0 : Fin 3) rfl _),
    (h.1 c (1 : Fin 3)).trans ((dats pf hr m 0 c).arrAt_in (1 : Fin 3) rfl _)⟩, h.2⟩) (run_main pf hr m ρ hp)

end Cert.Kernel7Ideal.SwaIn

end
-- ==== Proof.SwaIn.Frames.lean ====
module

public import proofs.«01_k».proof.Proof.SwaIn.Launch
public import proofs.«01_k».proof.Proof.Gen.Kernel7
public import proofs.«01_k».proof.Defs

@[expose] public section

noncomputable section

namespace Cert.Kernel7Ideal.SwaIn

open Cert.Kernel7Ideal Cert.Kernel7Ideal.Gen
open Idealize.ShloMosaic
open Idealize.ShloMosaic.TcCoe
open Idealize.SL.Sem

variable {F : FTy → Type} [FloatOps F]

/-! ## The tables, which are constants -/

/-- The tables the first core's region finds. -/
def tables (m : (ℓ : Loc nD τ sig) → Buf (Elt F) ℓ) : pre0.Contents (Elt F) := fun j => V m (0 : Dev nD) (pre0.ref j)

theorem holds_tables (m : (ℓ : Loc nD τ sig) → Buf (Elt F) ℓ) : Holds (tables m) m := fun c j => by
  have e : c = (0 : Dev nD) := Subsingleton.elim _ _
  subst e; rfl

/-- The weights of every block are the first. -/
theorem table_zero (m : (ℓ : Loc nD τ sig) → Buf (Elt F) ℓ) : (tables m 0 : IVec S6 32) = fun _ => 0#32 := rfl

/-- The count of blocks in use: all of them. -/
theorem table_used (m : (ℓ : Loc nD τ sig) → Buf (Elt F) ℓ) : (tables m 1 : IVec S1 32) = fun _ => 6#32 := rfl

theorem used_at (m : (ℓ : Loc nD τ sig) → Buf (Elt F) ℓ) : (tables m 1 (ix1 (0 : Fin 1)) : BitVec 32).toNat = 6 :=
  congrArg BitVec.toNat (congrFun (table_used m) (ix1 (0 : Fin 1)))

/-- The tables are always in range. -/
theorem ranges_all (m : (ℓ : Loc nD τ sig) → Buf (Elt F) ℓ) : Ranges (tables m) :=
  ⟨fun b => (congrArg BitVec.toNat (congrFun (table_zero m) (ix1 b))).trans_lt (by decide), (used_at m).symm ▸ by decide, (used_at m).le⟩

/-- The idealized program's frame. -/
theorem frame_ideal : Cert.quiescent_Kernel7Ideal := fun m ρ _ => run_frame (tables m) (ranges_all m) m ρ (holds_tables m)

end Cert.Kernel7Ideal.SwaIn

end
-- ==== Proof.SwaIn.FrameBits.lean ====
module

public import proofs.«01_k».proof.Proof.SwaIn.Frames
public import proofs.«01_k».proof.Proof.Gen.Kernel7
public import proofs.«01_k».proof.Defs

@[expose] public section

noncomputable section

namespace Cert.Kernel7Ideal.SwaIn

open Cert.Kernel7Ideal Cert.Kernel7Ideal.Gen
open Idealize.ShloMosaic
open Idealize.ShloMosaic.TcCoe
open Idealize.SL.Sem

set_option maxHeartbeats 400000
/-- The two programs' bodies are one text. -/
theorem body_eq : @Cert.Kernel7.cc0_c_qkv Bits _ _ = @Cert.Kernel7Ideal.cc0_c_qkv Bits _ _ := by
  funext i a2 h2 a3 h3 a4 h4 a5 h5 a6 h6 a7 h7
  unfold Cert.Kernel7.cc0_c_qkv Cert.Kernel7Ideal.cc0_c_qkv
  rfl

/-- And so their body tables. -/
theorem table_eq : Cert.Kernel7.defs₀ (F := Bits) = Cert.Kernel7Ideal.defs₀ (F := Bits) := by
  unfold Cert.Kernel7.defs₀ Cert.Kernel7Ideal.defs₀
  refine congrArg Defs.onTc (funext fun l => funext fun x => ?_)
  match l, x with
  | 0, (t, s) =>
    have e := body_eq
    simp only [funext_iff] at e
    exact e _ _ _ _ _ _ _ _ _ _ _ _ _

theorem defs_eq : Cert.Kernel7.defs (F := Bits) = Cert.Kernel7Ideal.defs (F := Bits) := congrArg (Pipeline.defs Cert.Kernel7Ideal.pcfgs) table_eq

/-- The program's frame, from the same run. -/
theorem frame_kernel : Cert.quiescent_Kernel7 := fun m ρ _ => by
  have hr : Ranges (F := Bits) (tables (F := Bits) m) := ranges_all m
  rw [defs_eq]
  exact run_frame (F := Bits) (tables (F := Bits) m) hr m ρ (holds_tables (F := Bits) m)

end Cert.Kernel7Ideal.SwaIn

end
-- ==== Proof.SwaIn.Value.lean ====
/- What the windowed attention's projection to its inputs computes, and that the pipeline leaves it. -/
module

public import proofs.«01_k».proof.Proof.SwaIn.Launch
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel7Ideal.SwaIn

open Cert.Kernel7Ideal Cert.Kernel7Ideal.Gen
open Idealize.ShloMosaic
open Idealize.ShloMosaic.TcCoe
open Idealize.SL.Sem

/-! ## The mathematics -/

/-- The block of 1408 rows a row lies in. -/
def blockOf (r : Fin 8448) : Fin 6 := ⟨r.val / 1408, by omega⟩

/-- A block's place among the weights, of which there is one. -/
def layerAt (be : IVec S6 32) (b : Fin 6) : Fin 1 := ⟨min (be (ix1 b)).toNat 0, by omega⟩

/-- A row against a column of its layer's weights. -/
def proj (x : FVec Ideal S8448x2048 .bf16) (w : FVec Ideal S1x2048x2048 .f32) (be : IVec S6 32) (r : Fin 8448) (n : Fin 2048) : EReal :=
  ∑ k : Fin 2048, x (ix2 r k) * w (ix3 (layerAt be (blockOf r)) k n)

/-- The product in the blocks in use, zero in the others. -/
def result (x : FVec Ideal S8448x2048 .bf16) (w : FVec Ideal S1x2048x2048 .f32) (be : IVec S6 32) (nu : IVec S1 32) : FVec Ideal S8448x2048 .f32 :=
  fun z => if (blockOf (z 0)).val < (nu (ix1 (0 : Fin 1))).toNat then proj x w be (z 0) (z 1) else (0 : EReal)

/-! ## The body's payloads, read at an index -/

theorem pay1_apply (v : Vec Ideal S1x2048x1024 .f32) (k : Fin 2048) (n : Fin 1024) : k0_pay1 v (ix2 k n) = v (ix3 0 k n) := by
  unfold k0_pay1
  pointwise

theorem pay2_apply (x : Vec Ideal S1408x2048 .bf16) (w : Vec Ideal S2048x1024 .bf16) (r : Fin 1408) (n : Fin 1024) :
    k0_pay2 x w (ix2 r n) = ∑ k : Fin 2048, x (ix2 r k) * w (ix2 k n) := by
  unfold k0_pay2
  pointwise

theorem pay3_apply (r : Fin 1408) (n : Fin 1024) : (k0_pay3 (F := Ideal)) (ix2 r n) = (0 : EReal) := by
  unfold k0_pay3
  pointwise

/-! ## A point's block -/

variable (pf : pre0.Contents (Elt Ideal)) (hr : Ranges pf) (m : (ℓ : Loc nD τ sig) → Buf (Elt Ideal) ℓ)

/-- The rows and weights of a core. -/
abbrev rowsOf (c : Dev nD) : FVec Ideal S8448x2048 .bf16 := m ((c : Thread nD τ).loc main_arg0)
abbrev weightsOf (c : Dev nD) : FVec Ideal S1x2048x2048 .f32 := m ((c : Thread nD τ).loc main_arg1)

theorem out_eq (c : Dev nD) (t : Fin (cfgA pf hr).N) (r : Fin 1408) (n : Fin 1024) (z : S8448x2048.Idx)
    (h0 : (z 0).val = (crd pf hr t 1).val * 1408 + r.val) (h1 : (z 1).val = (crd pf hr t 0).val * 1024 + n.val) :
    outBlk pf hr m c t (ix2 r n) = result (rowsOf m c) (weightsOf m c) (tab0 pf) (tab1 pf) z := by
  have hb : (blockOf (z 0)).val = (crd pf hr t 1).val := by show (z 0).val / 1408 = _; omega
  have hh : blockOf (z 0) = here (crd pf hr t) := Fin.ext hb
  have he : (layerAt (tab0 pf) (blockOf (z 0))).val = layerOf pf (here (crd pf hr t)) := by
    rw [hh]
    exact Nat.min_eq_left (Nat.le_of_lt_succ (hr.layer _))
  unfold outBlk result
  by_cases hu : Used pf hr t
  · rw [if_pos hu, if_pos (by rw [hb]; exact hu), pay2_apply]
    have hx : ∀ k : Fin 2048, (iblk pf hr m c (0 : Fin 3) t : S1408x2048.Idx → EReal) (ix2 r k) = rowsOf m c (ix2 (z 0) k) := fun k =>
      iblk_0 pf hr m c t (ix2 r k) (ix2 (z 0) k) (by
        have : min (crd pf hr t 1).val (usedOf pf - 1) = (crd pf hr t 1).val := Nat.min_eq_left (Nat.le_sub_one_of_lt hu)
        rw [this]; exact h0) rfl
    have hg : ∀ k : Fin 2048, copyW pf hr m c t (ix2 k n) = weightsOf m c (ix3 (layerAt (tab0 pf) (blockOf (z 0))) k (z 1)) := fun k =>
      (pay1_apply _ k n).trans (iblk_1 pf hr m c t (ix3 0 k n) (ix3 _ k (z 1)) (by show (layerAt _ _).val = _ * 1 + 0; rw [he]; omega) rfl h1)
    unfold proj
    exact Finset.sum_congr rfl fun k _ => congrArg₂ (fun a b : EReal => a * b) (hx k) (hg k)
  · rw [if_neg hu, if_neg (by rw [hb]; exact hu), pay3_apply]

/-! ## The array -/

theorem covers_out : ((cfgA pf hr).win (2 : Fin 3)).Covers :=
  Pipeline.Window.covers_of_indexMap_surj _ rfl
    (fun a => by
      match a with
      | ⟨0, _⟩ => show 0 < 1408; norm_num
      | ⟨1, _⟩ => show 0 < 1024; norm_num)
    fun β => by
    have e0 : ((cfgA pf hr).win (2 : Fin 3)).nblk (0 : Fin 2) = 6 := by show (8448 + 1408 - 1) / 1408 = 6; norm_num
    have e1 : ((cfgA pf hr).win (2 : Fin 3)).nblk (1 : Fin 2) = 2 := by show (2048 + 1024 - 1) / 1024 = 2; norm_num
    have b0 : (β (0 : Fin 2)).val < 6 := e0 ▸ (β (0 : Fin 2)).isLt
    have b1 : (β (1 : Fin 2)).val < 2 := (β (1 : Fin 2)).isLt.trans_eq e1
    let i : grid0.Coords := fun a => match a with | ⟨0, _⟩ => ⟨(β (1 : Fin 2)).val, b1⟩ | ⟨1, _⟩ => ⟨(β (0 : Fin 2)).val, b0⟩
    have e : ((cfgA pf hr).win (2 : Fin 3)).indexMap i = ![(i 1).val, (i 0).val] := transform_2_eq i
    refine ⟨i, fun a => (congrFun e a).trans ?_⟩
    match a with
    | ⟨0, _⟩ => rfl
    | ⟨1, _⟩ => rfl

theorem array_eq (c : Dev nD) :
    (dats pf hr m 0 c).arrAt (2 : Fin 3) (cfgA pf hr).N = result (rowsOf m c) (weightsOf m c) (tab0 pf) (tab1 pf) := by
  refine (dats pf hr m 0 c).arrAt_eq_of_covers (2 : Fin 3) _ (covers_out pf hr) fun t hf y => ?_
  have e : ((cfgA pf hr).win (2 : Fin 3)).index t = ![(crd pf hr t 1).val, (crd pf hr t 0).val] := transform_2_eq (crd pf hr t)
  have hv := Pipeline.Window.rect_emb_val ((cfgA pf hr).win (2 : Fin 3)) t y
  rw [e] at hv
  have hy : (y : S1408x1024.Idx) = ix2 (y 0) (y 1) := eq_ix2 _
  rw [after_2]
  refine Eq.trans ?_ (out_eq pf hr m c t (y 0) (y 1) _ (hv 0) (hv 1))
  exact congrArg (outBlk pf hr m c t) hy

end Cert.Kernel7Ideal.SwaIn

end
-- ==== Proof.SwaIn.RefValue.lean ====
/- The reference of the windowed attention's projection, read at an index. -/
module

public import proofs.«01_k».proof.Proof.SwaIn.Value
public import proofs.«01_k».proof.Proof.Gen.Reference7Ideal.Read

@[expose] public section

set_option maxRecDepth 16384

noncomputable section

namespace Cert.Reference7Ideal.Blocks

open Cert.Reference7Ideal Cert.Reference7Ideal.Gen Cert.Reference7Ideal.Read
open Idealize.ShloMosaic
open Cert.Kernel7Ideal.SwaIn (blockOf proj result)

/-- The product, read at a row and a column. -/
theorem product_at (x : FVec Ideal S8448x2048 .bf16) (w : FVec Ideal S1x2048x2048 .f32) (be : IVec Cert.Kernel7Ideal.S6 32) (z : S8448x2048.Idx) :
    val_main_v2 (F := Ideal) x w z = proj x w be (z 0) (z 1) := by
  rw [val_main_v2_apply]
  unfold proj
  refine Finset.sum_congr rfl fun k _ => congrArg₂ (fun a b : EReal => a * b) ?_ ?_
  · rw [val_main_v0_apply]
    refine congrArg x (funext fun a => ?_)
    match a with
    | ⟨0, _⟩ => rfl
    | ⟨1, _⟩ => rfl
  · have hk : k.val < 2048 := k.isLt
    have hn : (z 1).val < 2048 := (z 1).isLt
    rw [val_main_v1_apply]
    refine congrArg w (funext fun a => Fin.ext ?_)
    match a with
    | ⟨0, _⟩ => show 0 = min (be (ix1 (blockOf (z 0)))).toNat 0; omega
    | ⟨1, _⟩ => show (k.val * 2048 + (z 1).val) / 2048 % 2048 = k.val; omega
    | ⟨2, _⟩ => show (k.val * 2048 + (z 1).val) % 2048 = (z 1).val; omega

/-- The reference's result is the product, every block in use. -/
theorem result_eq (x : FVec Ideal S8448x2048 .bf16) (w : FVec Ideal S1x2048x2048 .f32) (be : IVec Cert.Kernel7Ideal.S6 32)
    (nu : IVec Cert.Kernel7Ideal.S1 32) (hn : 6 ≤ (nu (ix1 (0 : Fin 1))).toNat) : val_main_v2 (F := Ideal) x w = result x w be nu := by
  funext z
  rw [product_at x w be z]
  unfold result
  rw [if_pos (Nat.lt_of_lt_of_le (blockOf (z 0)).isLt hn)]

end Cert.Reference7Ideal.Blocks

end
-- ==== Proof.SwaIn.Equal.lean ====
module

public import proofs.«01_k».proof.Proof.SwaIn.Frames
public import proofs.«01_k».proof.Proof.SwaIn.RefValue
public import proofs.«01_k».proof.Proof.Gen.Reference7Ideal.Run
public import Idealize.ShloMosaic.Lib.Quiescent
public import proofs.«01_k».proof.Defs

@[expose] public section

noncomputable section

namespace Cert.Kernel7Ideal.SwaIn

open Cert.Kernel7Ideal Cert.Kernel7Ideal.Gen
open Idealize.ShloMosaic
open Idealize.ShloMosaic.TcCoe
open Idealize.SL.Sem

/-- The product of a memory's arguments. -/
def value (m : (ℓ : Loc nD τ sig) → Buf (Elt Ideal) ℓ) (c : Dev nD) : FVec Ideal S8448x2048 .f32 :=
  result (m ((c.tc : Thread nD τ).loc main_arg0)) (m ((c.tc : Thread nD τ).loc main_arg1)) (tables m 0) (tables m 1)

/-- Every execution of the kernel ends with that value and the arguments as they were. -/
theorem run_value (m : (ℓ : Loc nD τ sig) → Buf (Elt Ideal) ℓ) (ρ : Dev nD → PrngReg) (hr : Ranges (tables m)) :
    θ_run (defs (F := Ideal)) (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (array_eq (tables m) hr m c),
    (h.1 c (0 : Fin 3)).trans ((dats (tables m) hr m 0 c).arrAt_in (0 : Fin 3) rfl _),
    (h.1 c (1 : Fin 3)).trans ((dats (tables m) hr m 0 c).arrAt_in (1 : Fin 3) rfl _)⟩)
    (run_main (tables m) hr m ρ (holds_tables m))

/-- The reference's frame. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The kernel and its reference end with equal results. -/
theorem equal_results : Cert.algebraic_Kernel7Ideal_Reference7Ideal := fun m ρ m' ρ' _ hm => by
  have hr := ranges_all m
  refine ⟨value m, run_value m ρ hr, (θ_run Cert.Reference7Ideal.defs _ _).mono (fun _ h c => ⟨(h c).1.trans ?_, (h c).2⟩)
    (Cert.Reference7Ideal.Value.run m' ρ')⟩
  refine (Cert.Reference7Ideal.Read.val_main_v2_eq _ _).trans ?_
  have e : c = (0 : Dev nD) := Subsingleton.elim _ _
  subst e
  have h0 := hm 0
  rw [h0.1, h0.2]
  exact Cert.Reference7Ideal.Blocks.result_eq _ _ _ _ (used_at m).ge

end Cert.Kernel7Ideal.SwaIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.RefValue
public import proofs.«01_k».proof.Proof.Up.FrameBits
public import proofs.«01_k».proof.Proof.Up.Equal
public import proofs.«01_k».proof.Proof.Down.FrameBits
public import proofs.«01_k».proof.Proof.Down.Equal
public import proofs.«01_k».proof.Proof.FfnUp.FrameBits
public import proofs.«01_k».proof.Proof.FfnUp.Equal
public import proofs.«01_k».proof.Proof.FfnDown.FrameBits
public import proofs.«01_k».proof.Proof.FfnDown.Equal
public import proofs.«01_k».proof.Proof.ConvIn.FrameBits
public import proofs.«01_k».proof.Proof.ConvIn.Equal
public import proofs.«01_k».proof.Proof.SwaIn.FrameBits
public import proofs.«01_k».proof.Proof.SwaIn.Equal
public import proofs.«01_k».proof.Proof.Gen.Kernel2
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_in_range2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_in_range3
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_in_range4
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_in_range5
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Reference7Ideal.Read
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments and has no counter. -/
theorem frame_reference [Cert.ReferenceIdeal.Facts] : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- What the reference leaves is the attention of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v115 m c
      = (Cert.KernelIdeal.Tile.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
        : Vec Ideal Cert.ReferenceIdeal.S8448x1536 .bf16) := by
  rw [Cert.ReferenceIdeal.Read.val_main_v115_eq]
  funext i
  rw [eq_ix2 i]
  exact Cert.ReferenceIdeal.Rows.result_apply _ _ _ _ _

/-- The kernel and the reference leave the same result. -/
theorem equal_results : Cert.algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Tile.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h c).1.trans (Cert.KernelIdeal.Tile.final_array m c), (h c).2⟩)
      (Cert.KernelIdeal.Value.run_blocks m ρ),
    (θ_run Cert.ReferenceIdeal.defs _ _).mono (fun _ h c => ⟨(h c).1.trans ((reference_result m' c).trans
        (by rw [(hm c).1, (hm c).2.1, (hm c).2.2])), (h c).2⟩)
      (Cert.ReferenceIdeal.Value.run m' ρ')⟩

/-- Everything claimed of the attention, of the experts' two products, of the dense layers' two and of two mixers' projections. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_in_range2.Gen.facts, Cert.Pre_in_range3.Gen.facts, Cert.Pre_in_range4.Gen.facts, Cert.Pre_in_range5.Gen.facts,
  fun m ρ _ => Cert.Kernel.Gen.frame m ρ, fun m ρ _ => Cert.KernelIdeal.Gen.frame m ρ, frame_reference,
  Cert.Kernel2Ideal.Up.frame_kernel, Cert.Kernel2Ideal.Up.frame_ideal, Cert.Kernel2Ideal.Up.frame_reference,
  Cert.Kernel3Ideal.Down.frame_kernel, Cert.Kernel3Ideal.Down.frame_ideal, Cert.Kernel3Ideal.Down.frame_reference,
  Cert.Kernel4Ideal.FfnUp.frame_kernel, Cert.Kernel4Ideal.FfnUp.frame_ideal, Cert.Kernel4Ideal.FfnUp.frame_reference,
  Cert.Kernel5Ideal.FfnDown.frame_kernel, Cert.Kernel5Ideal.FfnDown.frame_ideal, Cert.Kernel5Ideal.FfnDown.frame_reference,
  Cert.Kernel6Ideal.ConvIn.frame_kernel, Cert.Kernel6Ideal.ConvIn.frame_ideal, Cert.Kernel6Ideal.ConvIn.frame_reference,
  Cert.Kernel7Ideal.SwaIn.frame_kernel, Cert.Kernel7Ideal.SwaIn.frame_ideal, Cert.Kernel7Ideal.SwaIn.frame_reference,
  ⟨IdealRules.named_const.statement Cert.KernelIdeal.κ "qscale" .f32 0x3E38AA3B#32 _ rfl,
    IdealRules.named_const.statement Cert.KernelIdeal.κ "masked" .f32 0xF149F2CA#32 _ rfl⟩, equal_results,
  trivial, Cert.Kernel2Ideal.Up.equal_results, trivial, Cert.Kernel3Ideal.Down.equal_results,
  trivial, Cert.Kernel4Ideal.FfnUp.equal_results, trivial, Cert.Kernel5Ideal.FfnDown.equal_results,
  trivial, Cert.Kernel6Ideal.ConvIn.equal_results, trivial, Cert.Kernel7Ideal.SwaIn.equal_results⟩

end Cert.Proof

end
